-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v95_0)) (v1 : (c : Dev Cert.KernelIdeal.nD) → Buf (Elt Ideal) ((c.tc : Thread Cert.KernelIdeal.nD Cert.KernelIdeal.τ).loc Cert.KernelIdeal.main_v95_1)) (v2 : (c : Dev Cert.KernelIdeal.nD) → Buf (Elt Ideal) ((c.tc : Thread Cert.KernelIdeal.nD Cert.KernelIdeal.τ).loc Cert.KernelIdeal.main_v95_2)) (v3 : (c : Dev Cert.KernelIdeal.nD) → Buf (Elt Ideal) ((c.tc : Thread Cert.KernelIdeal.nD Cert.KernelIdeal.τ).loc Cert.KernelIdeal.main_v95_3)) (v4 : (c : Dev Cert.KernelIdeal.nD) → Buf (Elt Ideal) ((c.tc : Thread Cert.KernelIdeal.nD Cert.KernelIdeal.τ).loc Cert.KernelIdeal.main_v95_4)) (v5 : (c : Dev Cert.KernelIdeal.nD) → Buf (Elt Ideal) ((c.tc : Thread Cert.KernelIdeal.nD Cert.KernelIdeal.τ).loc Cert.KernelIdeal.main_v95_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95_0) = v0 c
          ∧ r.2.mem ((c.tc : Thread Cert.KernelIdeal.nD Cert.KernelIdeal.τ).loc Cert.KernelIdeal.main_v95_1) = v1 c
          ∧ r.2.mem ((c.tc : Thread Cert.KernelIdeal.nD Cert.KernelIdeal.τ).loc Cert.KernelIdeal.main_v95_2) = v2 c
          ∧ r.2.mem ((c.tc : Thread Cert.KernelIdeal.nD Cert.KernelIdeal.τ).loc Cert.KernelIdeal.main_v95_3) = v3 c
          ∧ r.2.mem ((c.tc : Thread Cert.KernelIdeal.nD Cert.KernelIdeal.τ).loc Cert.KernelIdeal.main_v95_4) = v4 c
          ∧ r.2.mem ((c.tc : Thread Cert.KernelIdeal.nD Cert.KernelIdeal.τ).loc Cert.KernelIdeal.main_v95_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_v144) = v3 c
          ∧ r.2.mem ((c.tc : Thread Cert.ReferenceIdeal.nD Cert.ReferenceIdeal.τ).loc Cert.ReferenceIdeal.main_v145) = v4 c
          ∧ r.2.mem ((c.tc : Thread Cert.ReferenceIdeal.nD Cert.ReferenceIdeal.τ).loc Cert.ReferenceIdeal.main_v147) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_v12) = v1 c
          ∧ r.2.mem ((c.tc : Thread Cert.Reference6Ideal.nD Cert.Reference6Ideal.τ).loc Cert.Reference6Ideal.main_v15) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v11) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)) (v3 : (c : Dev Cert.Kernel10Ideal.nD) → Buf (Elt Ideal) ((c.tc : Thread Cert.Kernel10Ideal.nD Cert.Kernel10Ideal.τ).loc Cert.Kernel10Ideal.main_v4_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_v4_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v10) = v1 c
          ∧ r.2.mem ((c.tc : Thread Cert.Reference10Ideal.nD Cert.Reference10Ideal.τ).loc Cert.Reference10Ideal.main_v16) = v2 c
          ∧ r.2.mem ((c.tc : Thread Cert.Reference10Ideal.nD Cert.Reference10Ideal.τ).loc Cert.Reference10Ideal.main_v19) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S2304x512 : Shape := ⟨2, ![2304, 512]⟩
abbrev S8 : Shape := ⟨1, ![8]⟩
abbrev S2048x512 : Shape := ⟨2, ![2048, 512]⟩
abbrev S_ : Shape := ⟨0, ![]⟩

class Facts : Prop where
  bitsLt_bf16_f32 : FTy.bits .bf16 < FTy.bits .f32
  bcast_S_S2304x512 : S_.BroadcastsInDim S2304x512 (![] : Fin 0 → Fin S2304x512.rank)
  bcast_S_S8 : S_.BroadcastsInDim S8 (![] : Fin 0 → Fin S8.rank)
  bcast_S_S2048x512 : S_.BroadcastsInDim S2048x512 (![] : Fin 0 → Fin S2048x512.rank)

variable [Facts]

def fn {F : FTy → Type} [FloatOps F] (main_arg0 : FVec F S2304x512 .bf16) (main_arg1 : FVec F S2304x512 .bf16) (main_arg2 : FVec F S2304x512 .bf16) (main_arg3 : FVec F S8 .f32) (main_arg4 : FVec F S2048x512 .f32) : IVec S2304x512 1 × IVec S2304x512 1 × IVec S2304x512 1 × IVec S8 1 × IVec S2048x512 1 :=
  let main_v0 : FVec F S2304x512 .f32 := (extf .f32 · bitsLt_bf16_f32) main_arg0
  let main_v1 : FVec F S2304x512 .f32 := Host.absf main_v0
  let main_cst : FVec F S_ .f32 := constant S_ .f32 0x7F800000#32
  let main_v2 : FVec F S2304x512 .f32 := broadcastInDim S2304x512 ![] bcast_S_S2304x512 main_cst
  let main_v3 : IVec S2304x512 1 := cmpf .olt main_v1 main_v2
  let main_v4 : FVec F S2304x512 .f32 := (extf .f32 · bitsLt_bf16_f32) main_arg1
  let main_v5 : FVec F S2304x512 .f32 := Host.absf main_v4
  let main_cst_0 : FVec F S_ .f32 := constant S_ .f32 0x7F800000#32
  let main_v6 : FVec F S2304x512 .f32 := broadcastInDim S2304x512 ![] bcast_S_S2304x512 main_cst_0
  let main_v7 : IVec S2304x512 1 := cmpf .olt main_v5 main_v6
  let main_v8 : FVec F S2304x512 .f32 := (extf .f32 · bitsLt_bf16_f32) main_arg2
  let main_v9 : FVec F S2304x512 .f32 := Host.absf main_v8
  let main_cst_1 : FVec F S_ .f32 := constant S_ .f32 0x7F800000#32
  let main_v10 : FVec F S2304x512 .f32 := broadcastInDim S2304x512 ![] bcast_S_S2304x512 main_cst_1
  let main_v11 : IVec S2304x512 1 := cmpf .olt main_v9 main_v10
  let main_v12 : FVec F S8 .f32 := Host.absf main_arg3
  let main_cst_2 : FVec F S_ .f32 := constant S_ .f32 0x7F800000#32
  let main_v13 : FVec F S8 .f32 := broadcastInDim S8 ![] bcast_S_S8 main_cst_2
  let main_v14 : IVec S8 1 := cmpf .olt main_v12 main_v13
  let main_v15 : FVec F S2048x512 .f32 := Host.absf main_arg4
  let main_cst_3 : FVec F S_ .f32 := constant S_ .f32 0x7F800000#32
  let main_v16 : FVec F S2048x512 .f32 := broadcastInDim S2048x512 ![] bcast_S_S2048x512 main_cst_3
  let main_v17 : IVec S2048x512 1 := cmpf .olt main_v15 main_v16
  (main_v3, main_v7, main_v11, main_v14, main_v17)
-- ==== Pre_finite2.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S2816x1024 : S_.BroadcastsInDim S2816x1024 (![] : Fin 0 → Fin S2816x1024.rank)
  bcast_S_S2048x2816 : S_.BroadcastsInDim S2048x2816 (![] : Fin 0 → Fin S2048x2816.rank)

variable [Facts]

def fn {F : FTy → Type} [FloatOps F] (main_arg0 : FVec F S2048x1024 .bf16) (main_arg1 : FVec F S2816x1024 .bf16) (main_arg2 : FVec F S2048x2816 .bf16) (main_arg3 : FVec F S2048x2816 .bf16) : IVec S2048x1024 1 × IVec S2816x1024 1 × IVec S2048x2816 1 × IVec S2048x2816 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S2048x2816 .f32 := (extf .f32 · bitsLt_bf16_f32) main_arg2
  let main_v9 : FVec F S2048x2816 .f32 := Host.absf main_v8
  let main_cst_1 : FVec F S_ .f32 := constant S_ .f32 0x7F800000#32
  let main_v10 : FVec F S2048x2816 .f32 := broadcastInDim S2048x2816 ![] bcast_S_S2048x2816 main_cst_1
  let main_v11 : IVec S2048x2816 1 := cmpf .olt main_v9 main_v10
  let main_v12 : FVec F S2048x2816 .f32 := (extf .f32 · bitsLt_bf16_f32) main_arg3
  let main_v13 : FVec F S2048x2816 .f32 := Host.absf main_v12
  let main_cst_2 : FVec F S_ .f32 := constant S_ .f32 0x7F800000#32
  let main_v14 : FVec F S2048x2816 .f32 := broadcastInDim S2048x2816 ![] bcast_S_S2048x2816 main_cst_2
  let main_v15 : IVec S2048x2816 1 := cmpf .olt main_v13 main_v14
  (main_v3, main_v7, main_v11, main_v15)
-- ==== Kernel.lean ====
abbrev S2304x512 : Shape := ⟨2, ![2304, 512]⟩
abbrev S8 : Shape := ⟨1, ![8]⟩
abbrev S2048x512 : Shape := ⟨2, ![2048, 512]⟩
abbrev S2304x8x64 : Shape := ⟨3, ![2304, 8, 64]⟩
abbrev S2048x8x64 : Shape := ⟨3, ![2048, 8, 64]⟩
abbrev S_ : Shape := ⟨0, ![]⟩
abbrev S18x128x8x64 : Shape := ⟨4, ![18, 128, 8, 64]⟩
abbrev S16x128x8x64 : Shape := ⟨4, ![16, 128, 8, 64]⟩
abbrev S16x384x8x64 : Shape := ⟨4, ![16, 384, 8, 64]⟩
abbrev S256x8x64 : Shape := ⟨3, ![256, 8, 64]⟩
abbrev S16x8x128x384 : Shape := ⟨4, ![16, 8, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S16 : Shape := ⟨1, ![16]⟩
abbrev S16x1x1 : Shape := ⟨3, ![16, 1, 1]⟩
abbrev S1x1x384 : Shape := ⟨3, ![1, 1, 384]⟩
abbrev S16x1x384 : Shape := ⟨3, ![16, 1, 384]⟩
abbrev S128x384 : Shape := ⟨2, ![128, 384]⟩
abbrev S1x128x384 : Shape := ⟨3, ![1, 128, 384]⟩
abbrev S16x128x384 : Shape := ⟨3, ![16, 128, 384]⟩
abbrev S16x1x128x384 : Shape := ⟨4, ![16, 1, 128, 384]⟩
abbrev S8x256x16x128 : Shape := ⟨4, ![8, 256, 16, 128]⟩
abbrev S16x8x128x256 : Shape := ⟨4, ![16, 8, 128, 256]⟩
abbrev S1x8x1x1 : Shape := ⟨4, ![1, 8, 1, 1]⟩
abbrev S16x8x128x1 : Shape := ⟨4, ![16, 8, 128, 1]⟩
abbrev S16x8x128x641 : Shape := ⟨4, ![16, 8, 128, 641]⟩
abbrev S16x8x128 : Shape := ⟨3, ![16, 8, 128]⟩
abbrev S16x128x8x1 : Shape := ⟨4, ![16, 128, 8, 1]⟩
abbrev S16x8x64x128 : Shape := ⟨4, ![16, 8, 64, 128]⟩
abbrev S8x64x16x128 : Shape := ⟨4, ![8, 64, 16, 128]⟩
abbrev S16x384x512 : Shape := ⟨3, ![16, 384, 512]⟩
abbrev S256x512 : Shape := ⟨2, ![256, 512]⟩
abbrev S8x128 : Shape := ⟨2, ![8, 128]⟩
abbrev S128x512 : Shape := ⟨2, ![128, 512]⟩
abbrev S1x384x512 : Shape := ⟨3, ![1, 384, 512]⟩
abbrev S512x640 : Shape := ⟨2, ![512, 640]⟩
abbrev S128x256 : Shape := ⟨2, ![128, 256]⟩
abbrev S256x256 : Shape := ⟨2, ![256, 256]⟩
abbrev S640x256 : Shape := ⟨2, ![640, 256]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1x128 : Shape := ⟨2, ![1, 128]⟩
abbrev S1x1 : Shape := ⟨2, ![1, 1]⟩
abbrev S1x256 : Shape := ⟨2, ![1, 256]⟩
abbrev S384x256 : Shape := ⟨2, ![384, 256]⟩
abbrev S1x384x256 : Shape := ⟨3, ![1, 384, 256]⟩

abbrev nBuf : Space → Nat
  | .hbm => 125
  | .vmem => 31
  | .smem => 1
  | _ => 0

abbrev bufTy : (tb : Table) → Fin (tcTables nBuf tb) → BufTy
  | .hbm, ⟨0, _⟩ => ⟨S2304x512, .bf16⟩
  | .hbm, ⟨1, _⟩ => ⟨S2304x512, .bf16⟩
  | .hbm, ⟨2, _⟩ => ⟨S2304x512, .bf16⟩
  | .hbm, ⟨3, _⟩ => ⟨S8, .f32⟩
  | .hbm, ⟨4, _⟩ => ⟨S2048x512, .f32⟩
  | .hbm, ⟨5, _⟩ => ⟨S2304x512, .f32⟩
  | .hbm, ⟨6, _⟩ => ⟨S2304x512, .f32⟩
  | .hbm, ⟨7, _⟩ => ⟨S2304x512, .f32⟩
  | .hbm, ⟨8, _⟩ => ⟨S2304x8x64, .f32⟩
  | .hbm, ⟨9, _⟩ => ⟨S2304x8x64, .f32⟩
  | .hbm, ⟨10, _⟩ => ⟨S2048x512, .f32⟩
  | .hbm, ⟨11, _⟩ => ⟨S2048x8x64, .f32⟩
  | .hbm, ⟨12, _⟩ => ⟨S_, .i32⟩
  | .hbm, ⟨13, _⟩ => ⟨S_, .f32⟩
  | .hbm, ⟨14, _⟩ => ⟨S2304x8x64, .f32⟩
  | .hbm, ⟨15, _⟩ => ⟨S18x128x8x64, .f32⟩
  | .hbm, ⟨16, _⟩ => ⟨S16x128x8x64, .f32⟩
  | .hbm, ⟨17, _⟩ => ⟨S16x128x8x64, .f32⟩
  | .hbm, ⟨18, _⟩ => ⟨S16x128x8x64, .f32⟩
  | .hbm, ⟨19, _⟩ => ⟨S16x384x8x64, .f32⟩
  | .hbm, ⟨20, _⟩ => ⟨S2048x8x64, .f32⟩
  | .hbm, ⟨21, _⟩ => ⟨S_, .i32⟩
  | .hbm, ⟨22, _⟩ => ⟨S_, .f32⟩
  | .hbm, ⟨23, _⟩ => ⟨S2304x8x64, .f32⟩
  | .hbm, ⟨24, _⟩ => ⟨S18x128x8x64, .f32⟩
  | .hbm, ⟨25, _⟩ => ⟨S16x128x8x64, .f32⟩
  | .hbm, ⟨26, _⟩ => ⟨S16x128x8x64, .f32⟩
  | .hbm, ⟨27, _⟩ => ⟨S16x128x8x64, .f32⟩
  | .hbm, ⟨28, _⟩ => ⟨S16x384x8x64, .f32⟩
  | .hbm, ⟨29, _⟩ => ⟨S256x8x64, .f32⟩
  | .hbm, ⟨30, _⟩ => ⟨S256x8x64, .f32⟩
  | .hbm, ⟨31, _⟩ => ⟨S16x128x8x64, .f32⟩
  | .hbm, ⟨32, _⟩ => ⟨S16x8x128x384, .f32⟩
  | .hbm, ⟨33, _⟩ => ⟨S128, .i32⟩
  | .hbm, ⟨34, _⟩ => ⟨S128x1, .i32⟩
  | .hbm, ⟨35, _⟩ => ⟨S384, .i32⟩
  | .hbm, ⟨36, _⟩ => ⟨S1x384, .i32⟩
  | .hbm, ⟨37, _⟩ => ⟨S16, .i32⟩
  | .hbm, ⟨38, _⟩ => ⟨S16x1x1, .i32⟩
  | .hbm, ⟨39, _⟩ => ⟨S_, .i32⟩
  | .hbm, ⟨40, _⟩ => ⟨S16x1x1, .i32⟩
  | .hbm, ⟨41, _⟩ => ⟨S16x1x1, .i32⟩
  | .hbm, ⟨42, _⟩ => ⟨S_, .i32⟩
  | .hbm, ⟨43, _⟩ => ⟨S16x1x1, .i32⟩
  | .hbm, ⟨44, _⟩ => ⟨S16x1x1, .i32⟩
  | .hbm, ⟨45, _⟩ => ⟨S1x1x384, .i32⟩
  | .hbm, ⟨46, _⟩ => ⟨S16x1x384, .i32⟩
  | .hbm, ⟨47, _⟩ => ⟨S16x1x384, .i32⟩
  | .hbm, ⟨48, _⟩ => ⟨S16x1x384, .i32⟩
  | .hbm, ⟨49, _⟩ => ⟨S_, .i32⟩
  | .hbm, ⟨50, _⟩ => ⟨S1x384, .i32⟩
  | .hbm, ⟨51, _⟩ => ⟨S1x384, .i32⟩
  | .hbm, ⟨52, _⟩ => ⟨S128x384, .i32⟩
  | .hbm, ⟨53, _⟩ => ⟨S128x384, .i32⟩
  | .hbm, ⟨54, _⟩ => ⟨S128x384, .i32⟩
  | .hbm, ⟨55, _⟩ => ⟨S128x384, .i32⟩
  | .hbm, ⟨56, _⟩ => ⟨S_, .i32⟩
  | .hbm, ⟨57, _⟩ => ⟨S128x384, .i32⟩
  | .hbm, ⟨58, _⟩ => ⟨S128x384, .i1⟩
  | .hbm, ⟨59, _⟩ => ⟨S1x128x384, .i1⟩
  | .hbm, ⟨60, _⟩ => ⟨S_, .i32⟩
  | .hbm, ⟨61, _⟩ => ⟨S16x1x384, .i32⟩
  | .hbm, ⟨62, _⟩ => ⟨S16x1x384, .i1⟩
  | .hbm, ⟨63, _⟩ => ⟨S16x128x384, .i1⟩
  | .hbm, ⟨64, _⟩ => ⟨S16x128x384, .i1⟩
  | .hbm, ⟨65, _⟩ => ⟨S16x128x384, .i1⟩
  | .hbm, ⟨66, _⟩ => ⟨S_, .i32⟩
  | .hbm, ⟨67, _⟩ => ⟨S16x1x384, .i32⟩
  | .hbm, ⟨68, _⟩ => ⟨S16x1x384, .i1⟩
  | .hbm, ⟨69, _⟩ => ⟨S16x128x384, .i1⟩
  | .hbm, ⟨70, _⟩ => ⟨S16x128x384, .i1⟩
  | .hbm, ⟨71, _⟩ => ⟨S16x1x128x384, .i1⟩
  | .hbm, ⟨72, _⟩ => ⟨S_, .f32⟩
  | .hbm, ⟨73, _⟩ => ⟨S_, .f32⟩
  | .hbm, ⟨74, _⟩ => ⟨S16x8x128x384, .i1⟩
  | .hbm, ⟨75, _⟩ => ⟨S16x8x128x384, .f32⟩
  | .hbm, ⟨76, _⟩ => ⟨S16x8x128x384, .f32⟩
  | .hbm, ⟨77, _⟩ => ⟨S8x256x16x128, .f32⟩
  | .hbm, ⟨78, _⟩ => ⟨S16x8x128x256, .f32⟩
  | .hbm, ⟨79, _⟩ => ⟨S1x8x1x1, .f32⟩
  | .hbm, ⟨80, _⟩ => ⟨S16x8x128x1, .f32⟩
  | .hbm, ⟨81, _⟩ => ⟨S16x8x128x641, .f32⟩
  | .hbm, ⟨82, _⟩ => ⟨S_, .f32⟩
  | .hbm, ⟨83, _⟩ => ⟨S16x8x128, .f32⟩
  | .hbm, ⟨84, _⟩ => ⟨S16x8x128x1, .f32⟩
  | .hbm, ⟨85, _⟩ => ⟨S16x8x128x641, .f32⟩
  | .hbm, ⟨86, _⟩ => ⟨S16x8x128x641, .f32⟩
  | .hbm, ⟨87, _⟩ => ⟨S16x8x128x641, .f32⟩
  | .hbm, ⟨88, _⟩ => ⟨S_, .f32⟩
  | .hbm, ⟨89, _⟩ => ⟨S16x8x128, .f32⟩
  | .hbm, ⟨90, _⟩ => ⟨S16x8x128x1, .f32⟩
  | .hbm, ⟨91, _⟩ => ⟨S16x8x128x1, .f32⟩
  | .hbm, ⟨92, _⟩ => ⟨S16x8x128x1, .f32⟩
  | .hbm, ⟨93, _⟩ => ⟨S16x128x8x1, .f32⟩
  | .hbm, ⟨94, _⟩ => ⟨S16x128x8x64, .f32⟩
  | .hbm, ⟨95, _⟩ => ⟨S2048x512, .f32⟩
  | .hbm, ⟨96, _⟩ => ⟨S_, .f32⟩
  | .hbm, ⟨97, _⟩ => ⟨S16x8x128, .f32⟩
  | .hbm, ⟨98, _⟩ => ⟨S_, .f32⟩
  | .hbm, ⟨99, _⟩ => ⟨S16x8x128, .f32⟩
  | .hbm, ⟨100, _⟩ => ⟨S16x8x128, .f32⟩
  | .hbm, ⟨101, _⟩ => ⟨S16x8x128x1, .f32⟩
  | .hbm, ⟨102, _⟩ => ⟨S16x8x128x641, .f32⟩
  | .hbm, ⟨103, _⟩ => ⟨S16x8x128x641, .f32⟩
  | .hbm, ⟨104, _⟩ => ⟨S16x8x128x641, .f32⟩
  | .hbm, ⟨105, _⟩ => ⟨S_, .f32⟩
  | .hbm, ⟨106, _⟩ => ⟨S16x8x128, .f32⟩
  | .hbm, ⟨107, _⟩ => ⟨S16x8x128x1, .f32⟩
  | .hbm, ⟨108, _⟩ => ⟨S16x8x128x641, .f32⟩
  | .hbm, ⟨109, _⟩ => ⟨S16x8x128x641, .f32⟩
  | .hbm, ⟨110, _⟩ => ⟨S16x8x128x384, .f32⟩
  | .hbm, ⟨111, _⟩ => ⟨S16x8x64x128, .f32⟩
  | .hbm, ⟨112, _⟩ => ⟨S16x128x8x64, .f32⟩
  | .hbm, ⟨113, _⟩ => ⟨S16x8x128x256, .f32⟩
  | .hbm, ⟨114, _⟩ => ⟨S8x64x16x128, .f32⟩
  | .hbm, ⟨115, _⟩ => ⟨S16x128x8x64, .f32⟩
  | .hbm, ⟨116, _⟩ => ⟨S16x128x8x64, .f32⟩
  | .hbm, ⟨117, _⟩ => ⟨S2048x512, .f32⟩
  | .hbm, ⟨118, _⟩ => ⟨S2048x512, .bf16⟩
  | .hbm, ⟨119, _⟩ => ⟨S2048x512, .f32⟩
  | .hbm, ⟨120, _⟩ => ⟨S16x384x512, .f32⟩
  | .hbm, ⟨121, _⟩ => ⟨S16x384x512, .f32⟩
  | .hbm, ⟨122, _⟩ => ⟨S256x512, .f32⟩
  | .hbm, ⟨123, _⟩ => ⟨S256x512, .f32⟩
  | .hbm, ⟨124, _⟩ => ⟨S8x128, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S256x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S256x512, .bf16⟩
  | .local _ .vmem, ⟨16, _⟩ => ⟨S128x512, .bf16⟩
  | .local _ .vmem, ⟨17, _⟩ => ⟨S128x512, .bf16⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S1x384x512, .f32⟩
  | .local _ .vmem, ⟨25, _⟩ => ⟨S1x384x512, .f32⟩
  | .local _ .vmem, ⟨26, _⟩ => ⟨S1x384x512, .f32⟩
  | .local _ .vmem, ⟨27, _⟩ => ⟨S1x384x512, .f32⟩
  | .local _ .vmem, ⟨28, _⟩ => ⟨S256x512, .f32⟩
  | .local _ .vmem, ⟨29, _⟩ => ⟨S256x512, .f32⟩
  | .local _ .vmem, ⟨30, _⟩ => ⟨S8x128, .f32⟩
  | .local _ .smem, ⟨0, _⟩ => ⟨S8, .f32⟩
  | _, _ => ⟨S2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_1 : Ref sig .tc := ⟨.hbm, 39, rfl⟩
abbrev main_v30 : Ref sig .tc := ⟨.hbm, 40, rfl⟩
abbrev main_v31 : Ref sig .tc := ⟨.hbm, 41, rfl⟩
abbrev main_c_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_7 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_8 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_9 : Ref sig .tc := ⟨.hbm, 96, rfl⟩
abbrev main_v75 : Ref sig .tc := ⟨.hbm, 97, rfl⟩
abbrev main_cst_10 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_11 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95_0 : Ref sig .tc := ⟨.hbm, 119, rfl⟩
abbrev main_v95_1 : Ref sig .tc := ⟨.hbm, 120, rfl⟩
abbrev main_v95_2 : Ref sig .tc := ⟨.hbm, 121, rfl⟩
abbrev main_v95_3 : Ref sig .tc := ⟨.hbm, 122, rfl⟩
abbrev main_v95_4 : Ref sig .tc := ⟨.hbm, 123, rfl⟩
abbrev main_v95_5 : Ref sig .tc := ⟨.hbm, 124, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c2_i32 : BitVec 32 := 2#32
  let v3 : BitVec 32 := Scalar.addi v2 c2_i32
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c_m1_i32 : BitVec 32 := 4294967295#32
  let v0 : BitVec 32 := Scalar.addi arg0 c_m1_i32
  let c0_i32 : BitVec 32 := 0#32
  let c15_i32 : BitVec 32 := 15#32
  let v1 : BitVec 32 := Scalar.maxsi c0_i32 v0
  let v2 : BitVec 32 := Scalar.minsi c15_i32 v1
  let c2_i32 : BitVec 32 := 2#32
  let v3 : BitVec 32 := Scalar.addi v2 c2_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c2_i32 : BitVec 32 := 2#32
  let v3 : BitVec 32 := Scalar.addi v2 c2_i32
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c15_i32 : BitVec 32 := 15#32
  let v1 : BitVec 32 := Scalar.maxsi c0_i32 v0
  let v2 : BitVec 32 := Scalar.minsi c15_i32 v1
  let c2_i32 : BitVec 32 := 2#32
  let v3 : BitVec 32 := Scalar.addi v2 c2_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c_m1_i32 : BitVec 32 := 4294967295#32
  let v0 : BitVec 32 := Scalar.addi arg0 c_m1_i32
  let c0_i32 : BitVec 32 := 0#32
  let c15_i32 : BitVec 32 := 15#32
  let v1 : BitVec 32 := Scalar.maxsi c0_i32 v0
  let v2 : BitVec 32 := Scalar.minsi c15_i32 v1
  let c2_i32 : BitVec 32 := 2#32
  let v3 : BitVec 32 := Scalar.addi v2 c2_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c2_i32 : BitVec 32 := 2#32
  let v3 : BitVec 32 := Scalar.addi v2 c2_i32
  let c0_i32_1 : BitVec 32 := 0#32
  let c0_i32_2 : BitVec 32 := 0#32
  ![v3.toNat, c0_i32_1.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c15_i32 : BitVec 32 := 15#32
  let v1 : BitVec 32 := Scalar.maxsi c0_i32 v0
  let v2 : BitVec 32 := Scalar.minsi c15_i32 v1
  let c2_i32 : BitVec 32 := 2#32
  let v3 : BitVec 32 := Scalar.addi v2 c2_i32
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x384x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x384x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S256x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2304x512 : Shape := ⟨2, ![2304, 512]⟩
abbrev S8 : Shape := ⟨1, ![8]⟩
abbrev S2048x512 : Shape := ⟨2, ![2048, 512]⟩
abbrev S2304x8x64 : Shape := ⟨3, ![2304, 8, 64]⟩
abbrev S2048x8x64 : Shape := ⟨3, ![2048, 8, 64]⟩
abbrev S_ : Shape := ⟨0, ![]⟩
abbrev S18x128x8x64 : Shape := ⟨4, ![18, 128, 8, 64]⟩
abbrev S16x128x8x64 : Shape := ⟨4, ![16, 128, 8, 64]⟩
abbrev S16x384x8x64 : Shape := ⟨4, ![16, 384, 8, 64]⟩
abbrev S256x8x64 : Shape := ⟨3, ![256, 8, 64]⟩
abbrev S16x8x128x384 : Shape := ⟨4, ![16, 8, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S16 : Shape := ⟨1, ![16]⟩
abbrev S16x1x1 : Shape := ⟨3, ![16, 1, 1]⟩
abbrev S1x1x384 : Shape := ⟨3, ![1, 1, 384]⟩
abbrev S16x1x384 : Shape := ⟨3, ![16, 1, 384]⟩
abbrev S128x384 : Shape := ⟨2, ![128, 384]⟩
abbrev S1x128x384 : Shape := ⟨3, ![1, 128, 384]⟩
abbrev S16x128x384 : Shape := ⟨3, ![16, 128, 384]⟩
abbrev S16x1x128x384 : Shape := ⟨4, ![16, 1, 128, 384]⟩
abbrev S8x256x16x128 : Shape := ⟨4, ![8, 256, 16, 128]⟩
abbrev S16x8x128x256 : Shape := ⟨4, ![16, 8, 128, 256]⟩
abbrev S1x8x1x1 : Shape := ⟨4, ![1, 8, 1, 1]⟩
abbrev S16x8x128x1 : Shape := ⟨4, ![16, 8, 128, 1]⟩
abbrev S16x8x128x641 : Shape := ⟨4, ![16, 8, 128, 641]⟩
abbrev S16x8x128 : Shape := ⟨3, ![16, 8, 128]⟩
abbrev S16x8x64x128 : Shape := ⟨4, ![16, 8, 64, 128]⟩
abbrev S8x64x16x128 : Shape := ⟨4, ![8, 64, 16, 128]⟩
abbrev S8x16x128x256 : Shape := ⟨4, ![8, 16, 128, 256]⟩
abbrev S8x64x256 : Shape := ⟨3, ![8, 64, 256]⟩
abbrev S16x8x64x384 : Shape := ⟨4, ![16, 8, 64, 384]⟩
abbrev S8x16x128x64 : Shape := ⟨4, ![8, 16, 128, 64]⟩
abbrev S8x256x64 : Shape := ⟨3, ![8, 256, 64]⟩
abbrev S16x8x384x64 : Shape := ⟨4, ![16, 8, 384, 64]⟩
abbrev S16x8x128x64 : Shape := ⟨4, ![16, 8, 128, 64]⟩
abbrev S16x384x512 : Shape := ⟨3, ![16, 384, 512]⟩
abbrev S256x512 : Shape := ⟨2, ![256, 512]⟩
abbrev S8x1 : Shape := ⟨2, ![8, 1]⟩
abbrev S8x128 : Shape := ⟨2, ![8, 128]⟩

abbrev nBuf : Space → Nat
  | .hbm => 186
  | .vmem => 0
  | .smem => 0
  | _ => 0

abbrev hbmTy0_0 (i : Nat) : BufTy := match i % 128 with
  | 0 => ⟨S2304x512, .bf16⟩
  | 1 => ⟨S2304x512, .bf16⟩
  | 2 => ⟨S2304x512, .bf16⟩
  | 3 => ⟨S8, .f32⟩
  | 4 => ⟨S2048x512, .f32⟩
  | 5 => ⟨S2304x512, .f32⟩
  | 6 => ⟨S2304x512, .f32⟩
  | 7 => ⟨S2304x512, .f32⟩
  | 8 => ⟨S2304x8x64, .f32⟩
  | 9 => ⟨S2304x8x64, .f32⟩
  | 10 => ⟨S2048x512, .f32⟩
  | 11 => ⟨S2048x8x64, .f32⟩
  | 12 => ⟨S_, .i32⟩
  | 13 => ⟨S_, .f32⟩
  | 14 => ⟨S2304x8x64, .f32⟩
  | 15 => ⟨S18x128x8x64, .f32⟩
  | 16 => ⟨S16x128x8x64, .f32⟩
  | 17 => ⟨S16x128x8x64, .f32⟩
  | 18 => ⟨S16x128x8x64, .f32⟩
  | 19 => ⟨S16x384x8x64, .f32⟩
  | 20 => ⟨S2048x8x64, .f32⟩
  | 21 => ⟨S_, .i32⟩
  | 22 => ⟨S_, .f32⟩
  | 23 => ⟨S2304x8x64, .f32⟩
  | 24 => ⟨S18x128x8x64, .f32⟩
  | 25 => ⟨S16x128x8x64, .f32⟩
  | 26 => ⟨S16x128x8x64, .f32⟩
  | 27 => ⟨S16x128x8x64, .f32⟩
  | 28 => ⟨S16x384x8x64, .f32⟩
  | 29 => ⟨S256x8x64, .f32⟩
  | 30 => ⟨S256x8x64, .f32⟩
  | 31 => ⟨S16x128x8x64, .f32⟩
  | 32 => ⟨S16x8x128x384, .f32⟩
  | 33 => ⟨S128, .i32⟩
  | 34 => ⟨S128x1, .i32⟩
  | 35 => ⟨S384, .i32⟩
  | 36 => ⟨S1x384, .i32⟩
  | 37 => ⟨S16, .i32⟩
  | 38 => ⟨S16x1x1, .i32⟩
  | 39 => ⟨S_, .i32⟩
  | 40 => ⟨S16x1x1, .i32⟩
  | 41 => ⟨S16x1x1, .i32⟩
  | 42 => ⟨S_, .i32⟩
  | 43 => ⟨S16x1x1, .i32⟩
  | 44 => ⟨S16x1x1, .i32⟩
  | 45 => ⟨S1x1x384, .i32⟩
  | 46 => ⟨S16x1x384, .i32⟩
  | 47 => ⟨S16x1x384, .i32⟩
  | 48 => ⟨S16x1x384, .i32⟩
  | 49 => ⟨S_, .i32⟩
  | 50 => ⟨S1x384, .i32⟩
  | 51 => ⟨S1x384, .i32⟩
  | 52 => ⟨S128x384, .i32⟩
  | 53 => ⟨S128x384, .i32⟩
  | 54 => ⟨S128x384, .i32⟩
  | 55 => ⟨S128x384, .i32⟩
  | 56 => ⟨S_, .i32⟩
  | 57 => ⟨S128x384, .i32⟩
  | 58 => ⟨S128x384, .i1⟩
  | 59 => ⟨S1x128x384, .i1⟩
  | 60 => ⟨S_, .i32⟩
  | 61 => ⟨S16x1x384, .i32⟩
  | 62 => ⟨S16x1x384, .i1⟩
  | 63 => ⟨S16x128x384, .i1⟩
  | 64 => ⟨S16x128x384, .i1⟩
  | 65 => ⟨S16x128x384, .i1⟩
  | 66 => ⟨S_, .i32⟩
  | 67 => ⟨S16x1x384, .i32⟩
  | 68 => ⟨S16x1x384, .i1⟩
  | 69 => ⟨S16x128x384, .i1⟩
  | 70 => ⟨S16x128x384, .i1⟩
  | 71 => ⟨S16x1x128x384, .i1⟩
  | 72 => ⟨S_, .f32⟩
  | 73 => ⟨S_, .f32⟩
  | 74 => ⟨S16x8x128x384, .i1⟩
  | 75 => ⟨S16x8x128x384, .f32⟩
  | 76 => ⟨S16x8x128x384, .f32⟩
  | 77 => ⟨S_, .f32⟩
  | 78 => ⟨S16x8x128x384, .f32⟩
  | 79 => ⟨S8x256x16x128, .f32⟩
  | 80 => ⟨S16x8x128x256, .f32⟩
  | 81 => ⟨S1x8x1x1, .f32⟩
  | 82 => ⟨S16x8x128x1, .f32⟩
  | 83 => ⟨S16x8x128x641, .f32⟩
  | 84 => ⟨S_, .f32⟩
  | 85 => ⟨S16x8x128, .f32⟩
  | 86 => ⟨S16x8x128x1, .f32⟩
  | 87 => ⟨S16x8x128x641, .f32⟩
  | 88 => ⟨S16x8x128x641, .i1⟩
  | 89 => ⟨S16x8x128x641, .f32⟩
  | 90 => ⟨S_, .f32⟩
  | 91 => ⟨S16x8x128, .f32⟩
  | 92 => ⟨S_, .f32⟩
  | 93 => ⟨S16x8x128, .f32⟩
  | 94 => ⟨S16x8x128, .f32⟩
  | 95 => ⟨S_, .f32⟩
  | 96 => ⟨S16x8x128, .f32⟩
  | 97 => ⟨S16x8x128, .i1⟩
  | 98 => ⟨S_, .f32⟩
  | 99 => ⟨S16x8x128, .f32⟩
  | 100 => ⟨S16x8x128, .i1⟩
  | 101 => ⟨S_, .f32⟩
  | 102 => ⟨S16x8x128, .f32⟩
  | 103 => ⟨S_, .f32⟩
  | 104 => ⟨S16x8x128, .f32⟩
  | 105 => ⟨S_, .f32⟩
  | 106 => ⟨S16x8x128, .f32⟩
  | 107 => ⟨S16x8x128, .f32⟩
  | 108 => ⟨S16x8x128, .f32⟩
  | 109 => ⟨S16x8x128x1, .f32⟩
  | 110 => ⟨S16x8x128x641, .f32⟩
  | 111 => ⟨S16x8x128x641, .f32⟩
  | 112 => ⟨S16x8x128x641, .f32⟩
  | 113 => ⟨S_, .f32⟩
  | 114 => ⟨S16x8x128, .f32⟩
  | 115 => ⟨S16x8x128x1, .f32⟩
  | 116 => ⟨S16x8x128x641, .f32⟩
  | 117 => ⟨S16x8x128x641, .f32⟩
  | 118 => ⟨S16x8x128x1, .f32⟩
  | 119 => ⟨S_, .f32⟩
  | 120 => ⟨S16x8x128x1, .f32⟩
  | 121 => ⟨S16x8x128x1, .f32⟩
  | 122 => ⟨S16x8x128x384, .f32⟩
  | 123 => ⟨S16x8x64x128, .f32⟩
  | 124 => ⟨S16x128x8x64, .f32⟩
  | 125 => ⟨S16x8x128x256, .f32⟩
  | 126 => ⟨S8x64x16x128, .f32⟩
  | 127 => ⟨S16x128x8x64, .f32⟩
  | _ => ⟨S2304x512, .bf16⟩

abbrev hbmTy0_1 (i : Nat) : BufTy := match i % 128 with
  | 0 => ⟨S16x128x8x64, .f32⟩
  | 1 => ⟨S2048x512, .f32⟩
  | 2 => ⟨S16x128x8x64, .f32⟩
  | 3 => ⟨S8x64x16x128, .f32⟩
  | 4 => ⟨S8x16x128x256, .f32⟩
  | 5 => ⟨S16x8x128x256, .f32⟩
  | 6 => ⟨S8x64x256, .f32⟩
  | 7 => ⟨S256x8x64, .f32⟩
  | 8 => ⟨S_, .f32⟩
  | 9 => ⟨S16x8x128x641, .f32⟩
  | 10 => ⟨S16x8x64x128, .f32⟩
  | 11 => ⟨S16x8x128x384, .f32⟩
  | 12 => ⟨S16x8x64x384, .f32⟩
  | 13 => ⟨S16x384x8x64, .f32⟩
  | 14 => ⟨S_, .f32⟩
  | 15 => ⟨S16x8x128x641, .f32⟩
  | 16 => ⟨S16x8x128x641, .f32⟩
  | 17 => ⟨S16x8x128x641, .f32⟩
  | 18 => ⟨S16x8x128x641, .f32⟩
  | 19 => ⟨S16x8x128x641, .f32⟩
  | 20 => ⟨S_, .f32⟩
  | 21 => ⟨S16x8x128, .f32⟩
  | 22 => ⟨S16x8x128x1, .f32⟩
  | 23 => ⟨S16x8x128x1, .f32⟩
  | 24 => ⟨S16x8x128x641, .f32⟩
  | 25 => ⟨S16x8x128x641, .f32⟩
  | 26 => ⟨S_, .f32⟩
  | 27 => ⟨S16x8x128, .f32⟩
  | 28 => ⟨S16x8x128x641, .f32⟩
  | 29 => ⟨S16x8x128x641, .f32⟩
  | 30 => ⟨S16x8x128x641, .f32⟩
  | 31 => ⟨S16x8x128x384, .f32⟩
  | 32 => ⟨S16x8x128x256, .f32⟩
  | 33 => ⟨S16x8x128x1, .f32⟩
  | 34 => ⟨S_, .f32⟩
  | 35 => ⟨S8, .f32⟩
  | 36 => ⟨S1x8x1x1, .f32⟩
  | 37 => ⟨S8, .f32⟩
  | 38 => ⟨S8x256x16x128, .f32⟩
  | 39 => ⟨S8x16x128x64, .f32⟩
  | 40 => ⟨S16x128x8x64, .f32⟩
  | 41 => ⟨S8x256x64, .f32⟩
  | 42 => ⟨S256x8x64, .f32⟩
  | 43 => ⟨S_, .f32⟩
  | 44 => ⟨S16x8x128x384, .f32⟩
  | 45 => ⟨S16x8x128x384, .f32⟩
  | 46 => ⟨S16x8x384x64, .f32⟩
  | 47 => ⟨S16x384x8x64, .f32⟩
  | 48 => ⟨S16x8x128x64, .f32⟩
  | 49 => ⟨S16x128x8x64, .f32⟩
  | 50 => ⟨S16x128x8x64, .f32⟩
  | 51 => ⟨S2048x512, .f32⟩
  | 52 => ⟨S16x384x512, .f32⟩
  | 53 => ⟨S16x384x512, .f32⟩
  | 54 => ⟨S256x512, .f32⟩
  | 55 => ⟨S256x512, .f32⟩
  | 56 => ⟨S8x1, .f32⟩
  | 57 => ⟨S8x128, .f32⟩
  | _ => ⟨S2304x512, .bf16⟩

abbrev hbmTy (i : Nat) : BufTy := match i / 128 with
  | 0 => hbmTy0_0 i
  | 1 => hbmTy0_1 i
  | _ => ⟨S2304x512, .bf16⟩

abbrev bufTy : (tb : Table) → Fin (tcTables nBuf tb) → BufTy
  | .hbm, ⟨i, _⟩ => hbmTy i
  | _, _ => ⟨S2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_1 : Ref sig .tc := ⟨.hbm, 39, rfl⟩
abbrev main_v30 : Ref sig .tc := ⟨.hbm, 40, rfl⟩
abbrev main_v31 : Ref sig .tc := ⟨.hbm, 41, rfl⟩
abbrev main_c_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst : Ref sig .tc := ⟨.hbm, 72, rfl⟩
abbrev main_call2_v0 : Ref sig .tc := ⟨.hbm, 73, rfl⟩
abbrev main_v57_1 : Ref sig .tc := ⟨.hbm, 74, rfl⟩
abbrev main_call2_v2 : Ref sig .tc := ⟨.hbm, 75, rfl⟩
abbrev main_v57_0 : Ref sig .tc := ⟨.hbm, 76, rfl⟩
abbrev main_call2_cst : Ref sig .tc := ⟨.hbm, 77, rfl⟩
abbrev main_v57_2 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_7 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_8 : Ref sig .tc := ⟨.hbm, 90, rfl⟩
abbrev main_v68 : Ref sig .tc := ⟨.hbm, 91, rfl⟩
abbrev main_cst_9 : Ref sig .tc := ⟨.hbm, 92, rfl⟩
abbrev main_v69 : Ref sig .tc := ⟨.hbm, 93, rfl⟩
abbrev main_v70 : Ref sig .tc := ⟨.hbm, 94, rfl⟩
abbrev main_cst_10 : Ref sig .tc := ⟨.hbm, 95, rfl⟩
abbrev main_v71 : Ref sig .tc := ⟨.hbm, 96, rfl⟩
abbrev main_v72 : Ref sig .tc := ⟨.hbm, 97, rfl⟩
abbrev main_cst_11 : Ref sig .tc := ⟨.hbm, 98, rfl⟩
abbrev main_v73 : Ref sig .tc := ⟨.hbm, 99, rfl⟩
abbrev main_v74 : Ref sig .tc := ⟨.hbm, 100, rfl⟩
abbrev main_cst_12 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_cst_14 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_15 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_16 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_17 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_18 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_19 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_20 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_21 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_call3_cst : Ref sig .tc := ⟨.hbm, 171, rfl⟩
abbrev main_call3_v0 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩

abbrev nD : Nat := 1
abbrev τ : Topo := Topo.v7x

variable {F : FTy → Type} [FloatOps F]
-- ==== Kernel2.lean ====
abbrev S2048x1024 : Shape := ⟨2, ![2048, 1024]⟩
abbrev S2816x1024 : Shape := ⟨2, ![2816, 1024]⟩
abbrev S2048x2816 : Shape := ⟨2, ![2048, 2816]⟩
abbrev S4x704x1024 : Shape := ⟨3, ![4, 704, 1024]⟩
abbrev S2048x4x704 : Shape := ⟨3, ![2048, 4, 704]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 11
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .bf16⟩
  | .hbm, ⟨3, _⟩ => ⟨S2048x2816, .bf16⟩
  | .hbm, ⟨4, _⟩ => ⟨S4x704x1024, .bf16⟩
  | .hbm, ⟨5, _⟩ => ⟨S2048x4x704, .bf16⟩
  | .hbm, ⟨6, _⟩ => ⟨S4x2048x704, .bf16⟩
  | .hbm, ⟨7, _⟩ => ⟨S2048x4x704, .bf16⟩
  | .hbm, ⟨8, _⟩ => ⟨S4x2048x704, .bf16⟩
  | .hbm, ⟨9, _⟩ => ⟨S4x2048x704, .bf16⟩
  | .hbm, ⟨10, _⟩ => ⟨S4x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩
abbrev S1024x2816 : Shape := ⟨2, ![1024, 2816]⟩
abbrev S2048x4x704 : Shape := ⟨3, ![2048, 4, 704]⟩
abbrev S4x2048x704 : Shape := ⟨3, ![4, 2048, 704]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .bf16⟩
  | .hbm, ⟨3, _⟩ => ⟨S2048x2816, .bf16⟩
  | .hbm, ⟨4, _⟩ => ⟨S2048x2816, .f32⟩
  | .hbm, ⟨5, _⟩ => ⟨S2048x2816, .f32⟩
  | .hbm, ⟨6, _⟩ => ⟨S2816x1024, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S2048x1024, .f32⟩
  | .hbm, ⟨23, _⟩ => ⟨S1024x2816, .f32⟩
  | .hbm, ⟨24, _⟩ => ⟨S2816x1024, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x4x704, .f32⟩
  | .hbm, ⟨33, _⟩ => ⟨S4x2048x704, .f32⟩
  | .hbm, ⟨34, _⟩ => ⟨S4x2048x704, .bf16⟩
  | .hbm, ⟨35, _⟩ => ⟨S2048x4x704, .f32⟩
  | .hbm, ⟨36, _⟩ => ⟨S4x2048x704, .f32⟩
  | .hbm, ⟨37, _⟩ => ⟨S4x2048x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== Kernel3.lean ====
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x2048x704 : Shape := ⟨3, ![1, 2048, 704]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 5
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x4x704, .bf16⟩
  | .hbm, ⟨3, _⟩ => ⟨S4x2048x704, .bf16⟩
  | .hbm, ⟨4, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S704x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_9 : BitVec 32 := 0#32
  let v12 : BitVec 1 := Scalar.cmpi .eq arg1 c0_i32_9
  let v13 : BitVec 32 := Scalar.extui v12
  let c0_i32_10 : BitVec 32 := 0#32
  let v14 : BitVec 1 := Scalar.cmpi .ne v13 c0_i32_10
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x2816, .f32⟩
  | .hbm, ⟨3, _⟩ => ⟨S2048x1024, .f32⟩
  | .hbm, ⟨4, _⟩ => ⟨S_, .f32⟩
  | .hbm, ⟨5, _⟩ => ⟨S2816x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S4x704x1024, .f32⟩
  | .hbm, ⟨10, _⟩ => ⟨S4x704x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S2048x2816 : Shape := ⟨2, ![2048, 2816]⟩
abbrev S1024x2816 : Shape := ⟨2, ![1024, 2816]⟩
abbrev S2048x4x704 : Shape := ⟨3, ![2048, 4, 704]⟩
abbrev S4x2048x704 : Shape := ⟨3, ![4, 2048, 704]⟩
abbrev S2816x1024 : Shape := ⟨2, ![2816, 1024]⟩
abbrev S4x704x1024 : Shape := ⟨3, ![4, 704, 1024]⟩
abbrev S2048x1024 : Shape := ⟨2, ![2048, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 13
  | .vmem => 11
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S1024x2816, .bf16⟩
  | .hbm, ⟨3, _⟩ => ⟨S1024x2816, .bf16⟩
  | .hbm, ⟨4, _⟩ => ⟨S2048x4x704, .bf16⟩
  | .hbm, ⟨5, _⟩ => ⟨S4x2048x704, .bf16⟩
  | .hbm, ⟨6, _⟩ => ⟨S2048x4x704, .bf16⟩
  | .hbm, ⟨7, _⟩ => ⟨S4x2048x704, .bf16⟩
  | .hbm, ⟨8, _⟩ => ⟨S2816x1024, .bf16⟩
  | .hbm, ⟨9, _⟩ => ⟨S4x704x1024, .bf16⟩
  | .hbm, ⟨10, _⟩ => ⟨S2816x1024, .bf16⟩
  | .hbm, ⟨11, _⟩ => ⟨S4x704x1024, .bf16⟩
  | .hbm, ⟨12, _⟩ => ⟨S2048x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_17 : BitVec 32 := 0#32
  let v21 : BitVec 1 := Scalar.cmpi .ne v20 c0_i32_17
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S2048x2816 : Shape := ⟨2, ![2048, 2816]⟩
abbrev S1024x2816 : Shape := ⟨2, ![1024, 2816]⟩
abbrev S_ : Shape := ⟨0, ![]⟩
abbrev S2048x1024 : Shape := ⟨2, ![2048, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S1024x2816, .bf16⟩
  | .hbm, ⟨3, _⟩ => ⟨S1024x2816, .bf16⟩
  | .hbm, ⟨4, _⟩ => ⟨S2048x2816, .f32⟩
  | .hbm, ⟨5, _⟩ => ⟨S2048x2816, .f32⟩
  | .hbm, ⟨6, _⟩ => ⟨S1024x2816, .f32⟩
  | .hbm, ⟨7, _⟩ => ⟨S1024x2816, .f32⟩
  | .hbm, ⟨8, _⟩ => ⟨S_, .f32⟩
  | .hbm, ⟨9, _⟩ => ⟨S2048x1024, .f32⟩
  | .hbm, ⟨10, _⟩ => ⟨S2048x2816, .f32⟩
  | .hbm, ⟨11, _⟩ => ⟨S2048x2816, .f32⟩
  | .hbm, ⟨12, _⟩ => ⟨S2048x1024, .f32⟩
  | .hbm, ⟨13, _⟩ => ⟨S2048x1024, .f32⟩
  | .hbm, ⟨14, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel5.lean ====
abbrev S2048x1024 : Shape := ⟨2, ![2048, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 9
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S2048x2816, .bf16⟩
  | .hbm, ⟨3, _⟩ => ⟨S2048x4x704, .bf16⟩
  | .hbm, ⟨4, _⟩ => ⟨S4x2048x704, .bf16⟩
  | .hbm, ⟨5, _⟩ => ⟨S2048x4x704, .bf16⟩
  | .hbm, ⟨6, _⟩ => ⟨S4x2048x704, .bf16⟩
  | .hbm, ⟨7, _⟩ => ⟨S4x704x1024, .bf16⟩
  | .hbm, ⟨8, _⟩ => ⟨S4x704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S704x1024, .f32⟩
  | .local _ .vmem, ⟨11, _⟩ => ⟨S704x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v20 : BitVec 1 := Scalar.cmpi .eq arg1 c1_i32
  let v21 : BitVec 32 := Scalar.extui v20
  let c0_i32_17 : BitVec 32 := 0#32
  let v22 : BitVec 1 := Scalar.cmpi .ne v21 c0_i32_17
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S2048x1024 : Shape := ⟨2, ![2048, 1024]⟩
abbrev S2048x2816 : Shape := ⟨2, ![2048, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S2048x2816, .bf16⟩
  | .hbm, ⟨3, _⟩ => ⟨S2048x1024, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S1024x2816, .f32⟩
  | .hbm, ⟨8, _⟩ => ⟨S2048x2816, .f32⟩
  | .hbm, ⟨9, _⟩ => ⟨S2048x2816, .f32⟩
  | .hbm, ⟨10, _⟩ => ⟨S2816x1024, .f32⟩
  | .hbm, ⟨11, _⟩ => ⟨S1024x2816, .f32⟩
  | .hbm, ⟨12, _⟩ => ⟨S2816x1024, .f32⟩
  | .hbm, ⟨13, _⟩ => ⟨S1024x2816, .f32⟩
  | .hbm, ⟨14, _⟩ => ⟨S2816x1024, .f32⟩
  | .hbm, ⟨15, _⟩ => ⟨S4x704x1024, .f32⟩
  | .hbm, ⟨16, _⟩ => ⟨S4x704x1024, .bf16⟩
  | .hbm, ⟨17, _⟩ => ⟨S2816x1024, .f32⟩
  | .hbm, ⟨18, _⟩ => ⟨S4x704x1024, .f32⟩
  | .hbm, ⟨19, _⟩ => ⟨S4x704x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel6.lean ====
abbrev S2048x1024 : Shape := ⟨2, ![2048, 1024]⟩
abbrev S1024x2816 : Shape := ⟨2, ![1024, 2816]⟩
abbrev S2816x1024 : Shape := ⟨2, ![2816, 1024]⟩
abbrev S4x704x1024 : Shape := ⟨3, ![4, 704, 1024]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 10
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S4x704x1024, .bf16⟩
  | .hbm, ⟨5, _⟩ => ⟨S2816x1024, .bf16⟩
  | .hbm, ⟨6, _⟩ => ⟨S4x704x1024, .bf16⟩
  | .hbm, ⟨7, _⟩ => ⟨S4x2048x704, .bf16⟩
  | .hbm, ⟨8, _⟩ => ⟨S4x2048x704, .bf16⟩
  | .hbm, ⟨9, _⟩ => ⟨S4x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2048x1024 : Shape := ⟨2, ![2048, 1024]⟩
abbrev S1024x2816 : Shape := ⟨2, ![1024, 2816]⟩
abbrev S2048x2816 : Shape := ⟨2, ![2048, 2816]⟩
abbrev S_ : Shape := ⟨0, ![]⟩
abbrev S2048x4x704 : Shape := ⟨3, ![2048, 4, 704]⟩
abbrev S4x2048x704 : Shape := ⟨3, ![4, 2048, 704]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2816, .bf16⟩
  | .hbm, ⟨2, _⟩ => ⟨S1024x2816, .bf16⟩
  | .hbm, ⟨3, _⟩ => ⟨S2048x1024, .f32⟩
  | .hbm, ⟨4, _⟩ => ⟨S1024x2816, .f32⟩
  | .hbm, ⟨5, _⟩ => ⟨S1024x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x4x704, .f32⟩
  | .hbm, ⟨19, _⟩ => ⟨S4x2048x704, .f32⟩
  | .hbm, ⟨20, _⟩ => ⟨S4x2048x704, .bf16⟩
  | .hbm, ⟨21, _⟩ => ⟨S2048x4x704, .f32⟩
  | .hbm, ⟨22, _⟩ => ⟨S4x2048x704, .f32⟩
  | .hbm, ⟨23, _⟩ => ⟨S4x2048x704, .bf16⟩
  | .hbm, ⟨24, _⟩ => ⟨S2048x4x704, .f32⟩
  | .hbm, ⟨25, _⟩ => ⟨S4x2048x704, .f32⟩
  | .hbm, ⟨26, _⟩ => ⟨S4x2048x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== Kernel7.lean ====
abbrev S2304x5376 : Shape := ⟨2, ![2304, 5376]⟩
abbrev S2304x1024 : Shape := ⟨2, ![2304, 1024]⟩
abbrev S5376x1024 : Shape := ⟨2, ![5376, 1024]⟩
abbrev S2304x256 : Shape := ⟨2, ![2304, 256]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x5376, .bf16⟩
  | .hbm, ⟨1, _⟩ => ⟨S2304x1024, .bf16⟩
  | .hbm, ⟨2, _⟩ => ⟨S5376x1024, .bf16⟩
  | .local _ .vmem, ⟨0, _⟩ => ⟨S2304x256, .bf16⟩
  | .local _ .vmem, ⟨1, _⟩ => ⟨S2304x256, .bf16⟩
  | .local _ .vmem, ⟨2, _⟩ => ⟨S2304x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | _, _ => ⟨S2304x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![21, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c6_i32 : BitVec 32 := 6#32
  let v1 : BitVec 1 := Scalar.cmpi .slt arg0 c6_i32
  let c8_i32 : BitVec 32 := 8#32
  let v2 : BitVec 1 := Scalar.cmpi .slt arg0 c8_i32
  let c16_i32 : BitVec 32 := 16#32
  let v3 : BitVec 1 := Scalar.cmpi .slt arg0 c16_i32
  let c20_i32 : BitVec 32 := 20#32
  let v4 : BitVec 1 := Scalar.cmpi .slt arg0 c20_i32
  let c_m7_i32 : BitVec 32 := 4294967289#32
  let c_m14_i32 : BitVec 32 := 4294967282#32
  let v5 : BitVec 32 := Scalar.select v4 c_m7_i32 c_m14_i32
  let c5_i32 : BitVec 32 := 5#32
  let v6 : BitVec 32 := Scalar.select v3 c5_i32 v5
  let c_m6_i32 : BitVec 32 := 4294967290#32
  let v7 : BitVec 32 := Scalar.select v2 c_m6_i32 v6
  let c3_i32 : BitVec 32 := 3#32
  let v8 : BitVec 32 := Scalar.select v1 c3_i32 v7
  let c2_i32 : BitVec 32 := 2#32
  let v9 : BitVec 32 := Scalar.select v0 c2_i32 v8
  let v10 : BitVec 32 := Scalar.addi arg0 v9
  let c0_i32 : BitVec 32 := 0#32
  let c0_i32_0 : BitVec 32 := 0#32
  ![v10.toNat, c0_i32.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S2304x5376 : Shape := ⟨2, ![2304, 5376]⟩
abbrev S2304x1024 : Shape := ⟨2, ![2304, 1024]⟩
abbrev S_ : Shape := ⟨0, ![]⟩
abbrev S1024x5376 : Shape := ⟨2, ![1024, 5376]⟩
abbrev S2304x512 : Shape := ⟨2, ![2304, 512]⟩
abbrev S2304x2048 : Shape := ⟨2, ![2304, 2048]⟩
abbrev S2304x256 : Shape := ⟨2, ![2304, 256]⟩
abbrev S5376x1024 : Shape := ⟨2, ![5376, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2304x5376, .bf16⟩
  | .hbm, ⟨1, _⟩ => ⟨S2304x1024, .bf16⟩
  | .hbm, ⟨2, _⟩ => ⟨S2304x5376, .f32⟩
  | .hbm, ⟨3, _⟩ => ⟨S2304x1024, .f32⟩
  | .hbm, ⟨4, _⟩ => ⟨S_, .f32⟩
  | .hbm, ⟨5, _⟩ => ⟨S1024x5376, .f32⟩
  | .hbm, ⟨6, _⟩ => ⟨S2304x5376, .f32⟩
  | .hbm, ⟨7, _⟩ => ⟨S2304x512, .f32⟩
  | .hbm, ⟨8, _⟩ => ⟨S2304x512, .f32⟩
  | .hbm, ⟨9, _⟩ => ⟨S2304x512, .f32⟩
  | .hbm, ⟨10, _⟩ => ⟨S2304x512, .f32⟩
  | .hbm, ⟨11, _⟩ => ⟨S2304x2048, .f32⟩
  | .hbm, ⟨12, _⟩ => ⟨S2304x512, .f32⟩
  | .hbm, ⟨13, _⟩ => ⟨S2304x512, .f32⟩
  | .hbm, ⟨14, _⟩ => ⟨S2304x256, .f32⟩
  | .hbm, ⟨15, _⟩ => ⟨S2304x5376, .f32⟩
  | .hbm, ⟨16, _⟩ => ⟨S5376x1024, .f32⟩
  | .hbm, ⟨17, _⟩ => ⟨S1024x5376, .f32⟩
  | .hbm, ⟨18, _⟩ => ⟨S5376x1024, .f32⟩
  | .hbm, ⟨19, _⟩ => ⟨S5376x1024, .bf16⟩
  | _, _ => ⟨S2304x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Kernel8.lean ====
abbrev S2304x5376 : Shape := ⟨2, ![2304, 5376]⟩
abbrev S1024x5376 : Shape := ⟨2, ![1024, 5376]⟩
abbrev S5376x1024 : Shape := ⟨2, ![5376, 1024]⟩
abbrev S2304x1024 : Shape := ⟨2, ![2304, 1024]⟩
abbrev S2304x768 : Shape := ⟨2, ![2304, 768]⟩
abbrev S256x1024 : Shape := ⟨2, ![256, 1024]⟩
abbrev S2304x256 : Shape := ⟨2, ![2304, 256]⟩

abbrev nBuf : Space → Nat
  | .hbm => 4
  | .vmem => 10
  | .smem => 0
  | _ => 0

abbrev bufTy : (tb : Table) → Fin (tcTables nBuf tb) → BufTy
  | .hbm, ⟨0, _⟩ => ⟨S2304x5376, .bf16⟩
  | .hbm, ⟨1, _⟩ => ⟨S1024x5376, .bf16⟩
  | .hbm, ⟨2, _⟩ => ⟨S5376x1024, .bf16⟩
  | .hbm, ⟨3, _⟩ => ⟨S2304x1024, .f32⟩
  | .local _ .vmem, ⟨0, _⟩ => ⟨S2304x768, .bf16⟩
  | .local _ .vmem, ⟨1, _⟩ => ⟨S2304x768, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S2304x1024, .f32⟩
  | .local _ .vmem, ⟨9, _⟩ => ⟨S2304x1024, .f32⟩
  | _, _ => ⟨S2304x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![1, 7], ![false, false]⟩

def k0_cond2 (i : grid0.Coords) : BitVec 1 :=
  let arg1 : BitVec 32 := BitVec.ofNat 32 (i 1).val
  let c6_i32 : BitVec 32 := 6#32
  let v22 : BitVec 1 := Scalar.cmpi .eq arg1 c6_i32
  let v23 : BitVec 32 := Scalar.extui v22
  let c0_i32_16 : BitVec 32 := 0#32
  let v24 : BitVec 1 := Scalar.cmpi .ne v23 c0_i32_16
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi v0 c0_i32
  let c4_i32 : BitVec 32 := 4#32
  let v2 : BitVec 1 := Scalar.cmpi .slt v1 c4_i32
  let c6_i32 : BitVec 32 := 6#32
  let v3 : BitVec 1 := Scalar.cmpi .slt v1 c6_i32
  let c8_i32 : BitVec 32 := 8#32
  let v4 : BitVec 1 := Scalar.cmpi .slt v1 c8_i32
  let c16_i32 : BitVec 32 := 16#32
  let v5 : BitVec 1 := Scalar.cmpi .slt v1 c16_i32
  let c20_i32 : BitVec 32 := 20#32
  let v6 : BitVec 1 := Scalar.cmpi .slt v1 c20_i32
  let c_m7_i32 : BitVec 32 := 4294967289#32
  let c_m14_i32 : BitVec 32 := 4294967282#32
  let v7 : BitVec 32 := Scalar.select v6 c_m7_i32 c_m14_i32
  let c5_i32 : BitVec 32 := 5#32
  let v8 : BitVec 32 := Scalar.select v5 c5_i32 v7
  let c_m6_i32 : BitVec 32 := 4294967290#32
  let v9 : BitVec 32 := Scalar.select v4 c_m6_i32 v8
  let c3_i32_0 : BitVec 32 := 3#32
  let v10 : BitVec 32 := Scalar.select v3 c3_i32_0 v9
  let c2_i32 : BitVec 32 := 2#32
  let v11 : BitVec 32 := Scalar.select v2 c2_i32 v10
  let v12 : BitVec 32 := Scalar.addi v1 v11
  let c0_i32_1 : BitVec 32 := 0#32
  let c0_i32_2 : BitVec 32 := 0#32
  ![v12.toNat, c0_i32_1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c1_i32 : BitVec 32 := 1#32
  let v1 : BitVec 32 := Scalar.addi v0 c1_i32
  let c4_i32 : BitVec 32 := 4#32
  let v2 : BitVec 1 := Scalar.cmpi .slt v1 c4_i32
  let c6_i32 : BitVec 32 := 6#32
  let v3 : BitVec 1 := Scalar.cmpi .slt v1 c6_i32
  let c8_i32 : BitVec 32 := 8#32
  let v4 : BitVec 1 := Scalar.cmpi .slt v1 c8_i32
  let c16_i32 : BitVec 32 := 16#32
  let v5 : BitVec 1 := Scalar.cmpi .slt v1 c16_i32
  let c20_i32 : BitVec 32 := 20#32
  let v6 : BitVec 1 := Scalar.cmpi .slt v1 c20_i32
  let c_m7_i32 : BitVec 32 := 4294967289#32
  let c_m14_i32 : BitVec 32 := 4294967282#32
  let v7 : BitVec 32 := Scalar.select v6 c_m7_i32 c_m14_i32
  let c5_i32 : BitVec 32 := 5#32
  let v8 : BitVec 32 := Scalar.select v5 c5_i32 v7
  let c_m6_i32 : BitVec 32 := 4294967290#32
  let v9 : BitVec 32 := Scalar.select v4 c_m6_i32 v8
  let c3_i32_0 : BitVec 32 := 3#32
  let v10 : BitVec 32 := Scalar.select v3 c3_i32_0 v9
  let c2_i32 : BitVec 32 := 2#32
  let v11 : BitVec 32 := Scalar.select v2 c2_i32 v10
  let v12 : BitVec 32 := Scalar.addi v1 v11
  let c0_i32 : BitVec 32 := 0#32
  let c0_i32_1 : BitVec 32 := 0#32
  ![v12.toNat, c0_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c2_i32 : BitVec 32 := 2#32
  let v1 : BitVec 32 := Scalar.addi v0 c2_i32
  let c4_i32 : BitVec 32 := 4#32
  let v2 : BitVec 1 := Scalar.cmpi .slt v1 c4_i32
  let c6_i32 : BitVec 32 := 6#32
  let v3 : BitVec 1 := Scalar.cmpi .slt v1 c6_i32
  let c8_i32 : BitVec 32 := 8#32
  let v4 : BitVec 1 := Scalar.cmpi .slt v1 c8_i32
  let c16_i32 : BitVec 32 := 16#32
  let v5 : BitVec 1 := Scalar.cmpi .slt v1 c16_i32
  let c20_i32 : BitVec 32 := 20#32
  let v6 : BitVec 1 := Scalar.cmpi .slt v1 c20_i32
  let c_m7_i32 : BitVec 32 := 4294967289#32
  let c_m14_i32 : BitVec 32 := 4294967282#32
  let v7 : BitVec 32 := Scalar.select v6 c_m7_i32 c_m14_i32
  let c5_i32 : BitVec 32 := 5#32
  let v8 : BitVec 32 := Scalar.select v5 c5_i32 v7
  let c_m6_i32 : BitVec 32 := 4294967290#32
  let v9 : BitVec 32 := Scalar.select v4 c_m6_i32 v8
  let c3_i32_0 : BitVec 32 := 3#32
  let v10 : BitVec 32 := Scalar.select v3 c3_i32_0 v9
  let c2_i32_1 : BitVec 32 := 2#32
  let v11 : BitVec 32 := Scalar.select v2 c2_i32_1 v10
  let v12 : BitVec 32 := Scalar.addi v1 v11
  let c0_i32 : BitVec 32 := 0#32
  let c0_i32_2 : BitVec 32 := 0#32
  ![v12.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2304x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2304x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference8Ideal.lean ====
abbrev S2304x5376 : Shape := ⟨2, ![2304, 5376]⟩
abbrev S1024x5376 : Shape := ⟨2, ![1024, 5376]⟩
abbrev S_ : Shape := ⟨0, ![]⟩
abbrev S2304x1024 : Shape := ⟨2, ![2304, 1024]⟩
abbrev S2304x512 : Shape := ⟨2, ![2304, 512]⟩
abbrev S2304x2048 : Shape := ⟨2, ![2304, 2048]⟩
abbrev S2304x256 : Shape := ⟨2, ![2304, 256]⟩

abbrev nBuf : Space → Nat
  | .hbm => 17
  | .vmem => 0
  | .smem => 0
  | _ => 0

abbrev bufTy : (tb : Table) → Fin (tcTables nBuf tb) → BufTy
  | .hbm, ⟨0, _⟩ => ⟨S2304x5376, .bf16⟩
  | .hbm, ⟨1, _⟩ => ⟨S1024x5376, .bf16⟩
  | .hbm, ⟨2, _⟩ => ⟨S2304x5376, .f32⟩
  | .hbm, ⟨3, _⟩ => ⟨S1024x5376, .f32⟩
  | .hbm, ⟨4, _⟩ => ⟨S_, .f32⟩
  | .hbm, ⟨5, _⟩ => ⟨S2304x1024, .f32⟩
  | .hbm, ⟨6, _⟩ => ⟨S2304x5376, .f32⟩
  | .hbm, ⟨7, _⟩ => ⟨S2304x512, .f32⟩
  | .hbm, ⟨8, _⟩ => ⟨S2304x512, .f32⟩
  | .hbm, ⟨9, _⟩ => ⟨S2304x512, .f32⟩
  | .hbm, ⟨10, _⟩ => ⟨S2304x512, .f32⟩
  | .hbm, ⟨11, _⟩ => ⟨S2304x2048, .f32⟩
  | .hbm, ⟨12, _⟩ => ⟨S2304x512, .f32⟩
  | .hbm, ⟨13, _⟩ => ⟨S2304x512, .f32⟩
  | .hbm, ⟨14, _⟩ => ⟨S2304x256, .f32⟩
  | .hbm, ⟨15, _⟩ => ⟨S2304x5376, .f32⟩
  | .hbm, ⟨16, _⟩ => ⟨S2304x1024, .f32⟩
  | _, _ => ⟨S2304x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel9.lean ====
abbrev S2304x1024 : Shape := ⟨2, ![2304, 1024]⟩
abbrev S1024x5376 : Shape := ⟨2, ![1024, 5376]⟩
abbrev S5376x1024 : Shape := ⟨2, ![5376, 1024]⟩
abbrev S2304x5376 : Shape := ⟨2, ![2304, 5376]⟩
abbrev S256x1024 : Shape := ⟨2, ![256, 1024]⟩
abbrev S2304x256 : Shape := ⟨2, ![2304, 256]⟩

abbrev nBuf : Space → Nat
  | .hbm => 4
  | .vmem => 5
  | .smem => 0
  | _ => 0

abbrev bufTy : (tb : Table) → Fin (tcTables nBuf tb) → BufTy
  | .hbm, ⟨0, _⟩ => ⟨S2304x1024, .bf16⟩
  | .hbm, ⟨1, _⟩ => ⟨S1024x5376, .bf16⟩
  | .hbm, ⟨2, _⟩ => ⟨S5376x1024, .bf16⟩
  | .hbm, ⟨3, _⟩ => ⟨S2304x5376, .f32⟩
  | .local _ .vmem, ⟨0, _⟩ => ⟨S2304x1024, .bf16⟩
  | .local _ .vmem, ⟨1, _⟩ => ⟨S256x1024, .bf16⟩
  | .local _ .vmem, ⟨2, _⟩ => ⟨S256x1024, .bf16⟩
  | .local _ .vmem, ⟨3, _⟩ => ⟨S2304x256, .f32⟩
  | .local _ .vmem, ⟨4, _⟩ => ⟨S2304x256, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 21], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c6_i32 : BitVec 32 := 6#32
  let v1 : BitVec 1 := Scalar.cmpi .slt arg1 c6_i32
  let c8_i32 : BitVec 32 := 8#32
  let v2 : BitVec 1 := Scalar.cmpi .slt arg1 c8_i32
  let c16_i32 : BitVec 32 := 16#32
  let v3 : BitVec 1 := Scalar.cmpi .slt arg1 c16_i32
  let c20_i32 : BitVec 32 := 20#32
  let v4 : BitVec 1 := Scalar.cmpi .slt arg1 c20_i32
  let c_m7_i32 : BitVec 32 := 4294967289#32
  let c_m14_i32 : BitVec 32 := 4294967282#32
  let v5 : BitVec 32 := Scalar.select v4 c_m7_i32 c_m14_i32
  let c5_i32 : BitVec 32 := 5#32
  let v6 : BitVec 32 := Scalar.select v3 c5_i32 v5
  let c_m6_i32 : BitVec 32 := 4294967290#32
  let v7 : BitVec 32 := Scalar.select v2 c_m6_i32 v6
  let c3_i32 : BitVec 32 := 3#32
  let v8 : BitVec 32 := Scalar.select v1 c3_i32 v7
  let c2_i32 : BitVec 32 := 2#32
  let v9 : BitVec 32 := Scalar.select v0 c2_i32 v8
  let v10 : BitVec 32 := Scalar.addi arg1 v9
  let c0_i32 : BitVec 32 := 0#32
  let c0_i32_0 : BitVec 32 := 0#32
  ![v10.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2304x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2304x1024 : Shape := ⟨2, ![2304, 1024]⟩
abbrev S1024x5376 : Shape := ⟨2, ![1024, 5376]⟩
abbrev S2304x5376 : Shape := ⟨2, ![2304, 5376]⟩
abbrev S2304x512 : Shape := ⟨2, ![2304, 512]⟩
abbrev S2304x256 : Shape := ⟨2, ![2304, 256]⟩
abbrev S2304x2048 : Shape := ⟨2, ![2304, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1024x5376, .bf16⟩
  | .hbm, ⟨2, _⟩ => ⟨S2304x1024, .f32⟩
  | .hbm, ⟨3, _⟩ => ⟨S1024x5376, .f32⟩
  | .hbm, ⟨4, _⟩ => ⟨S2304x5376, .f32⟩
  | .hbm, ⟨5, _⟩ => ⟨S2304x512, .f32⟩
  | .hbm, ⟨6, _⟩ => ⟨S2304x512, .f32⟩
  | .hbm, ⟨7, _⟩ => ⟨S2304x512, .f32⟩
  | .hbm, ⟨8, _⟩ => ⟨S2304x256, .f32⟩
  | .hbm, ⟨9, _⟩ => ⟨S2304x512, .f32⟩
  | .hbm, ⟨10, _⟩ => ⟨S2304x512, .f32⟩
  | .hbm, ⟨11, _⟩ => ⟨S2304x512, .f32⟩
  | .hbm, ⟨12, _⟩ => ⟨S2304x2048, .f32⟩
  | .hbm, ⟨13, _⟩ => ⟨S2304x5376, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel10.lean ====
abbrev S2048x1024 : Shape := ⟨2, ![2048, 1024]⟩
abbrev S512x1024 : Shape := ⟨2, ![512, 1024]⟩
abbrev S2048x512 : Shape := ⟨2, ![2048, 512]⟩
abbrev S512x4x256 : Shape := ⟨3, ![512, 4, 256]⟩
abbrev S4x512x256 : Shape := ⟨3, ![4, 512, 256]⟩
abbrev S1024x1024 : Shape := ⟨2, ![1024, 1024]⟩
abbrev S1024x512 : Shape := ⟨2, ![1024, 512]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 14
  | .vmem => 18
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S512x1024, .bf16⟩
  | .hbm, ⟨3, _⟩ => ⟨S512x1024, .bf16⟩
  | .hbm, ⟨4, _⟩ => ⟨S2048x512, .bf16⟩
  | .hbm, ⟨5, _⟩ => ⟨S2048x512, .bf16⟩
  | .hbm, ⟨6, _⟩ => ⟨S512x4x256, .bf16⟩
  | .hbm, ⟨7, _⟩ => ⟨S4x512x256, .bf16⟩
  | .hbm, ⟨8, _⟩ => ⟨S512x4x256, .bf16⟩
  | .hbm, ⟨9, _⟩ => ⟨S4x512x256, .bf16⟩
  | .hbm, ⟨10, _⟩ => ⟨S2048x512, .f32⟩
  | .hbm, ⟨11, _⟩ => ⟨S2048x512, .f32⟩
  | .hbm, ⟨12, _⟩ => ⟨S4x512x256, .bf16⟩
  | .hbm, ⟨13, _⟩ => ⟨S4x512x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x512x256, .bf16⟩
  | .local _ .vmem, ⟨5, _⟩ => ⟨S4x512x256, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S4x512x256, .bf16⟩
  | .local _ .vmem, ⟨15, _⟩ => ⟨S4x512x256, .bf16⟩
  | .local _ .vmem, ⟨16, _⟩ => ⟨S4x512x256, .f32⟩
  | .local _ .vmem, ⟨17, _⟩ => ⟨S4x512x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v109 : BitVec 1 := Scalar.cmpi .eq arg0 c1_i32
  let v110 : BitVec 32 := Scalar.extui v109
  let c0_i32_107 : BitVec 32 := 0#32
  let v111 : BitVec 1 := Scalar.cmpi .ne v110 c0_i32_107
  v111

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference10Ideal.lean ====
abbrev S2048x1024 : Shape := ⟨2, ![2048, 1024]⟩
abbrev S512x1024 : Shape := ⟨2, ![512, 1024]⟩
abbrev S2048x512 : Shape := ⟨2, ![2048, 512]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S512x1024, .bf16⟩
  | .hbm, ⟨3, _⟩ => ⟨S512x1024, .bf16⟩
  | .hbm, ⟨4, _⟩ => ⟨S2048x512, .bf16⟩
  | .hbm, ⟨5, _⟩ => ⟨S2048x512, .bf16⟩
  | .hbm, ⟨6, _⟩ => ⟨S2048x1024, .f32⟩
  | .hbm, ⟨7, _⟩ => ⟨S2048x1024, .f32⟩
  | .hbm, ⟨8, _⟩ => ⟨S512x1024, .f32⟩
  | .hbm, ⟨9, _⟩ => ⟨S512x1024, .f32⟩
  | .hbm, ⟨10, _⟩ => ⟨S2048x512, .f32⟩
  | .hbm, ⟨11, _⟩ => ⟨S2048x512, .f32⟩
  | .hbm, ⟨12, _⟩ => ⟨S2048x1024, .f32⟩
  | .hbm, ⟨13, _⟩ => ⟨S2048x1024, .f32⟩
  | .hbm, ⟨14, _⟩ => ⟨S1024x512, .f32⟩
  | .hbm, ⟨15, _⟩ => ⟨S512x1024, .f32⟩
  | .hbm, ⟨16, _⟩ => ⟨S2048x512, .f32⟩
  | .hbm, ⟨17, _⟩ => ⟨S1024x512, .f32⟩
  | .hbm, ⟨18, _⟩ => ⟨S512x1024, .f32⟩
  | .hbm, ⟨19, _⟩ => ⟨S2048x512, .f32⟩
  | .hbm, ⟨20, _⟩ => ⟨S512x4x256, .f32⟩
  | .hbm, ⟨21, _⟩ => ⟨S4x512x256, .f32⟩
  | .hbm, ⟨22, _⟩ => ⟨S4x512x256, .bf16⟩
  | .hbm, ⟨23, _⟩ => ⟨S512x4x256, .f32⟩
  | .hbm, ⟨24, _⟩ => ⟨S4x512x256, .f32⟩
  | .hbm, ⟨25, _⟩ => ⟨S4x512x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.AttnRunIdeal.lean ====
/- The attention gradient (KernelIdeal): one run of the kernel's body at a point after the first, where the three carried
   accumulators are added to. The text is the generated run's, with a larger budget for its one long definition:
   the generated module stops at its own limit. -/
module

public import proofs.«01_k».proof.Proof.Gen.KernelIdeal.Frame.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE B (`scf.if` 0 not taken: points 1, 2, … 15: 15 of 16), WITH the
    proof that on whole staging memrefs — the inputs' at their contents, the outputs it reads before covering (16, 17, 18) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S8 .f32) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S256x512 .bf16) (harg6 : arg6.IsWhole) (arg7 : Memref sig .tc .vmem S128x512 .bf16) (harg7 : arg7.IsWhole) (arg8 : Memref sig .tc .vmem S128x512 .bf16) (harg8 : arg8.IsWhole) (arg9 : Memref sig .tc .vmem S128x512 .bf16) (harg9 : arg9.IsWhole) (arg10 : Memref sig .tc .vmem S256x512 .bf16) (harg10 : arg10.IsWhole) (arg11 : Memref sig .tc .vmem S128x512 .bf16) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S1x384x512 .f32) (harg15 : arg15.IsWhole) (arg16 : Memref sig .tc .vmem S1x384x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (hc0 : ¬cond0_0 i)
    (x0 : Vec F S8 .f32) (x1 : Vec F S128x512 .bf16) (x2 : Vec F S128x512 .bf16) (x3 : Vec F S128x512 .bf16) (x4 : Vec F S128x512 .bf16) (x5 : Vec F S256x512 .bf16) (x6 : Vec F S128x512 .bf16) (x7 : Vec F S128x512 .bf16) (x8 : Vec F S128x512 .bf16) (x9 : Vec F S256x512 .bf16) (x10 : Vec F S128x512 .bf16) (x11 : Vec F S128x512 .f32) (x12 : Vec F S128x512 .f32) (xo16 : Vec F S256x512 .f32) (xo17 : Vec F S256x512 .f32) (xo18 : Vec F S8x128 .f32) :
    Σ' (L13 : List (View.Piece (Elt F) S128x512 .f32)), Σ' (L14 : List (View.Piece (Elt F) S1x384x512 .f32)), Σ' (L15 : List (View.Piece (Elt F) S1x384x512 .f32)), Σ' (L16 : List (View.Piece (Elt F) S256x512 .f32)), Σ' (L17 : List (View.Piece (Elt F) S256x512 .f32)), { L18 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xo16 ∗ owns (c : Thread nD τ) arg18 fullShare xo17 ∗ owns (c : Thread nD τ) arg19 fullShare xo18
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%f18, %hf18, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg17.eq_unread hf16; obtain rfl := harg18.eq_unread hf17; obtain rfl := harg19.eq_unread hf18
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.KernelIdeal.Gen

end
-- ==== Proof.AttnOutsIdeal.lean ====
/- The attention gradient (KernelIdeal): what each output window holds after each grid point. The text is the generated
   frame's, set on the run of AttnRunIdeal.lean. -/
module

public import proofs.«01_k».proof.Proof.AttnRunIdeal
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section CaseA

variable (c : Dev nD) (i : grid0.Coords) (arg1 : Memref sig .tc .smem S8 .f32) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S256x512 .bf16) (harg6 : arg6.IsWhole) (arg7 : Memref sig .tc .vmem S128x512 .bf16) (harg7 : arg7.IsWhole) (arg8 : Memref sig .tc .vmem S128x512 .bf16) (harg8 : arg8.IsWhole) (arg9 : Memref sig .tc .vmem S128x512 .bf16) (harg9 : arg9.IsWhole) (arg10 : Memref sig .tc .vmem S256x512 .bf16) (harg10 : arg10.IsWhole) (arg11 : Memref sig .tc .vmem S128x512 .bf16) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S1x384x512 .f32) (harg15 : arg15.IsWhole) (arg16 : Memref sig .tc .vmem S1x384x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (hc0 : cond0_0 i)
    (x0 : Vec F S8 .f32) (x1 : Vec F S128x512 .bf16) (x2 : Vec F S128x512 .bf16) (x3 : Vec F S128x512 .bf16) (x4 : Vec F S128x512 .bf16) (x5 : Vec F S256x512 .bf16) (x6 : Vec F S128x512 .bf16) (x7 : Vec F S128x512 .bf16) (x8 : Vec F S128x512 .bf16) (x9 : Vec F S256x512 .bf16) (x10 : Vec F S128x512 .bf16) (x11 : Vec F S128x512 .f32) (x12 : Vec F S128x512 .f32)

/-- Case A's pieces for output 13 tile its block (1 of `S128x512`), so they cover it. -/
theorem cover0_A_13 (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).1 S128x512.size (by sl_kernel_rfl) y

/-- What case A leaves in output 13's staging buffer: its pieces read back over junk. -/
def out0_A_13 : Vec F S128x512 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).1)

/-- Case A's pieces for output 14 tile its block (2 of `S1x384x256`), so they cover it. -/
theorem cover0_A_14 (y : S1x384x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.1 S1x384x256.size (by sl_kernel_rfl) y

/-- What case A leaves in output 14's staging buffer: its pieces read back over junk. -/
def out0_A_14 : Vec F S1x384x512 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.1)

/-- Case A's pieces for output 15 tile its block (2 of `S1x384x256`), so they cover it. -/
theorem cover0_A_15 (y : S1x384x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.1 S1x384x256.size (by sl_kernel_rfl) y

/-- What case A leaves in output 15's staging buffer: its pieces read back over junk. -/
def out0_A_15 : Vec F S1x384x512 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.1)

/-- Case A's pieces for output 16 are of SEVERAL sizes (3 stores of `S256x256`, `S256x512`): cut into blocks of `![256, 256]` they tile its block (checked by the kernel's evaluation: Lib/Ring.lean `Piece.tiledBy`), so they cover it. -/
theorem cover0_A_16 (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.1 ![256, 256] (by sl_kernel_rfl) y

/-- What case A leaves in output 16's staging buffer: its pieces read back over junk. -/
def out0_A_16 : Vec F S256x512 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.1)

/-- Case A's pieces for output 17 are of SEVERAL sizes (3 stores of `S256x256`, `S256x512`): cut into blocks of `![256, 256]` they tile its block (checked by the kernel's evaluation: Lib/Ring.lean `Piece.tiledBy`), so they cover it. -/
theorem cover0_A_17 (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.1 ![256, 256] (by sl_kernel_rfl) y

/-- What case A leaves in output 17's staging buffer: its pieces read back over junk. -/
def out0_A_17 : Vec F S256x512 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.1)

/-- Case A's pieces for output 18 are of SEVERAL sizes (9 stores of `S1x128`, `S8x128`): cut into blocks of `![1, 128]` they tile its block (checked by the kernel's evaluation: Lib/Ring.lean `Piece.tiledBy`), so they cover it. -/
theorem cover0_A_18 (y : S8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.2.1 ![1, 128] (by sl_kernel_rfl) y

/-- What case A leaves in output 18's staging buffer: its pieces read back over junk. -/
def out0_A_18 : Vec F S8x128 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.2.1)

end CaseA

section CaseB

variable (c : Dev nD) (i : grid0.Coords) (arg1 : Memref sig .tc .smem S8 .f32) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S256x512 .bf16) (harg6 : arg6.IsWhole) (arg7 : Memref sig .tc .vmem S128x512 .bf16) (harg7 : arg7.IsWhole) (arg8 : Memref sig .tc .vmem S128x512 .bf16) (harg8 : arg8.IsWhole) (arg9 : Memref sig .tc .vmem S128x512 .bf16) (harg9 : arg9.IsWhole) (arg10 : Memref sig .tc .vmem S256x512 .bf16) (harg10 : arg10.IsWhole) (arg11 : Memref sig .tc .vmem S128x512 .bf16) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S1x384x512 .f32) (harg15 : arg15.IsWhole) (arg16 : Memref sig .tc .vmem S1x384x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (hc0 : ¬cond0_0 i)
    (x0 : Vec F S8 .f32) (x1 : Vec F S128x512 .bf16) (x2 : Vec F S128x512 .bf16) (x3 : Vec F S128x512 .bf16) (x4 : Vec F S128x512 .bf16) (x5 : Vec F S256x512 .bf16) (x6 : Vec F S128x512 .bf16) (x7 : Vec F S128x512 .bf16) (x8 : Vec F S128x512 .bf16) (x9 : Vec F S256x512 .bf16) (x10 : Vec F S128x512 .bf16) (x11 : Vec F S128x512 .f32) (x12 : Vec F S128x512 .f32) (xo16 : Vec F S256x512 .f32) (xo17 : Vec F S256x512 .f32) (xo18 : Vec F S8x128 .f32)

/-- Case B's pieces for output 13 tile its block (1 of `S128x512`), so they cover it. -/
theorem cover0_B_13 (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).1 S128x512.size (by sl_kernel_rfl) y

/-- What case B leaves in output 13's staging buffer: its pieces read back over junk. -/
def out0_B_13 : Vec F S128x512 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).1)

/-- Case B's pieces for output 14 tile its block (2 of `S1x384x256`), so they cover it. -/
theorem cover0_B_14 (y : S1x384x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).2.1 S1x384x256.size (by sl_kernel_rfl) y

/-- What case B leaves in output 14's staging buffer: its pieces read back over junk. -/
def out0_B_14 : Vec F S1x384x512 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).2.1)

/-- Case B's pieces for output 15 tile its block (2 of `S1x384x256`), so they cover it. -/
theorem cover0_B_15 (y : S1x384x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).2.2.1 S1x384x256.size (by sl_kernel_rfl) y

/-- What case B leaves in output 15's staging buffer: its pieces read back over junk. -/
def out0_B_15 : Vec F S1x384x512 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).2.2.1)

/-- Case B's pieces for output 16 tile its block (2 of `S256x256`), so they cover it. -/
theorem cover0_B_16 (y : S256x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).2.2.2.1 S256x256.size (by sl_kernel_rfl) y

/-- What case B leaves in output 16's staging buffer: its pieces read back over junk. -/
def out0_B_16 : Vec F S256x512 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).2.2.2.1)

/-- Case B's pieces for output 17 tile its block (2 of `S256x256`), so they cover it. -/
theorem cover0_B_17 (y : S256x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).2.2.2.2.1 S256x256.size (by sl_kernel_rfl) y

/-- What case B leaves in output 17's staging buffer: its pieces read back over junk. -/
def out0_B_17 : Vec F S256x512 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).2.2.2.2.1)

/-- Case B's pieces for output 18 tile its block (8 of `S1x128`), so they cover it. -/
theorem cover0_B_18 (y : S8x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).2.2.2.2.2.1 S1x128.size (by sl_kernel_rfl) y

/-- What case B leaves in output 18's staging buffer: its pieces read back over junk. -/
def out0_B_18 : Vec F S8x128 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo16 xo17 xo18).2.2.2.2.2.1)

end CaseB

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x512 .f32 × Vec F S1x384x512 .f32 × Vec F S1x384x512 .f32 × Vec F S256x512 .f32 × Vec F S256x512 .f32 × Vec F S8x128 .f32
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn =>
    if h0 : (n + 1) % 16 = 0 then
      (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
    else
      (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)

end Cert.KernelIdeal.Gen

end

end
-- ==== Proof.AttnFrameIdeal.lean ====
/- The attention gradient (KernelIdeal): its frame. What each output holds point by point, the run of the whole program, and
   that the argument arrays and the semaphores end as they began. The text is the generated frame's, set on the
   run of AttnRunIdeal.lean. -/
module

public import proofs.«01_k».proof.Proof.AttnOutsIdeal
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- `outsAt0` at a later point: both cases. -/
theorem outsAt0_succ (c : Dev nD) (n : ℕ) (hn : n + 1 < cfg0.N) :
    outsAt0 m c (n + 1) hn =
    if h0 : (n + 1) % 16 = 0 then
      (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
    else
      (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 m c n (Nat.lt_of_succ_lt hn)).2.2.2.1 (outsAt0 m c n (Nat.lt_of_succ_lt hn)).2.2.2.2.1 (outsAt0 m c n (Nat.lt_of_succ_lt hn)).2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 m c n (Nat.lt_of_succ_lt hn)).2.2.2.1 (outsAt0 m c n (Nat.lt_of_succ_lt hn)).2.2.2.2.1 (outsAt0 m c n (Nat.lt_of_succ_lt hn)).2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 m c n (Nat.lt_of_succ_lt hn)).2.2.2.1 (outsAt0 m c n (Nat.lt_of_succ_lt hn)).2.2.2.2.1 (outsAt0 m c n (Nat.lt_of_succ_lt hn)).2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 m c n (Nat.lt_of_succ_lt hn)).2.2.2.1 (outsAt0 m c n (Nat.lt_of_succ_lt hn)).2.2.2.2.1 (outsAt0 m c n (Nat.lt_of_succ_lt hn)).2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 m c n (Nat.lt_of_succ_lt hn)).2.2.2.1 (outsAt0 m c n (Nat.lt_of_succ_lt hn)).2.2.2.2.1 (outsAt0 m c n (Nat.lt_of_succ_lt hn)).2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 m c n (Nat.lt_of_succ_lt hn)).2.2.2.1 (outsAt0 m c n (Nat.lt_of_succ_lt hn)).2.2.2.2.1 (outsAt0 m c n (Nat.lt_of_succ_lt hn)).2.2.2.2.2) := by
  rw [outsAt0]

/-- A later point of case A. -/
theorem outsAt0_A_succ (c : Dev nD) (n : ℕ) (hn : n + 1 < cfg0.N) (h0 : (n + 1) % 16 = 0) :
    outsAt0 m c (n + 1) hn =
    (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩)) :=
  (outsAt0_succ m c n hn).trans (dif_pos h0)

/-- A later point of case B. -/
theorem outsAt0_B_succ (c : Dev nD) (n : ℕ) (hn : n + 1 < cfg0.N) (h0 : ¬(n + 1) % 16 = 0) :
    outsAt0 m c (n + 1) hn =
    (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 m c n (Nat.lt_of_succ_lt hn)).2.2.2.1 (outsAt0 m c n (Nat.lt_of_succ_lt hn)).2.2.2.2.1 (outsAt0 m c n (Nat.lt_of_succ_lt hn)).2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 m c n (Nat.lt_of_succ_lt hn)).2.2.2.1 (outsAt0 m c n (Nat.lt_of_succ_lt hn)).2.2.2.2.1 (outsAt0 m c n (Nat.lt_of_succ_lt hn)).2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 m c n (Nat.lt_of_succ_lt hn)).2.2.2.1 (outsAt0 m c n (Nat.lt_of_succ_lt hn)).2.2.2.2.1 (outsAt0 m c n (Nat.lt_of_succ_lt hn)).2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 m c n (Nat.lt_of_succ_lt hn)).2.2.2.1 (outsAt0 m c n (Nat.lt_of_succ_lt hn)).2.2.2.2.1 (outsAt0 m c n (Nat.lt_of_succ_lt hn)).2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 m c n (Nat.lt_of_succ_lt hn)).2.2.2.1 (outsAt0 m c n (Nat.lt_of_succ_lt hn)).2.2.2.2.1 (outsAt0 m c n (Nat.lt_of_succ_lt hn)).2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 m c n (Nat.lt_of_succ_lt hn)).2.2.2.1 (outsAt0 m c n (Nat.lt_of_succ_lt hn)).2.2.2.2.1 (outsAt0 m c n (Nat.lt_of_succ_lt hn)).2.2.2.2.2) :=
  (outsAt0_succ m c n hn).trans (dif_neg h0)

/-- `outsAt0` at a point of case A: that case's contents. -/
theorem outsAt0_A (c : Dev nD) (t : Fin cfg0.N) (h0 : t.val % 16 = 0) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact outsAt0_A_succ m c n hn h0

/-- `outsAt0` at a point of case B: that case's contents, over what the point before left. -/
theorem outsAt0_B (c : Dev nD) (t : Fin cfg0.N) (h0 : ¬t.val % 16 = 0) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact outsAt0_B_succ m c n hn h0

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, _⟩ => (outsAt0 m c t.val t.isLt).2.2.2.1
    | ⟨17, _⟩ => (outsAt0 m c t.val t.isLt).2.2.2.2.1
    | ⟨18, _⟩ => (outsAt0 m c t.val t.isLt).2.2.2.2.2
    | ⟨_ + 19, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem after0_15 (c : Dev nD) (t : Fin cfg0.N) : (dats m 0 c).after 15 t = (outsAt0 m c t.val t.isLt).2.2.1 := by dsimp only [dats]
theorem after0_16 (c : Dev nD) (t : Fin cfg0.N) : (dats m 0 c).after 16 t = (outsAt0 m c t.val t.isLt).2.2.2.1 := by dsimp only [dats]
theorem after0_17 (c : Dev nD) (t : Fin cfg0.N) : (dats m 0 c).after 17 t = (outsAt0 m c t.val t.isLt).2.2.2.2.1 := by dsimp only [dats]
theorem after0_18 (c : Dev nD) (t : Fin cfg0.N) : (dats m 0 c).after 18 t = (outsAt0 m c t.val t.isLt).2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
/-- At a point of case B output 16's current staging buffer holds what the body left at the point before: the point is
    not the first, the buffer was not written back between (`flush0_16`), the window is live and uncut (Lib/Pipeline/Frame.lean
    `Dat.before_out_kept`). -/
theorem before0_16_B (c : Dev nD) (t : Fin cfg0.N) (h0 : ¬t.val % 16 = 0) (d) :
    (dats m 0 c).before 16 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dats]
/-- At a point of case B output 17's current staging buffer holds what the body left at the point before: the point is
    not the first, the buffer was not written back between (`flush0_17`), the window is live and uncut (Lib/Pipeline/Frame.lean
    `Dat.before_out_kept`). -/
theorem before0_17_B (c : Dev nD) (t : Fin cfg0.N) (h0 : ¬t.val % 16 = 0) (d) :
    (dats m 0 c).before 17 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case B output 18's current staging buffer holds what the body left at the point before: the point is
    not the first, the buffer was not written back between (`flush0_18`), the window is live and uncut (Lib/Pipeline/Frame.lean
    `Dat.before_out_kept`). -/
theorem before0_18_B (c : Dev nD) (t : Fin cfg0.N) (h0 : ¬t.val % 16 = 0) (d) :
    (dats m 0 c).before 18 t d = (outsAt0 m c (t.val - 1) (Nat.lt_of_le_of_lt (Nat.sub_le _ _) t.isLt)).2.2.2.2.2 := by
  have hN : t.val < 16 := lt_of_lt_of_eq t.isLt (show cfg0.N = 16 from N_0)
  rw [Dat.before_out_kept _ 18 rfl t (by omega) (Bool.eq_false_iff.mpr fun h => by have := (flush0_18 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 3200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  have hN : t.val < 16 := lt_of_lt_of_eq t.isLt (show cfg0.N = 16 from N_0)
  by_cases h0 : t.val % 16 = 0
  · rw [outsAt0_A m c t h0]
    unfold out0_A_13 out0_A_14 out0_A_15 out0_A_16 out0_A_17 out0_A_18; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun0_A c (grid0.coords t) _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _)
  · rw [outsAt0_B m c t h0]
    simp only [before0_16_B m c t h0, before0_17_B m c t h0, before0_18_B m c t h0]
    unfold out0_B_13 out0_B_14 out0_B_15 out0_B_16 out0_B_17 out0_B_18; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun0_B c (grid0.coords t) _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexact H16
    isplitl [H17]; · iexact H17
    isplitl [H18]; · iexact H18
    iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H18
    ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.AttnValueIdeal.lean ====
/- The attention gradient (KernelIdeal): the run with each output array named and the arguments unchanged. The text is
   the generated value leg's, set on the frame of AttnFrameIdeal.lean. -/
module

public import proofs.«01_k».proof.Proof.AttnFrameIdeal
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v95_0) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v95_1) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v95_2) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v95_3) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v95_4) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v95_5) = (dats m 0 c).arrAt 18 cfg0.N :=
  (h c).1 18

/-- After the frame run, argument `main_arg0` is as launched: input window 1 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- After the frame run, argument `main_arg1` is as launched: input window 5 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 5).trans (((dats m 0 c).arrAt_in 5 rfl _).trans ((A_eq m c 5).trans (V_main_arg1 m c)))

/-- After the frame run, argument `main_arg2` is as launched: input window 9 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 9).trans (((dats m 0 c).arrAt_in 9 rfl _).trans ((A_eq m c 9).trans (V_main_arg2 m c)))

/-- After the frame run, argument `main_arg3` is as launched: input window 0 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 0).trans (((dats m 0 c).arrAt_in 0 rfl _).trans ((A_eq m c 0).trans (V_main_arg3 m c)))

/-- After the frame run, argument `main_arg4` is as launched: input window 12 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 12).trans (((dats m 0 c).arrAt_in 12 rfl _).trans ((A_eq m c 12).trans (V_main_arg4 m c)))

set_option maxHeartbeats 218460 in
/-- The frame run with each output array after the run NAMED, `(dats m 0 c).arrAt w N`, and the arguments unchanged. -/
theorem run_blocks : θ_run defs (onTc (τ := τ) (main (F := F))) ⟨m, fun _ => 0, ρ⟩ fun r => ∀ c : Dev nD,
      r.2.mem ((c : Thread nD τ).loc main_v95_0) = (dats m 0 c).arrAt 13 cfg0.N
      ∧ r.2.mem ((c : Thread nD τ).loc main_v95_1) = (dats m 0 c).arrAt 14 cfg0.N
      ∧ r.2.mem ((c : Thread nD τ).loc main_v95_2) = (dats m 0 c).arrAt 15 cfg0.N
      ∧ r.2.mem ((c : Thread nD τ).loc main_v95_3) = (dats m 0 c).arrAt 16 cfg0.N
      ∧ r.2.mem ((c : Thread nD τ).loc main_v95_4) = (dats m 0 c).arrAt 17 cfg0.N
      ∧ r.2.mem ((c : Thread nD τ).loc main_v95_5) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post13 m r h c,
      post14 m r h c,
      post15 m r h c,
      post16 m r h c,
      post17 m r h c,
      post18 m r h c,
      kept_main_arg0 m r h c,
      kept_main_arg1 m r h c,
      kept_main_arg2 m r h c,
      kept_main_arg3 m r h c,
      kept_main_arg4 m r h c⟩)
    (run_main m ρ)

end Cert.KernelIdeal.Value

end
-- ==== Proof.Reals.lean ====
/- Hand-written: small facts about extended reals that are real numbers, shared by the value modules. -/
module

public import Idealize.ShloMosaic.Lib.Pointwise

@[expose] public section

open Idealize.ShloMosaic
open scoped BigOperators

namespace Cert.Reals

/-- A float whose absolute value is below the infinity word is a real number. -/
theorem real_of_bit {x : EReal}
    (h : BitVec.ofBool (decide (FloatOps.absf (F := Ideal) (φ := .f32) x < Ideal.ofBits .f32 0x7F800000#32)) = 1#1) :
    ∃ r : ℝ, x = (r : EReal) := by
  have ht : Ideal.ofBits .f32 0x7F800000#32 = ⊤ := by simp [Ideal.ofBits, Ideal.ieee]
  have hx : max x (-x) < (⊤ : EReal) := by
    by_contra hc
    have : decide (FloatOps.absf (F := Ideal) (φ := .f32) x < Ideal.ofBits .f32 0x7F800000#32) = false := by
      rw [ht]; exact decide_eq_false hc
    rw [this] at h
    exact absurd h (by decide)
  induction x with
  | bot => simp at hx
  | top => simp at hx
  | coe r => exact ⟨r, rfl⟩

/-- The real part of an extended real that is known to be real. -/
theorem coe_toReal {x : EReal} (h : ∃ r : ℝ, x = (r : EReal)) : x = ((x.toReal : ℝ) : EReal) := by
  obtain ⟨r, rfl⟩ := h; rfl

/-- A finite sum of real numbers, read as extended reals, is their real sum. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Division of real numbers, away from a zero divisor. -/
theorem div_coe_coe (x : ℝ) {y : ℝ} (h : y ≠ 0) : Ideal.div (x : EReal) (y : EReal) = ((x / y : ℝ) : EReal) := by
  rw [Ideal.div_coe h, ← EReal.coe_mul]
  congr 1
  ring

/-- The logistic of a real number, as both programs spell it. -/
theorem sig_coe (a : ℝ) : Ideal.div 1 (1 + Ideal.exp (-(a : EReal))) = (((1 + Real.exp (-a))⁻¹ : ℝ) : EReal) := by
  have h : (1 + Real.exp (-a)) ≠ 0 := by positivity
  rw [← EReal.coe_neg, Ideal.exp_coe, ← EReal.coe_one, ← EReal.coe_add, div_coe_coe _ h, one_div]

end Cert.Reals

end
-- ==== Proof.AttnMask.lean ====
/- Hand-written: the integer masks of the attention gradient's body, read at an index. -/
module

public import proofs.«01_k».proof.Proof.Gen.KernelIdeal.Skeleton
public import Idealize.ShloMosaic.Lib.Pipeline.ValueKit

set_option maxRecDepth 16384

@[expose] public noncomputable section

open Idealize.ShloMosaic Idealize.ShloMosaic.TcCoe Idealize.SL.Sem

namespace Cert.Attn

open Cert.KernelIdeal Cert.KernelIdeal.Gen

/-- The head a lane of a 256-lane group belongs to: the lane's number divided by 64, over 512 rows. -/
def laneHead : IVec S512x256 32 :=
  select (andi k0_pay23 (cmpi .ne k0_pay24 k0_pay25)) (subi k0_pay22 (broadcast S512x256 1#32)) k0_pay22

theorem rowHead_at (a : Fin 512) (l : Fin 256) : k0_pay21 (ix2 a l) = BitVec.ofNat 32 (a.val / 128) := by
  pointwise [k0_pay21]
  revert a
  decide +kernel

theorem laneHead_at (a : Fin 512) (l : Fin 256) : laneHead (ix2 a l) = BitVec.ofNat 32 (l.val / 64) := by
  pointwise [laneHead, k0_pay22, k0_pay23, k0_pay24, k0_pay25]
  revert l
  decide +kernel

/-- Rows and lanes of the same head. -/
def headMask : IVec S512x256 1 := cmpi .eq k0_pay21 laneHead

theorem headMask_at (a : Fin 512) (l : Fin 256) :
    headMask (ix2 a l) = BitVec.ofBool (decide (a.val / 128 = l.val / 64)) := by
  pointwise [headMask]
  rw [rowHead_at, laneHead_at]
  have h : ∀ x y : Fin 4, IntOp.cmpi CmpIPredicate.eq (BitVec.ofNat 32 x.val) (BitVec.ofNat 32 y.val)
      = BitVec.ofBool (decide (x.val = y.val)) := by decide +kernel
  exact h ⟨a.val / 128, by omega⟩ ⟨l.val / 64, by omega⟩

/-- Whether key column `c` of the row's 640 (384 of the band, then 256 of the context) is seen by row `r` of block `i`. -/
def Valid (i r c : ℕ) : Prop :=
  (r ≤ c ∧ c ≤ r + 256 ∧ 128 ≤ 128 * i + c ∧ 128 * i + c < 2176) ∨ 384 ≤ c

instance (i r c : ℕ) : Decidable (Valid i r c) := by unfold Valid; infer_instance

/-- A distance of at most 128 in words. -/
theorem near_word (c r : ℕ) (hc : c < 640) (hr : r < 128) :
    IntOp.cmpi CmpIPredicate.sle
        (IntOp.absi (IntOp.subi (IntOp.subi (BitVec.ofNat 32 c) 128#32) (BitVec.ofNat 32 r))) 128#32
      = BitVec.ofBool (decide (r ≤ c ∧ c ≤ r + 256)) := by
  have e : IntOp.subi (IntOp.subi (BitVec.ofNat 32 c) 128#32) (BitVec.ofNat 32 r)
      = BitVec.ofNat 32 (c + 127 - r) - 255#32 := by
    simp only [IntOp.subi]
    apply BitVec.eq_of_toNat_eq
    simp only [BitVec.toNat_sub, BitVec.toNat_ofNat]
    omega
  have h : ∀ n : Fin 767, IntOp.cmpi CmpIPredicate.sle (IntOp.absi (BitVec.ofNat 32 n.val - 255#32)) 128#32
      = BitVec.ofBool (decide (127 ≤ n.val ∧ n.val ≤ 383)) := by decide +kernel
  rw [e, h ⟨c + 127 - r, by omega⟩]
  congr 2
  simp only [eq_iff_iff]
  omega

/-- A position not before the first one, in words. -/
theorem low_word (n : ℕ) (hn : n < 2560) :
    IntOp.cmpi CmpIPredicate.sge (BitVec.ofNat 32 n - 128#32) 0#32 = BitVec.ofBool (decide (128 ≤ n)) := by
  have h : ∀ n : Fin 2560, IntOp.cmpi CmpIPredicate.sge (BitVec.ofNat 32 n.val - 128#32) 0#32
      = BitVec.ofBool (decide (128 ≤ n.val)) := by decide +kernel
  exact h ⟨n, hn⟩

/-- A position not after the last one, in words. -/
theorem high_word (n : ℕ) (hn : n < 2560) :
    IntOp.cmpi CmpIPredicate.slt (BitVec.ofNat 32 n - 128#32) 2048#32 = BitVec.ofBool (decide (n < 2176)) := by
  have h : ∀ n : Fin 2560, IntOp.cmpi CmpIPredicate.slt (BitVec.ofNat 32 n.val - 128#32) 2048#32
      = BitVec.ofBool (decide (n.val < 2176)) := by decide +kernel
  exact h ⟨n, hn⟩

/-- The word of a key position: block `i`'s band begins one block early. -/
theorem pos_word (i c : ℕ) (hi : i < 16) (hc : c < 640) :
    IntOp.addi (Scalar.muli (Scalar.subi (BitVec.ofNat 32 i) 1#32) 128#32) (BitVec.ofNat 32 c)
      = BitVec.ofNat 32 (128 * i + c) - 128#32 := by
  simp only [IntOp.addi, Scalar.muli, Scalar.subi, IntOp.muli, IntOp.subi]
  apply BitVec.eq_of_toNat_eq
  simp only [BitVec.toNat_sub, BitVec.toNat_add, BitVec.toNat_mul, BitVec.toNat_ofNat]
  omega

theorem valid_at (i : grid0.Coords) (a : Fin 512) (c : Fin 640) :
    k0_pay7 i (ix2 a c) = BitVec.ofBool (decide (Valid (i 0).val (a.val % 128) c.val)) := by
  have hrem : ∀ a : Fin 512, Scalar.select
                  (IntOp.andi
                    (IntOp.xori
                      (IntOp.cmpi CmpIPredicate.slt
                        (IntOp.remsi ArithUnit.vector (BitVec.ofNat 32 ↑a)
                          (Scalar.select (Scalar.cmpi CmpIPredicate.eq 128#32 0#32) 1#32 128#32))
                        0#32)
                      (Scalar.cmpi CmpIPredicate.slt
                        (Scalar.select (Scalar.cmpi CmpIPredicate.eq 128#32 0#32) 1#32 128#32) 0#32))
                    (IntOp.cmpi CmpIPredicate.ne
                      (IntOp.remsi ArithUnit.vector (BitVec.ofNat 32 ↑a)
                        (Scalar.select (Scalar.cmpi CmpIPredicate.eq 128#32 0#32) 1#32 128#32))
                      0#32))
                  (IntOp.addi
                    (IntOp.remsi ArithUnit.vector (BitVec.ofNat 32 ↑a)
                      (Scalar.select (Scalar.cmpi CmpIPredicate.eq 128#32 0#32) 1#32 128#32))
                    (Scalar.select (Scalar.cmpi CmpIPredicate.eq 128#32 0#32) 1#32 128#32))
                  (IntOp.remsi ArithUnit.vector (BitVec.ofNat 32 ↑a)
                    (Scalar.select (Scalar.cmpi CmpIPredicate.eq 128#32 0#32) 1#32 128#32))
        = BitVec.ofNat 32 (a.val % 128) := by decide +kernel
  have hge : ∀ c : Fin 640, IntOp.cmpi CmpIPredicate.sge (BitVec.ofNat 32 c.val) 384#32
      = BitVec.ofBool (decide (384 ≤ c.val)) := by decide +kernel
  have hi : (i 0).val < 16 := (i 0).isLt
  pointwise [k0_pay7]
  rw [hrem a, near_word _ _ c.isLt (Nat.mod_lt _ (by omega)), pos_word _ _ hi c.isLt,
    low_word _ (by omega), high_word _ (by omega), hge c]
  generalize hA : decide (a.val % 128 ≤ c.val ∧ c.val ≤ a.val % 128 + 256) = A
  generalize hB : decide (128 ≤ 128 * (i 0).val + c.val) = B
  generalize hC : decide (128 * (i 0).val + c.val < 2176) = C
  generalize hD : decide (384 ≤ c.val) = D
  have hV : decide (Valid (i 0).val (a.val % 128) c.val) = (A && B && C || D) := by
    subst hA hB hC hD
    simp only [Valid, ← Bool.decide_and, ← Bool.decide_or, and_assoc]
  rw [hV]
  cases A <;> cases B <;> cases C <;> cases D <;> decide

end Cert.Attn
-- ==== Proof.AttnPoint.lean ====
/- Hand-written: one grid point of the attention gradient: its stacked heads opened into one head at a time. -/
module

public import proofs.«01_k».proof.Proof.AttnMask
public import Idealize.ShloMosaic.Lib.Pipeline.ValueKit

set_option maxRecDepth 16384

@[expose] public noncomputable section

open Idealize.ShloMosaic Idealize.ShloMosaic.TcCoe Idealize.SL.Sem

open scoped BigOperators

namespace Cert.Attn

/-- Row `r` of stacked head `j`. -/
abbrev row (j : Fin 4) (r : Fin 128) : Fin 512 := ⟨j.val * 128 + r.val, by omega⟩

/-- Lane `d` of head `j`. -/
abbrev lane (j : Fin 4) (d : Fin 64) : Fin 256 := ⟨j.val * 64 + d.val, by omega⟩

/-! ## One grid point's mathematics, one head at a time -/

section Spec
variable (i : ℕ) (q dy dyy lse : Fin 128 → Fin 256 → EReal) (k v : Fin 640 → Fin 256 → EReal)

/-- The saved row log-sum, read as the maximum over the head's lanes. -/
def gL (j : Fin 4) (r : Fin 128) : EReal := Finset.univ.fold max ⊥ fun d : Fin 64 => lse r (lane j d)

/-- A logit. -/
def gS (j : Fin 4) (r : Fin 128) (c : Fin 640) : EReal := ∑ d : Fin 64, q r (lane j d) * k c (lane j d)

/-- A weight, from the saved row log-sum. -/
def gP (j : Fin 4) (r : Fin 128) (c : Fin 640) : EReal :=
  if Valid i r.val c.val then Ideal.exp (gS q k j r c - gL lse j r) else 0

/-- The row's product of cotangent and output. -/
def gD (j : Fin 4) (r : Fin 128) : EReal := ∑ d : Fin 64, dyy r (lane j d)

/-- The gradient of a weight times the row's sum, less the row's product. -/
def gDS (j : Fin 4) (r : Fin 128) (c : Fin 640) : EReal :=
  gP i q lse k j r c * (gS dy v j r c - gD dyy j r)

/-- The query's gradient. -/
def gDQ (j : Fin 4) (r : Fin 128) (d : Fin 64) : EReal :=
  ∑ c : Fin 640, gDS i q dy dyy lse k v j r c * k c (lane j d)

/-- A key's gradient, from this block's rows. -/
def gDK (j : Fin 4) (c : Fin 640) (d : Fin 64) : EReal :=
  ∑ r : Fin 128, gDS i q dy dyy lse k v j r c * q r (lane j d)

/-- A value's gradient, from this block's rows. -/
def gDV (j : Fin 4) (c : Fin 640) (d : Fin 64) : EReal :=
  ∑ r : Fin 128, gP i q lse k j r c * dy r (lane j d)

/-- A sink's gradient, from this block's rows, with the sign turned. -/
def gDT (s : EReal) (j : Fin 4) : EReal :=
  ∑ r : Fin 128, Ideal.exp (s - gL lse j r) * gD dyy j r

end Spec

/-! ## Sums and maxima over stacked rows and lanes -/

/-- A sum over lanes of which only one head's count. -/
theorem sum_lanes (j : Fin 4) (f : Fin 256 → EReal) (h : ∀ l : Fin 256, l.val / 64 ≠ j.val → f l = 0) :
    ∑ l, f l = ∑ d : Fin 64, f (lane j d) := by
  rw [Fin.sum_univ_tiles 4 64 rfl f]
  rw [Finset.sum_eq_single j]
  · intro b _ hb
    refine Finset.sum_eq_zero fun d _ => h _ ?_
    have : b.val ≠ j.val := fun e => hb (Fin.ext e)
    show (b.val * 64 + d.val) / 64 ≠ j.val
    omega
  · intro hj; exact absurd (Finset.mem_univ _) hj

/-- A sum over stacked rows of which only one head's count. -/
theorem sum_rows (j : Fin 4) (f : Fin 512 → EReal) (h : ∀ a : Fin 512, a.val / 128 ≠ j.val → f a = 0) :
    ∑ a, f a = ∑ r : Fin 128, f (row j r) := by
  rw [Fin.sum_univ_tiles 4 128 rfl f]
  rw [Finset.sum_eq_single j]
  · intro b _ hb
    refine Finset.sum_eq_zero fun d _ => h _ ?_
    have : b.val ≠ j.val := fun e => hb (Fin.ext e)
    show (b.val * 128 + d.val) / 128 ≠ j.val
    omega
  · intro hj; exact absurd (Finset.mem_univ _) hj

theorem fold_max_eq_sup {n : ℕ} (f : Fin n → EReal) : Finset.univ.fold max ⊥ f = Finset.univ.sup f := rfl

/-- A maximum over lanes of which only one head's are not `⊥`. -/
theorem max_lanes (j : Fin 4) (f : Fin 256 → EReal) (h : ∀ l : Fin 256, l.val / 64 ≠ j.val → f l = ⊥) :
    Finset.univ.fold max ⊥ f = Finset.univ.fold max ⊥ fun d : Fin 64 => f (lane j d) := by
  rw [fold_max_eq_sup, fold_max_eq_sup]
  apply le_antisymm
  · refine Finset.sup_le fun l _ => ?_
    by_cases e : l.val / 64 = j.val
    · have : l = lane j ⟨l.val % 64, Nat.mod_lt _ (by omega)⟩ := by
        apply Fin.ext; show l.val = j.val * 64 + l.val % 64; omega
      rw [this]
      exact Finset.le_sup (f := fun d : Fin 64 => f (lane j d)) (Finset.mem_univ _)
    · rw [h l e]; exact bot_le
  · exact Finset.sup_le fun d _ => Finset.le_sup (f := f) (Finset.mem_univ (lane j d))

/-! ## The payloads, at a stacked row -/

open Cert.KernelIdeal Cert.KernelIdeal.Gen

/-- A stack of four copies, each keeping its own head's lanes. -/
def IsStack {φ : FTy} (X : FVec Ideal S512x256 φ) (x : Fin 128 → Fin 256 → EReal) : Prop :=
  ∀ (j : Fin 4) (r : Fin 128) (l : Fin 256), X (ix2 (row j r) l) = if l.val / 64 = j.val then x r l else 0

/-- Four copies stacked along the rows, read at a row of copy `j`. -/
theorem cat4_at {φ : FTy} (x : FVec Ideal S128x256 φ) (j : Fin 4) (r : Fin 128) (l : Fin 256) :
    concatenate S512x256 0 [⟨S128x256, x⟩, ⟨S128x256, x⟩, ⟨S128x256, x⟩, ⟨S128x256, x⟩]
      concatenates_S128x256_S128x256_S128x256_S128x256_S512x256_d0 (ix2 (row j r) l) = x (ix2 r l) := by
  have hr := r.isLt
  pointwise
  obtain ⟨j, hj⟩ := j
  interval_cases j
  · rw [dif_pos (by dsimp only; omega)]; first | rfl | (congr 2; done) | (congr 2; apply Fin.ext; dsimp only; omega)
  · rw [dif_neg (by dsimp only; omega), dif_pos (by dsimp only; omega)]; first | rfl | (congr 2; done) | (congr 2; apply Fin.ext; dsimp only; omega)
  · rw [dif_neg (by dsimp only; omega), dif_neg (by dsimp only; omega), dif_pos (by dsimp only; omega)]; first | rfl | (congr 2; done) | (congr 2; apply Fin.ext; dsimp only; omega)
  · rw [dif_neg (by dsimp only; omega), dif_neg (by dsimp only; omega), dif_neg (by dsimp only; omega)]; first | rfl | (congr 2; done) | (congr 2; apply Fin.ext; dsimp only; omega)

theorem mask_stack (j : Fin 4) (r : Fin 128) (l : Fin 256) :
    headMask (ix2 (row j r) l) = BitVec.ofBool (decide (l.val / 64 = j.val)) := by
  rw [headMask_at]
  congr 2
  simp only [eq_iff_iff]
  show (j.val * 128 + r.val) / 128 = l.val / 64 ↔ _
  omega

/-- Four stacked copies read as the function `x` of row and lane. -/
def Copies {φ : FTy} (X : FVec Ideal S512x256 φ) (x : Fin 128 → Fin 256 → EReal) : Prop :=
  ∀ (j : Fin 4) (r : Fin 128) (l : Fin 256), X (ix2 (row j r) l) = x r l

theorem copies_q0 (v : Vec Ideal S128x512 .bf16) : Copies (φ := .bf16) (k0_pay12 (F := Ideal) v) fun r l => v (ix2 r (⟨l.val, by omega⟩ : Fin 512)) :=
  fun j r l => (cat4_at (φ := .bf16) _ j r l).trans (by pointwise)
theorem copies_q1 (v : Vec Ideal S128x512 .bf16) : Copies (φ := .bf16) (k0_pay59 (F := Ideal) v) fun r l => v (ix2 r (⟨256 + l.val, by omega⟩ : Fin 512)) :=
  fun j r l => (cat4_at (φ := .bf16) _ j r l).trans (by pointwise)
theorem copies_d0 (v : Vec Ideal S128x512 .f32) : Copies (φ := .f32) (k0_pay16 (F := Ideal) v) fun r l => v (ix2 r (⟨l.val, by omega⟩ : Fin 512)) :=
  fun j r l => (cat4_at (φ := .f32) _ j r l).trans (by pointwise)
theorem copies_d1 (v : Vec Ideal S128x512 .f32) : Copies (φ := .f32) (k0_pay64 (F := Ideal) v) fun r l => v (ix2 r (⟨256 + l.val, by omega⟩ : Fin 512)) :=
  fun j r l => (cat4_at (φ := .f32) _ j r l).trans (by pointwise)

/-- A stack whose rows keep their own head's lanes. -/
def stackQ (x : FVec Ideal S512x256 .bf16) : FVec Ideal S512x256 .bf16 :=
  select headMask x (broadcast S512x256 (Scalar.ofBits (F := Ideal) .bf16 0x0000#16))

/-- The same from a 32-bit stack, rounded. -/
def stackY (x : FVec Ideal S512x256 .f32) : FVec Ideal S512x256 .bf16 :=
  truncf .bf16 (select headMask x (broadcast S512x256 (Scalar.ofBits (F := Ideal) .f32 0x00000000#32))) bitsLt_bf16_f32

/-- A stack's row maxima over their own head's lanes. -/
def rowMax (x : FVec Ideal S512x256 .f32) : FVec Ideal S512x1 .f32 :=
  shapeCast S512x1 (multiReduction .maximumf [1] S512
    (select headMask x (broadcast S512x256 (Named.named (F := Ideal) κ "mask" (φ := .f32) 0xF149F2CA#32)))
    0xFF800000#32 reduces_S512x256_S512 (.inl rfl) rfl) shapeCasts_S512_S512x1

/-- A stack's row sums over their own head's lanes. -/
def rowSum (x : FVec Ideal S512x256 .f32) : FVec Ideal S512x1 .f32 :=
  shapeCast S512x1 (multiReduction .add [1] S512
    (select headMask x (broadcast S512x256 (Scalar.ofBits (F := Ideal) .f32 0x00000000#32)))
    0x00000000#32 reduces_S512x256_S512 (.inl rfl) rfl) shapeCasts_S512_S512x1

/-- The gradient of the logits, from the weights, the products with the values and the row's sum. -/
def dsV (v39 : IVec S512x640 1) (K V : FVec Ideal S640x256 .bf16) (X Y : FVec Ideal S512x256 .bf16) (L D : FVec Ideal S512x1 .f32) :
    FVec Ideal S512x640 .bf16 :=
  truncf .bf16 (mulf (k0_pay32 v39 K X L)
    (subf (matmul dot_S512x256_S640x256_S512x640_1_1_0_0_n_n none Y V (constant S512x640 .f32 0x00000000#32))
      (broadcastTo S512x640 D broadcasts_S512x1_S512x640))) bitsLt_bf16_f32

/-- The rows' shares of the sinks' gradients, before their sum. -/
def sinkV (L D : FVec Ideal S512x1 .f32) (s0 s1 s2 s3 : Elt Ideal .f32) : FVec Ideal S512x1 .f32 :=
  mulf (exp (subf (concatenate S512x1 0 [⟨S128x1, broadcast S128x1 s0⟩, ⟨S128x1, broadcast S128x1 s1⟩, ⟨S128x1, broadcast S128x1 s2⟩, ⟨S128x1, broadcast S128x1 s3⟩]
    concatenates_S128x1_S128x1_S128x1_S128x1_S512x1_d0) L)) D

theorem zero_bf16 : Scalar.ofBits (F := Ideal) .bf16 0x0000#16 = (0 : EReal) := by
  simp [Scalar.ofBits, Ideal.ofBits, Ideal.ieee]

theorem ninf_f32 : Ideal.ofBits .f32 0xFF800000#32 = (⊥ : EReal) := by
  simp [Ideal.ofBits, Ideal.ieee]

theorem named_mask : Named.named (F := Ideal) κ "mask" (φ := .f32) 0xF149F2CA#32 = (⊥ : EReal) :=
  IdealRules.named_const.ideal_named_scalar _ _ _ _ rfl

section
variable {x : Fin 128 → Fin 256 → EReal}

theorem stackQ_at {X : FVec Ideal S512x256 .bf16} (h : Copies X x) : IsStack (stackQ X) x := by
  intro j r l
  have := h j r l
  pointwise [stackQ, mask_stack, this, zero_bf16]

theorem stackY_at {X : FVec Ideal S512x256 .f32} (h : Copies X x) : IsStack (stackY X) x := by
  intro j r l
  have := h j r l
  pointwise [stackY, mask_stack, this]

theorem rowMax_at {X : FVec Ideal S512x256 .f32} (h : Copies X x) (j : Fin 4) (r : Fin 128) :
    rowMax X (ix2 (row j r) 0) = gL x j r := by
  have := h j r
  pointwise [rowMax, mask_stack, this, named_mask, ninf_f32]
  rw [max_lanes j _ fun l hl => if_neg hl]
  unfold gL
  congr 1
  funext d
  exact if_pos (by dsimp only; omega)

theorem rowSum_at {X : FVec Ideal S512x256 .f32} (h : Copies X x) (j : Fin 4) (r : Fin 128) :
    rowSum X (ix2 (row j r) 0) = gD x j r := by
  have := h j r
  pointwise [rowSum, mask_stack, this]
  rw [sum_lanes j _ fun l hl => if_neg hl]
  unfold gD
  refine Finset.sum_congr rfl fun d _ => ?_
  exact if_pos (by dsimp only; omega)
end

/-- A stack's product with a row of keys is one head's product. -/
theorem stack_dot {X : FVec Ideal S512x256 .bf16} {x : Fin 128 → Fin 256 → EReal} (h : IsStack X x)
    (K : Fin 640 → Fin 256 → EReal) (j : Fin 4) (r : Fin 128) (c : Fin 640) :
    ∑ l : Fin 256, X (ix2 (row j r) l) * K c l = gS x K j r c := by
  rw [sum_lanes j _ fun l hl => by rw [h, if_neg hl, zero_mul]]
  unfold gS
  refine Finset.sum_congr rfl fun d _ => ?_
  rw [h, if_pos (by dsimp only; omega)]

section
variable {i : grid0.Coords} {q dy dyy lse : Fin 128 → Fin 256 → EReal} {k v : Fin 640 → Fin 256 → EReal}
variable {K V : FVec Ideal S640x256 .bf16} {X Y : FVec Ideal S512x256 .bf16} {L D : FVec Ideal S512x1 .f32}

theorem p_at (hK : ∀ c l, K (ix2 c l) = k c l) (hX : IsStack X q) (hL : ∀ j r, L (ix2 (row j r) 0) = gL lse j r)
    (j : Fin 4) (r : Fin 128) (c : Fin 640) :
    k0_pay32 (F := Ideal) (k0_pay7 i) K X L (ix2 (row j r) c) = gP (i 0).val q lse k j r c := by
  have h1 := stack_dot hX k j r c
  have h2 := hL j r
  have hm : (j.val * 128 + r.val) % 128 = r.val := by omega
  pointwise [k0_pay32, valid_at, hK, h2]
  rw [h1, hm]
  rfl

theorem ds_at (hK : ∀ c l, K (ix2 c l) = k c l) (hV : ∀ c l, V (ix2 c l) = v c l) (hX : IsStack X q) (hY : IsStack Y dy)
    {dyy : Fin 128 → Fin 256 → EReal}
    (hL : ∀ j r, L (ix2 (row j r) 0) = gL lse j r) (hD : ∀ j r, D (ix2 (row j r) 0) = gD dyy j r)
    (j : Fin 4) (r : Fin 128) (c : Fin 640) :
    dsV (k0_pay7 i) K V X Y L D (ix2 (row j r) c) = gDS (i 0).val q dy dyy lse k v j r c := by
  have h1 := stack_dot hY v j r c
  have h2 := hD j r
  have h3 := p_at (i := i) hK hX hL j r c
  pointwise [dsV, hV, h2, h3]
  rw [h1]
  rfl

theorem dk_at {W : FVec Ideal S512x640 .bf16} {w : Fin 4 → Fin 128 → Fin 640 → EReal}
    (hW : ∀ j r c, W (ix2 (row j r) c) = w j r c) (hX : IsStack X q) (j : Fin 4) (c : Fin 640) (d : Fin 64) :
    k0_pay51 (F := Ideal) X W (ix2 c (lane j d)) = ∑ r, w j r c * q r (lane j d) := by
  pointwise [k0_pay51]
  rw [sum_rows j _ ?_]
  · refine Finset.sum_congr rfl fun r _ => ?_
    rw [hW, hX, if_pos (by dsimp only; omega)]
  · intro a ha
    have e : a = row ⟨a.val / 128, by omega⟩ ⟨a.val % 128, Nat.mod_lt _ (by omega)⟩ := by
      apply Fin.ext; show a.val = a.val / 128 * 128 + a.val % 128; omega
    rw [e, hX, if_neg (by dsimp only; omega), mul_zero]

theorem sinkV_at (s0 s1 s2 s3 : Elt Ideal .f32) (hL : ∀ j r, L (ix2 (row j r) 0) = gL lse j r)
    {dyy : Fin 128 → Fin 256 → EReal} (hD : ∀ j r, D (ix2 (row j r) 0) = gD dyy j r) (j : Fin 4) (r : Fin 128) :
    sinkV L D s0 s1 s2 s3 (ix2 (row j r) 0)
      = Ideal.exp ((![s0, s1, s2, s3] j : EReal) - gL lse j r) * gD dyy j r := by
  have hr := r.isLt
  have h1 := hL j r
  have h2 := hD j r
  pointwise [sinkV, h1, h2]
  obtain ⟨j, hj⟩ := j
  interval_cases j
  · rw [dif_pos (by dsimp only; omega)]; rfl
  · rw [dif_neg (by dsimp only; omega), dif_pos (by dsimp only; omega)]; rfl
  · rw [dif_neg (by dsimp only; omega), dif_neg (by dsimp only; omega), dif_pos (by dsimp only; omega)]; rfl
  · rw [dif_neg (by dsimp only; omega), dif_neg (by dsimp only; omega), dif_neg (by dsimp only; omega)]; rfl
end

/-- Head `j`'s rows on head `j`'s lanes, zero on the other lanes. -/
def part (k : BitVec 32) (z : FVec Ideal S128x256 .f32) : FVec Ideal S128x256 .f32 :=
  select (broadcastTo S128x256 (shapeCast S1x256 (cmpi .eq k0_pay91 (broadcast S1x256 k)) shapeCasts_S1x256_S1x256) broadcasts_S1x256_S128x256)
    z (broadcast S128x256 (Scalar.ofBits (F := Ideal) .f32 0x00000000#32))

/-- The four heads' rows laid side by side again. -/
def unstack (Z : FVec Ideal S512x256 .f32) : FVec Ideal S128x256 .f32 :=
  addf (addf (addf (part 0#32 (extractStridedSlice S128x256 ![0, 0] Z slices_S512x256_o0_0_S128x256))
    (part 1#32 (extractStridedSlice S128x256 ![128, 0] Z slices_S512x256_o128_0_S128x256)))
    (part 2#32 (extractStridedSlice S128x256 ![256, 0] Z slices_S512x256_o256_0_S128x256)))
    (part 3#32 (extractStridedSlice S128x256 ![384, 0] Z slices_S512x256_o384_0_S128x256))

theorem part_at (k j : Fin 4) (z : FVec Ideal S128x256 .f32) (r : Fin 128) (d : Fin 64) :
    part (BitVec.ofNat 32 k.val) z (ix2 r (lane j d)) = if j = k then z (ix2 r (lane j d)) else 0 := by
  have hl : ∀ l : Fin 256, k0_pay91 (ix2 (0 : Fin 1) l) = BitVec.ofNat 32 (l.val / 64) := by
    intro l
    pointwise [k0_pay91]
    revert l
    decide +kernel
  have hq : (j.val * 64 + d.val) / 64 = j.val := by omega
  have hc : ∀ j k : Fin 4, IntOp.cmpi CmpIPredicate.eq (BitVec.ofNat 32 j.val) (BitVec.ofNat 32 k.val)
      = BitVec.ofBool (decide (j = k)) := by decide +kernel
  pointwise [part, hl, hq, hc]

theorem unstack_at (Z : FVec Ideal S512x256 .f32) (j : Fin 4) (r : Fin 128) (d : Fin 64) :
    unstack Z (ix2 r (lane j d)) = Z (ix2 (row j r) (lane j d)) := by
  have h : ∀ (k : Fin 4) z, part (BitVec.ofNat 32 k.val) z (ix2 r (lane j d)) = if j = k then z (ix2 r (lane j d)) else 0 :=
    fun k z => part_at k j z r d
  have h0 := h 0
  have h1 := h 1
  have h2 := h 2
  have h3 := h 3
  pointwise [unstack]
  erw [h0, h1, h2, h3]
  obtain ⟨j, hj⟩ := j
  interval_cases j <;> pointwise <;> simp [row] <;> congr 2 <;> apply Fin.ext <;> simp

theorem dq_at {K : FVec Ideal S640x256 .bf16} {k : Fin 640 → Fin 256 → EReal} {W : FVec Ideal S512x640 .bf16} {w : Fin 4 → Fin 128 → Fin 640 → EReal}
    (hK : ∀ c l, K (ix2 c l) = k c l) (hW : ∀ j r c, W (ix2 (row j r) c) = w j r c) (j : Fin 4) (r : Fin 128) (d : Fin 64) :
    unstack (k0_pay41 (F := Ideal) K W) (ix2 r (lane j d)) = ∑ c, w j r c * k c (lane j d) := by
  rw [unstack_at]
  have h1 := hW j r
  have h2 := fun c => hK c (lane j d)
  pointwise [k0_pay41, h1, h2]

section
variable (v48 v49 v50 : Vec Ideal S128x256 .bf16) (v51 : Vec Ideal S256x256 .bf16)
/-- The 640 key rows: three blocks of the band, then the context. -/
def cat640 (a b c : Fin 128 → Fin 256 → EReal) (e : Fin 256 → Fin 256 → EReal) (n : Fin 640) (l : Fin 256) : EReal :=
  if h : n.val < 128 then a ⟨n.val, h⟩ l else if h : n.val < 256 then b ⟨n.val - 128, by omega⟩ l
    else if h : n.val < 384 then c ⟨n.val - 256, by omega⟩ l else e ⟨n.val - 384, by omega⟩ l

theorem cat_at (c : Fin 640) (l : Fin 256) : k0_pay10 (F := Ideal) v48 v49 v50 v51 (ix2 c l)
    = cat640 (fun r l => v48 (ix2 r l)) (fun r l => v49 (ix2 r l)) (fun r l => v50 (ix2 r l)) (fun r l => v51 (ix2 r l)) c l := by
  pointwise [k0_pay10, cat640]
  by_cases h1 : c.val < 128
  · rw [dif_pos h1, dif_pos h1]
  · rw [dif_neg h1, dif_neg h1]
    by_cases h2 : c.val < 256
    · rw [dif_pos (by omega), dif_pos h2]
    · rw [dif_neg (by omega), dif_neg h2]
      by_cases h3 : c.val < 384
      · rw [dif_pos (by omega), dif_pos h3]; first | rfl | (congr 2; done) | (congr 2; apply Fin.ext; dsimp only; omega)
      · rw [dif_neg (by omega), dif_neg h3]; first | rfl | (congr 2; done) | (congr 2; apply Fin.ext; dsimp only; omega)
end

/-! ## The first group's and the second group's payloads are these -/

section
variable (v40 : Vec Ideal S128x512 .bf16) (v41 v47 v45 : Vec Ideal S128x512 .f32)

theorem q_eq0 : k0_pay15 (F := Ideal) (k0_pay12 v40) (iota .tc S512x256 32 [0] iota_S512x256_d0_w32) (iota .tc S512x256 32 [1] iota_S512x256_d1_w32) 128#32 k0_pay13 k0_pay14 (Scalar.extui (Scalar.cmpi .sgt 128#32 0#32)) (Scalar.cmpi .slt 128#32 0#32)
   = stackQ (k0_pay12 v40) := rfl
theorem q_eq1 : k0_pay63 (F := Ideal) (k0_pay59 v40) (iota .tc S512x256 32 [1] iota_S512x256_d1_w32) k0_pay60 64#32 k0_pay61 k0_pay62 (Scalar.extui (Scalar.cmpi .sgt 64#32 0#32))
   = stackQ (k0_pay59 v40) := rfl
theorem y_eq0 : k0_pay19 (F := Ideal) (k0_pay16 v41) (iota .tc S512x256 32 [0] iota_S512x256_d0_w32) (iota .tc S512x256 32 [1] iota_S512x256_d1_w32) 128#32 k0_pay17 k0_pay18
   = stackY (k0_pay16 v41) := rfl
theorem y_eq1 : k0_pay68 (F := Ideal) (k0_pay64 v41) (iota .tc S512x256 32 [1] iota_S512x256_d1_w32) k0_pay65 64#32 k0_pay66 k0_pay67
   = stackY (k0_pay64 v41) := rfl
theorem l_eq0 : k0_pay26 (F := Ideal) (k0_pay20 v47) k0_pay21 k0_pay22 k0_pay23 k0_pay24 k0_pay25
   = rowMax (k0_pay16 v47) := rfl
theorem l_eq1 : k0_pay74 (F := Ideal) (k0_pay69 v47) (iota .tc S512x256 32 [1] iota_S512x256_d1_w32) k0_pay70 k0_pay71 k0_pay72 k0_pay73
   = rowMax (k0_pay64 v47) := rfl
theorem d_eq0 : k0_pay31 (F := Ideal) (k0_pay27 v45) (iota .tc S512x256 32 [1] iota_S512x256_d1_w32) k0_pay28 64#32 k0_pay29 k0_pay30
   = rowSum (k0_pay16 v45) := rfl
theorem d_eq1 : k0_pay78 (F := Ideal) (k0_pay75 v45) (iota .tc S512x256 32 [0] iota_S512x256_d0_w32) (iota .tc S512x256 32 [1] iota_S512x256_d1_w32) 128#32 k0_pay76 k0_pay77
   = rowSum (k0_pay64 v45) := rfl
theorem ds_eq0 (v39) (K V : FVec Ideal S640x256 .bf16) (X Y : FVec Ideal S512x256 .bf16) (L : FVec Ideal S512x1 .f32) (a b c e f g) :
    k0_pay33 (F := Ideal) v39 K V X Y L a b c e f g = dsV v39 K V X Y L (k0_pay31 a b c e f g) := rfl
theorem ds_eq1 (v39) (K V : FVec Ideal S640x256 .bf16) (X Y : FVec Ideal S512x256 .bf16) (L D : FVec Ideal S512x1 .f32) :
    k0_pay80 (F := Ideal) v39 K V X Y L D = dsV v39 K V X Y L D := rfl
theorem p_eq1 (v39) (K : FVec Ideal S640x256 .bf16) (X : FVec Ideal S512x256 .bf16) (L : FVec Ideal S512x1 .f32) :
    k0_pay79 (F := Ideal) v39 K X L = k0_pay32 v39 K X L := rfl
theorem s_eq0 (L : FVec Ideal S512x1 .f32) (a b c e f g s0 s1 s2 s3) :
    k0_pay34 (F := Ideal) L a b c e f g s0 s1 s2 s3 = sinkV L (k0_pay31 a b c e f g) s0 s1 s2 s3 := rfl
theorem s_eq1 (L D : FVec Ideal S512x1 .f32) (s0 s1 s2 s3) :
    k0_pay81 (F := Ideal) L D s0 s1 s2 s3 = sinkV L D s0 s1 s2 s3 := rfl
theorem u_eq0 (K : FVec Ideal S640x256 .bf16) (W : FVec Ideal S512x640 .bf16) :
    k0_pay50 (F := Ideal) (k0_pay48 (k0_pay41 K W) (k0_pay44 (k0_pay41 K W) (k0_pay42 K W) (iota .tc S1x256 32 [1] iota_S1x256_d1_w32) 64#32 k0_pay43 0#32)
      (iota .tc S1x256 32 [1] iota_S1x256_d1_w32) k0_pay45 k0_pay46 k0_pay47) (k0_pay49 (k0_pay41 K W)) = unstack (k0_pay41 K W) := rfl
theorem u_eq1 (Z : FVec Ideal S512x256 .f32) :
    k0_pay97 (F := Ideal) Z (k0_pay93 Z (k0_pay90 Z (iota .tc S1x256 32 [1] iota_S1x256_d1_w32) 64#32 k0_pay88 k0_pay89 (Scalar.cmpi .sgt 64#32 0#32)) k0_pay91 k0_pay92)
    (iota .tc S1x256 32 [1] iota_S1x256_d1_w32) 64#32 k0_pay94 k0_pay95 k0_pay96 = unstack Z := rfl
theorem dq_eq1 (K : FVec Ideal S640x256 .bf16) (W : FVec Ideal S512x640 .bf16) : k0_pay87 (F := Ideal) K W = k0_pay41 K W := rfl
theorem dk_eq1 (X : FVec Ideal S512x256 .bf16) (W : FVec Ideal S512x640 .bf16) : k0_pay98 (F := Ideal) X W = k0_pay51 X W := rfl
theorem dv_eq0 (X : FVec Ideal S512x256 .bf16) (W : FVec Ideal S512x640 .f32) : k0_pay52 (F := Ideal) X W = k0_pay51 X W := rfl
theorem dv_eq1 (X : FVec Ideal S512x256 .bf16) (W : FVec Ideal S512x640 .f32) : k0_pay99 (F := Ideal) X W = k0_pay51 X W := rfl
end

end Cert.Attn
-- ==== Proof.AttnSpec.lean ====
/- Hand-written: the window attention's gradient over the real numbers, one head at a time: the mathematics both
   programs are brought to. -/
module

public import proofs.«01_k».proof.Proof.Reals
public import proofs.«01_k».proof.Proof.AttnPoint

@[expose] public noncomputable section

open Idealize.ShloMosaic
open scoped BigOperators

namespace Cert.Attn

/-- Column of lane `d` of head `h`. -/
abbrev col (h : Fin 8) (d : Fin 64) : Fin 512 := ⟨h.val * 64 + d.val, by omega⟩

/-- Query row `r` of block `b`. -/
abbrev pos (b : Fin 16) (r : Fin 128) : Fin 2048 := ⟨b.val * 128 + r.val, by omega⟩

/-- The saved array's row of key `c` of block `b`: a band of three neighbouring blocks (kept inside the array), then
    the context. -/
def key (b : Fin 16) (c : Fin 640) : Fin 2304 :=
  if h : c.val < 384 then ⟨(min (b.val + c.val / 128 - 1) 15 + 2) * 128 + c.val % 128, by omega⟩
  else ⟨c.val - 384, by omega⟩

namespace Spec
variable (Q G : Fin 2048 → Fin 512 → ℝ) (K V : Fin 2304 → Fin 512 → ℝ) (s : Fin 8 → ℝ)
variable (b : Fin 16) (h : Fin 8)

/-- A logit. -/
def S (r : Fin 128) (c : Fin 640) : ℝ := ∑ d : Fin 64, Q (pos b r) (col h d) * K (key b c) (col h d)

/-- The exponential of a logit, zero where the row does not see the key. -/
def E (r : Fin 128) (c : Fin 640) : ℝ := if Valid b.val r.val c.val then Real.exp (S Q K b h r c) else 0

/-- A row's normaliser: its keys and its sink. -/
def W (r : Fin 128) : ℝ := ∑ c, E Q K b h r c + Real.exp (s h)

/-- A weight. -/
def P (r : Fin 128) (c : Fin 640) : ℝ := E Q K b h r c / W Q K s b h r

/-- The product of a row's cotangent and a value. -/
def T (r : Fin 128) (c : Fin 640) : ℝ := ∑ d : Fin 64, G (pos b r) (col h d) * V (key b c) (col h d)

/-- A row's weighted mean of those. -/
def Dl (r : Fin 128) : ℝ := ∑ c, P Q K s b h r c * T G V b h r c

/-- The gradient of a logit. -/
def DS (r : Fin 128) (c : Fin 640) : ℝ := P Q K s b h r c * (T G V b h r c - Dl Q G K V s b h r)

/-- The attention's result. -/
def Y (r : Fin 128) (d : Fin 64) : ℝ := ∑ c, P Q K s b h r c * V (key b c) (col h d)

/-- The query's gradient. -/
def dq (r : Fin 128) (d : Fin 64) : ℝ := ∑ c, DS Q G K V s b h r c * K (key b c) (col h d)

/-- A key's gradient from block `b`. -/
def dk (c : Fin 640) (d : Fin 64) : ℝ := ∑ r, DS Q G K V s b h r c * Q (pos b r) (col h d)

/-- A value's gradient from block `b`. -/
def dv (c : Fin 640) (d : Fin 64) : ℝ := ∑ r, P Q K s b h r c * G (pos b r) (col h d)

/-- A sink's gradient from block `b`. -/
def dt : ℝ := -∑ r, Real.exp (s h) / W Q K s b h r * Dl Q G K V s b h r

theorem E_nonneg (r c) : 0 ≤ E Q K b h r c := by
  unfold E; split_ifs
  · exact (Real.exp_pos _).le
  · exact le_rfl

theorem W_pos (r) : 0 < W Q K s b h r :=
  add_pos_of_nonneg_of_pos (Finset.sum_nonneg fun c _ => E_nonneg Q K b h r c) (Real.exp_pos _)

/-- The row's mean product is the product of cotangent and result. -/
theorem Dl_eq (r) : ∑ d : Fin 64, G (pos b r) (col h d) * Y Q K V s b h r d = Dl Q G K V s b h r := by
  unfold Dl Y T
  simp only [Finset.mul_sum]
  rw [Finset.sum_comm]
  refine Finset.sum_congr rfl fun c _ => Finset.sum_congr rfl fun d _ => ?_
  ring

end Spec

/-! ## The kernel's grid point -/

section Kernel
variable {Q G : Fin 2048 → Fin 512 → ℝ} {K V : Fin 2304 → Fin 512 → ℝ} {s : Fin 8 → ℝ}
variable (b : Fin 16) (g : Fin 2)

/-- Head `j` of lane group `g`. -/
abbrev hd (g : Fin 2) (j : Fin 4) : Fin 8 := ⟨g.val * 4 + j.val, by omega⟩

/-- Column of lane `l` of group `g`. -/
abbrev gcol (g : Fin 2) (l : Fin 256) : Fin 512 := ⟨g.val * 256 + l.val, by omega⟩

theorem gcol_lane (j : Fin 4) (d : Fin 64) : gcol g (lane j d) = col (hd g j) d := by
  apply Fin.ext; show g.val * 256 + (j.val * 64 + d.val) = (g.val * 4 + j.val) * 64 + d.val; omega

variable {q dy dyy lse : Fin 128 → Fin 256 → EReal} {k v : Fin 640 → Fin 256 → EReal}

/-- What a grid point reads, for lane group `g`. -/
structure Reads (Q G : Fin 2048 → Fin 512 → ℝ) (K V : Fin 2304 → Fin 512 → ℝ) (s : Fin 8 → ℝ) (b : Fin 16) (g : Fin 2)
    (q dy dyy lse : Fin 128 → Fin 256 → EReal) (k v : Fin 640 → Fin 256 → EReal) : Prop where
  q_eq : ∀ r l, q r l = (Q (pos b r) (gcol g l) : ℝ)
  dy_eq : ∀ r l, dy r l = (G (pos b r) (gcol g l) : ℝ)
  k_eq : ∀ c l, k c l = (K (key b c) (gcol g l) : ℝ)
  v_eq : ∀ c l, v c l = (V (key b c) (gcol g l) : ℝ)
  dyy_eq : ∀ r j d, dyy r (lane j d) = (G (pos b r) (col (hd g j) d) * Spec.Y Q K V s b (hd g j) r d : ℝ)
  lse_eq : ∀ r j d, lse r (lane j d) = (Real.log (Spec.W Q K s b (hd g j) r) : ℝ)

variable {b g}
variable (H : Reads Q G K V s b g q dy dyy lse k v)
include H

theorem gS_eq (j r c) : gS q k j r c = (Spec.S Q K b (hd g j) r c : ℝ) := by
  unfold gS Spec.S
  rw [Reals.coe_sum]
  refine Finset.sum_congr rfl fun d _ => ?_
  rw [H.q_eq, H.k_eq, gcol_lane, EReal.coe_mul]

theorem gT_eq (j r c) : gS dy v j r c = (Spec.T G V b (hd g j) r c : ℝ) := by
  unfold gS Spec.T
  rw [Reals.coe_sum]
  refine Finset.sum_congr rfl fun d _ => ?_
  rw [H.dy_eq, H.v_eq, gcol_lane, EReal.coe_mul]

theorem gL_eq (j r) : gL lse j r = (Real.log (Spec.W Q K s b (hd g j) r) : ℝ) := by
  unfold gL
  simp only [H.lse_eq]
  rw [fold_max_eq_sup]
  exact Finset.sup_const ⟨0, Finset.mem_univ _⟩ _

theorem gD_eq (j r) : gD dyy j r = (Spec.Dl Q G K V s b (hd g j) r : ℝ) := by
  unfold gD
  simp only [H.dyy_eq]
  rw [← Reals.coe_sum, Spec.Dl_eq]

theorem gP_eq (j r c) : gP b.val q lse k j r c = (Spec.P Q K s b (hd g j) r c : ℝ) := by
  unfold gP Spec.P Spec.E
  rw [gS_eq H, gL_eq H]
  split_ifs
  · rw [← EReal.coe_sub, Ideal.exp_coe, Real.exp_sub, Real.exp_log (Spec.W_pos _ _ _ _ _ _)]
  · simp

theorem gDS_eq (j r c) : gDS b.val q dy dyy lse k v j r c = (Spec.DS Q G K V s b (hd g j) r c : ℝ) := by
  unfold gDS Spec.DS
  rw [gP_eq H, gT_eq H, gD_eq H]
  norm_cast

theorem gDQ_eq (j r d) : gDQ b.val q dy dyy lse k v j r d = (Spec.dq Q G K V s b (hd g j) r d : ℝ) := by
  unfold gDQ Spec.dq
  rw [Reals.coe_sum]
  refine Finset.sum_congr rfl fun c _ => ?_
  rw [gDS_eq H, H.k_eq, gcol_lane, EReal.coe_mul]

theorem gDK_eq (j c d) : gDK b.val q dy dyy lse k v j c d = (Spec.dk Q G K V s b (hd g j) c d : ℝ) := by
  unfold gDK Spec.dk
  rw [Reals.coe_sum]
  refine Finset.sum_congr rfl fun r _ => ?_
  rw [gDS_eq H, H.q_eq, gcol_lane, EReal.coe_mul]

theorem gDV_eq (j c d) : gDV b.val q dy lse k j c d = (Spec.dv Q G K s b (hd g j) c d : ℝ) := by
  unfold gDV Spec.dv
  rw [Reals.coe_sum]
  refine Finset.sum_congr rfl fun r _ => ?_
  rw [gP_eq H, H.dy_eq, gcol_lane, EReal.coe_mul]

theorem gDT_eq (j) : -gDT dyy lse (s (hd g j) : ℝ) j = (Spec.dt Q G K V s b (hd g j) : ℝ) := by
  unfold gDT Spec.dt
  rw [EReal.coe_neg, Reals.coe_sum]
  congr 1
  refine Finset.sum_congr rfl fun r _ => ?_
  rw [gL_eq H, gD_eq H, ← EReal.coe_sub, Ideal.exp_coe, Real.exp_sub, Real.exp_log (Spec.W_pos _ _ _ _ _ _), EReal.coe_mul]

end Kernel

/-! ## The plain gradient's row -/

section Row
variable {Q G : Fin 2048 → Fin 512 → ℝ} {K V : Fin 2304 → Fin 512 → ℝ} {s : Fin 8 → ℝ}
variable (b : Fin 16) (h : Fin 8) (r : Fin 128)

/-- A row of logits with its sink last: minus infinity where the row does not see the key. -/
def rowL (Q : Fin 2048 → Fin 512 → ℝ) (K : Fin 2304 → Fin 512 → ℝ) (s : Fin 8 → ℝ) (b : Fin 16) (h : Fin 8) (r : Fin 128)
    (c : Fin 641) : EReal :=
  if hc : c.val < 640 then if Valid b.val r.val c.val then (Spec.S Q K b h r ⟨c.val, hc⟩ : ℝ) else ⊥ else (s h : ℝ)

/-- The row's largest logit. -/
def rowM (Q : Fin 2048 → Fin 512 → ℝ) (K : Fin 2304 → Fin 512 → ℝ) (s : Fin 8 → ℝ) (b : Fin 16) (h : Fin 8) (r : Fin 128) : EReal :=
  Finset.univ.fold max ⊥ (rowL Q K s b h r)

/-- It is a real number: the sink is one, and no logit is plus infinity. -/
theorem rowM_real : ∃ μ : ℝ, rowM Q K s b h r = (μ : EReal) := by
  have hlo : (s h : EReal) ≤ rowM Q K s b h r := by
    have : rowL Q K s b h r 640 ≤ Finset.univ.sup (rowL Q K s b h r) := Finset.le_sup (Finset.mem_univ _)
    refine le_trans (le_of_eq ?_) this
    unfold rowL
    rw [dif_neg (by decide)]
  have hhi : rowM Q K s b h r < ⊤ := by
    show Finset.univ.sup (rowL Q K s b h r) < ⊤
    rw [Finset.sup_lt_iff (by exact bot_lt_top)]
    intro c _
    unfold rowL
    split_ifs
    · exact EReal.coe_lt_top _
    · exact bot_lt_top
    · exact EReal.coe_lt_top _
  refine ⟨(rowM Q K s b h r).toReal, (EReal.coe_toReal hhi.ne ?_).symm⟩
  intro e
  rw [e] at hlo
  exact absurd (le_bot_iff.mp hlo) (EReal.coe_ne_bot _)

/-- The row's exponentials after the largest logit `μ` is taken off. -/
theorem rowE_eq {μ : ℝ} (c : Fin 641) :
    Ideal.exp (rowL Q K s b h r c - (μ : EReal))
      = ((if hc : c.val < 640 then Spec.E Q K b h r ⟨c.val, hc⟩ else Real.exp (s h)) * Real.exp (-μ) : ℝ) := by
  unfold rowL Spec.E
  split_ifs
  · rw [← EReal.coe_sub, Ideal.exp_coe, sub_eq_add_neg, Real.exp_add]
  · rw [EReal.bot_sub, Ideal.exp_bot]; simp
  · rw [← EReal.coe_sub, Ideal.exp_coe, sub_eq_add_neg, Real.exp_add]

/-- A sum over a row of 641 is the sum over its keys and the sink's term. -/
theorem sum641 {M : Type*} [AddCommMonoid M] (f : Fin 641 → M) : ∑ c, f c = ∑ c : Fin 640, f c.castSucc + f 640 :=
  Fin.sum_univ_castSucc f

/-- The row's sum. -/
theorem rowZ_eq {μ : ℝ} : ∑ c, Ideal.exp (rowL Q K s b h r c - (μ : EReal))
    = (Spec.W Q K s b h r * Real.exp (-μ) : ℝ) := by
  simp only [rowE_eq]
  rw [← Reals.coe_sum, sum641]
  congr 1
  unfold Spec.W
  rw [add_mul, Finset.sum_mul]
  simp

/-- The row's log-sum. -/
theorem rowLse_eq {μ : ℝ} : (μ : EReal) + Ideal.log (Spec.W Q K s b h r * Real.exp (-μ) : ℝ) = (Real.log (Spec.W Q K s b h r) : ℝ) := by
  have hW := Spec.W_pos Q K s b h r
  rw [Ideal.log_coe, if_neg (not_le.mpr (mul_pos hW (Real.exp_pos _))), Real.log_mul hW.ne' (Real.exp_pos _).ne', Real.log_exp, ← EReal.coe_add]
  congr 1
  ring

/-- The row's weights. -/
theorem rowP_eq {μ : ℝ} (c : Fin 640) :
    Ideal.div (Ideal.exp (rowL Q K s b h r c.castSucc - (μ : EReal))) (Spec.W Q K s b h r * Real.exp (-μ) : ℝ)
      = (Spec.P Q K s b h r c : ℝ) := by
  have hW := Spec.W_pos Q K s b h r
  have hm := Real.exp_pos (-μ)
  rw [rowE_eq, Reals.div_coe_coe _ (mul_pos hW hm).ne']
  congr 1
  simp only [Fin.val_castSucc, Fin.is_lt, dite_true]
  unfold Spec.P
  field_simp

/-- The row of products of the cotangent with the values: nothing for the sink. -/
def rowT (t : Fin 640 → ℝ) (c : Fin 641) : ℝ := if hc : c.val < 640 then t ⟨c.val, hc⟩ else 0

/-- The gradient of a row's logits in the plain spelling, from products that may differ where the row does not see
    the key. -/
theorem rowDS_eq {μ : ℝ} (t : Fin 640 → ℝ) (ht : ∀ c : Fin 640, Valid b.val r.val c.val → t c = Spec.T G V b h r c) (c : Fin 641) :
    (Ideal.div (rowT t c : ℝ) (Spec.W Q K s b h r * Real.exp (-μ) : ℝ)
        + -∑ c', (rowT t c' : EReal) * Ideal.div 1 ((Spec.W Q K s b h r * Real.exp (-μ) : ℝ) * (Spec.W Q K s b h r * Real.exp (-μ) : ℝ))
            * Ideal.exp (rowL Q K s b h r c' - (μ : EReal)))
        * Ideal.exp (rowL Q K s b h r c - (μ : EReal))
      = ((if hc : c.val < 640 then Spec.DS Q G K V s b h r ⟨c.val, hc⟩
          else -(Real.exp (s h) / Spec.W Q K s b h r * Spec.Dl Q G K V s b h r) : ℝ) : EReal) := by
  have hW := Spec.W_pos Q K s b h r
  have hm := Real.exp_pos (-μ)
  have hWm := mul_pos hW hm
  have hsum : ∑ c', (rowT t c' : EReal) * Ideal.div 1 ((Spec.W Q K s b h r * Real.exp (-μ) : ℝ) * (Spec.W Q K s b h r * Real.exp (-μ) : ℝ))
            * Ideal.exp (rowL Q K s b h r c' - (μ : EReal))
      = (Spec.Dl Q G K V s b h r / (Spec.W Q K s b h r * Real.exp (-μ)) : ℝ) := by
    rw [← EReal.coe_mul, ← EReal.coe_one, Reals.div_coe_coe _ (mul_pos hWm hWm).ne']
    simp only [rowE_eq, ← EReal.coe_mul]
    rw [← Reals.coe_sum, sum641]
    congr 1
    simp only [rowT, Fin.val_castSucc, Fin.is_lt, dite_true]
    have h0 : ¬ ((640 : Fin 641).val < 640) := by decide
    rw [dif_neg h0]
    unfold Spec.Dl
    rw [Finset.sum_div, zero_mul, zero_mul, add_zero]
    refine Finset.sum_congr rfl fun c _ => ?_
    have hc : t c * Spec.E Q K b h r c = Spec.T G V b h r c * Spec.E Q K b h r c := by
      by_cases hv : Valid b.val r.val c.val
      · rw [ht c hv]
      · unfold Spec.E; rw [if_neg hv, mul_zero, mul_zero]
    show t c * _ * (Spec.E Q K b h r c * _) = _
    calc _ = t c * Spec.E Q K b h r c * (1 / (Spec.W Q K s b h r * Real.exp (-μ) * (Spec.W Q K s b h r * Real.exp (-μ))) * Real.exp (-μ)) := by ring
      _ = _ := by rw [hc]; unfold Spec.P; field_simp
  rw [hsum, rowE_eq, Reals.div_coe_coe _ hWm.ne', ← EReal.coe_neg, ← EReal.coe_add, ← EReal.coe_mul]
  congr 1
  unfold rowT
  split_ifs with hc
  · have hE : t ⟨c.val, hc⟩ * Spec.E Q K b h r ⟨c.val, hc⟩ = Spec.T G V b h r ⟨c.val, hc⟩ * Spec.E Q K b h r ⟨c.val, hc⟩ := by
      by_cases hv : Valid b.val r.val c.val
      · rw [ht ⟨c.val, hc⟩ hv]
      · unfold Spec.E; rw [if_neg hv, mul_zero, mul_zero]
    unfold Spec.DS Spec.P
    have : ∀ x w e m d : ℝ, 0 < w → 0 < m → (x / (w * m) + -(d / (w * m))) * (e * m) = (x * e - d * e) / w := by
      intro x w e m d hw hm; field_simp; ring
    rw [this _ _ _ _ _ hW hm, hE]
    field_simp
  · have : ∀ w e m d : ℝ, 0 < w → 0 < m → (0 / (w * m) + -(d / (w * m))) * (e * m) = -(e / w * d) := by
      intro w e m d hw hm; field_simp; ring
    exact this _ _ _ _ hW hm

/-- A logit's gradient is zero where the row does not see the key. -/
theorem DS_zero (c : Fin 640) (hv : ¬ Valid b.val r.val c.val) : Spec.DS Q G K V s b h r c = 0 := by
  unfold Spec.DS Spec.P Spec.E; rw [if_neg hv, zero_div, zero_mul]

theorem P_zero (c : Fin 640) (hv : ¬ Valid b.val r.val c.val) : Spec.P Q K s b h r c = 0 := by
  unfold Spec.P Spec.E; rw [if_neg hv, zero_div]

end Row

end Cert.Attn
-- ==== Proof.AttnRef.lean ====
/- Hand-written: the plain attention gradient's program, read at an index and brought to the real mathematics. -/
module

public import proofs.«01_k».proof.Proof.AttnSpec
public import proofs.«01_k».proof.Proof.Gen.ReferenceIdeal.Run
public import Idealize.ShloMosaic.Lib.Pipeline.ValueKit

set_option maxRecDepth 16384

@[expose] public noncomputable section

open Idealize.ShloMosaic Idealize.ShloMosaic.TcCoe Idealize.SL.Sem Idealize.ShloMosaic.StableHlo
open scoped BigOperators

namespace Cert.Attn

/-- The mask of a band's keys, in words. -/
theorem band_word (b : Fin 16) (r : Fin 128) (c : Fin 384) :
    IntOp.andi
      (IntOp.andi
        (IntOp.cmpi CmpIPredicate.sle
          (IntOp.absi (IntOp.subi (IntOp.subi (BitVec.ofNat 32 c.val) 128#32) (BitVec.ofNat 32 r.val))) 128#32)
        (IntOp.cmpi CmpIPredicate.sge
          (IntOp.addi (IntOp.muli (IntOp.subi (BitVec.ofNat 32 b.val) 1#32) 128#32) (BitVec.ofNat 32 c.val)) 0#32))
      (IntOp.cmpi CmpIPredicate.slt
        (IntOp.addi (IntOp.muli (IntOp.subi (BitVec.ofNat 32 b.val) 1#32) 128#32) (BitVec.ofNat 32 c.val)) 2048#32) =
    BitVec.ofBool (decide (Valid b.val r.val c.val)) := by
  have hp := pos_word b.val c.val b.isLt (by omega)
  simp only [Scalar.muli, Scalar.subi] at hp
  rw [near_word _ _ (by omega) r.isLt, hp, low_word _ (by omega), high_word _ (by omega)]
  have hc : ¬ 384 ≤ c.val := by omega
  have e : decide (Valid b.val r.val c.val) = (decide (r.val ≤ c.val ∧ c.val ≤ r.val + 256) && decide (128 ≤ 128 * b.val + c.val)
      && decide (128 * b.val + c.val < 2176)) := by
    unfold Valid
    simp only [hc, or_false, ← Bool.decide_and, and_assoc]
  rw [e]
  generalize decide (r.val ≤ c.val ∧ c.val ≤ r.val + 256) = A
  generalize decide (128 ≤ 128 * b.val + c.val) = B
  generalize decide (128 * b.val + c.val < 2176) = C
  revert A B C
  decide

/-- A key the row sees stands where the band's padded copy has it. -/
theorem key_valid (b : Fin 16) (r : Fin 128) (c : Fin 640) (h : c.val < 384) (hv : Valid b.val r.val c.val) :
    (key b c).val = b.val * 128 + c.val + 128 := by
  unfold key Valid at *
  rw [dif_pos h]
  dsimp only
  omega

namespace Ref
open Cert.ReferenceIdeal Cert.ReferenceIdeal.Gen Cert.ReferenceIdeal.Value

/-- The five arguments hold these real numbers. -/
structure Args (V0 : Valuation τ sig (Elt Ideal)) (Q G : Fin 2048 → Fin 512 → ℝ) (K V : Fin 2304 → Fin 512 → ℝ) (s : Fin 8 → ℝ) :
    Prop where
  q_eq : ∀ (t : Fin 2048) (l : Fin 512), (V0 (Proc.devRef .tc main_arg0) : FVec Ideal S2304x512 .bf16) (ix2 (⟨256 + t.val, by omega⟩ : Fin 2304) l) = ((Q t l : ℝ) : EReal)
  k_eq : ∀ (t : Fin 2304) (l : Fin 512), (V0 (Proc.devRef .tc main_arg1) : FVec Ideal S2304x512 .bf16) (ix2 t l) = ((K t l : ℝ) : EReal)
  v_eq : ∀ (t : Fin 2304) (l : Fin 512), (V0 (Proc.devRef .tc main_arg2) : FVec Ideal S2304x512 .bf16) (ix2 t l) = ((V t l : ℝ) : EReal)
  s_eq : ∀ h : Fin 8, (V0 (Proc.devRef .tc main_arg3) : FVec Ideal S8 .f32) (ix1 h) = ((s h : ℝ) : EReal)
  g_eq : ∀ (t : Fin 2048) (l : Fin 512), (V0 (Proc.devRef .tc main_arg4) : FVec Ideal S2048x512 .f32) (ix2 t l) = ((G t l : ℝ) : EReal)

/-- A band of three neighbouring blocks of a saved array, zero outside the sequence. -/
def bandOf (K : Fin 2304 → Fin 512 → ℝ) (b : Fin 16) (c : Fin 384) (l : Fin 512) : ℝ :=
  if h : 128 ≤ b.val * 128 + c.val ∧ b.val * 128 + c.val < 2176 then K ⟨b.val * 128 + c.val + 128, by omega⟩ l else 0

theorem bandOf_valid (K : Fin 2304 → Fin 512 → ℝ) (b : Fin 16) (r : Fin 128) (c : Fin 384) (l : Fin 512)
    (hv : Valid b.val r.val c.val) : bandOf K b c l = K (key b ⟨c.val, by omega⟩) l := by
  have h := key_valid b r ⟨c.val, by omega⟩ c.isLt hv
  unfold bandOf
  have hc := c.isLt
  rw [dif_pos (by unfold Valid at hv; omega)]
  congr 1
  exact Fin.ext h.symm

/-- The three neighbouring blocks laid end to end, read at the band's position `c`. -/
theorem band_split {K : Fin 2304 → Fin 512 → ℝ} (a : Fin 2304 → Fin 512 → EReal)
    (ha : ∀ t l, a t l = (K t l : EReal)) (b : Fin 16) (c : Fin 384) (l : Fin 512) {z : EReal}
    (hz : z = ((0 : ℝ) : EReal)) :
    (if h1 : c.val < 128 then
        (if h : 128 ≤ b.val * 128 + c.val ∧ b.val * 128 + c.val - 128 < 2048 then
          a ⟨256 + (b.val * 128 + c.val - 128), by omega⟩ l else z)
      else if h2 : c.val - 128 < 128 then
        (if h : 128 ≤ (1 + b.val) * 128 + (c.val - 128) ∧ (1 + b.val) * 128 + (c.val - 128) - 128 < 2048 then
          a ⟨256 + ((1 + b.val) * 128 + (c.val - 128) - 128), by omega⟩ l else z)
      else
        (if h : 128 ≤ (2 + b.val) * 128 + (c.val - 128 - 128) ∧
            (2 + b.val) * 128 + (c.val - 128 - 128) - 128 < 2048 then
          a ⟨256 + ((2 + b.val) * 128 + (c.val - 128 - 128) - 128), by omega⟩ l else z))
      = (bandOf K b c l : EReal) := by
  have hc := c.isLt
  subst hz
  simp only [ha]
  unfold bandOf
  split_ifs <;> first
    | omega
    | rfl
    | (congr 2; apply Fin.ext; dsimp only; omega)

variable {V0 : Valuation τ sig (Elt Ideal)} {Q G : Fin 2048 → Fin 512 → ℝ} {K V : Fin 2304 → Fin 512 → ℝ} {s : Fin 8 → ℝ}

theorem mask_at (b : Fin 16) (h : Fin 8) (r : Fin 128) (c : Fin 384) :
    res_main_v57_1 V0 (ix4 b h r c) = BitVec.ofBool (decide (Valid b.val r.val c.val)) := by
  pointwise [res_main_v57_1, res_main_v37, res_main_v27]
  exact band_word b r c

theorem zero_word : FloatOps.sitofp (F := Ideal) FTy.f32 0#32 = (0 : EReal) := by
  simp [FloatOps.sitofp]

variable (HA : Args V0 Q G K V s)
include HA

theorem q_at (b : Fin 16) (r : Fin 128) (h : Fin 8) (d : Fin 64) :
    res_main_v22 V0 (ix4 b r h d) = (Q (pos b r) (col h d) : EReal) := by
  pointwise [res_main_v22]
  exact HA.q_eq (pos b r) (col h d)

theorem g_at (b : Fin 16) (r : Fin 128) (h : Fin 8) (d : Fin 64) :
    res_main_v99 V0 (ix4 b r h d) = (G (pos b r) (col h d) : EReal) := by
  pointwise [res_main_v99]
  exact HA.g_eq (pos b r) (col h d)

theorem bandk_at (b : Fin 16) (c : Fin 384) (h : Fin 8) (d : Fin 64) :
    res_main_v12 V0 (ix4 b c h d) = (bandOf K b c (col h d) : EReal) := by
  pointwise [res_main_v12, res_main_v8, res_main_v3]
  exact band_split (fun t l => V0 (Proc.devRef .tc main_arg1) (ix2 t l)) HA.k_eq b c (col h d) zero_word

theorem bandv_at (b : Fin 16) (c : Fin 384) (h : Fin 8) (d : Fin 64) :
    res_main_v19 V0 (ix4 b c h d) = (bandOf V b c (col h d) : EReal) := by
  pointwise [res_main_v19, res_main_v15, res_main_v4]
  exact band_split (fun t l => V0 (Proc.devRef .tc main_arg2) (ix2 t l)) HA.v_eq b c (col h d) zero_word

theorem ctxk_at (c : Fin 256) (h : Fin 8) (d : Fin 64) :
    res_main_v20 V0 (ix3 c h d) = (K ⟨c.val, by omega⟩ (col h d) : EReal) := by
  pointwise [res_main_v20, res_main_v3]
  exact HA.k_eq _ _

theorem ctxv_at (c : Fin 256) (h : Fin 8) (d : Fin 64) :
    res_main_v21 V0 (ix3 c h d) = (V ⟨c.val, by omega⟩ (col h d) : EReal) := by
  pointwise [res_main_v21, res_main_v4]
  exact HA.v_eq _ _

omit HA in
theorem key_ctx (b : Fin 16) (c : Fin 640) (h : ¬ c.val < 384) : key b c = ⟨c.val - 384, by omega⟩ := by
  unfold key; rw [dif_neg h]

omit HA in
theorem s_band (K : Fin 2304 → Fin 512 → ℝ) (b : Fin 16) (h : Fin 8) (r : Fin 128) (c : Fin 384) (hv : Valid b.val r.val c.val) :
    ∑ x : Fin 64, (Q (pos b r) (col h x) : EReal) * (bandOf K b c (col h x) : EReal) = (Spec.S Q K b h r ⟨c.val, by omega⟩ : EReal) := by
  unfold Spec.S
  rw [Reals.coe_sum]
  exact Finset.sum_congr rfl fun d _ => by rw [bandOf_valid K b r c _ hv, EReal.coe_mul]

omit HA in
theorem s_ctx (K : Fin 2304 → Fin 512 → ℝ) (b : Fin 16) (h : Fin 8) (r : Fin 128) (c : Fin 640) (hc : ¬ c.val < 384) :
    ∑ x : Fin 64, (K ⟨c.val - 384, by omega⟩ (col h x) : EReal) * (Q (pos b r) (col h x) : EReal) = (Spec.S Q K b h r c : EReal) := by
  unfold Spec.S
  rw [Reals.coe_sum]
  exact Finset.sum_congr rfl fun d _ => by rw [key_ctx b c hc, mul_comm, EReal.coe_mul]

/-- The logits. -/
theorem s_at (b : Fin 16) (h : Fin 8) (r : Fin 128) (c : Fin 641) :
    res_main_v62 V0 (ix4 b h r c) = rowL Q K s b h r c := by
  have hm := mask_at (V0 := V0) b h r
  have hq := q_at HA b r h
  have hk := fun c d => bandk_at HA b c h d
  have hc := fun c d => ctxk_at HA c h d
  have hs := HA.s_eq h
  have hinf : id (constant (F := Ideal) S_ FTy.f32 4286578688#32) ix0 = (⊥ : EReal) := ninf_f32
  pointwise [res_main_v62, hm, hq, hk, hc]
  unfold rowL
  by_cases h1 : c.val < 384
  · rw [dif_pos h1, dif_pos (by omega : c.val < 640)]
    by_cases hv : Valid b.val r.val c.val
    · simp only [hv, decide_true, if_true]
      exact s_band K b h r (⟨c.val, h1⟩ : Fin 384) hv
    · simp only [hv, decide_false, if_false]
      exact hinf
  · rw [dif_neg h1]
    by_cases h2 : c.val - 384 < 256
    · have hv : Valid b.val r.val c.val := by unfold Valid; omega
      rw [dif_pos h2, dif_pos (by omega : c.val < 640)]
      exact (s_ctx K b h r ⟨c.val, by omega⟩ h1).trans (if_pos hv).symm
    · rw [dif_neg h2, dif_neg (by omega : ¬ c.val < 640)]
      exact hs

omit HA in
/-- A fold over the positions with given leading indices is the fold over the last index. -/
theorem fold_row (f : S16x8x128x641.Idx → EReal) (b : Fin 16) (h : Fin 8) (r : Fin 128)
    [DecidablePred fun i : S16x8x128x641.Idx => reducesTo_S16x8x128x641_S16x8x128_d3.drop i = ix3 b h r] :
    Finset.fold max (⊥ : EReal) f {i | reducesTo_S16x8x128x641_S16x8x128_d3.drop i = ix3 b h r}
      = Finset.univ.fold max ⊥ fun c : Fin 641 => f (ix4 b h r c) := by
  show Finset.sup _ f = Finset.sup _ _
  apply le_antisymm
  · refine Finset.sup_le fun i hi => ?_
    have hi := (Finset.mem_filter.mp hi).2
    have : i = ix4 b h r (i 3) := by
      funext a
      have h0 := congrFun hi 0
      have h1 := congrFun hi 1
      have h2 := congrFun hi 2
      fin_cases a
      · exact h0
      · exact h1
      · exact h2
      · rfl
    rw [this]
    exact Finset.le_sup (f := fun c : Fin 641 => f (ix4 b h r c)) (Finset.mem_univ (i 3))
  · refine Finset.sup_le fun c _ => ?_
    refine Finset.le_sup (f := f) (Finset.mem_filter.mpr ⟨Finset.mem_univ _, ?_⟩)
    funext a
    fin_cases a <;> rfl

end Ref

end Cert.Attn
-- ==== Proof.AttnRef2.lean ====
/- Hand-written: the plain attention gradient's weights and logit gradients, brought to the real mathematics. -/
module

public import proofs.«01_k».proof.Proof.AttnRef

set_option maxRecDepth 16384

@[expose] public noncomputable section

open Idealize.ShloMosaic Idealize.ShloMosaic.TcCoe Idealize.SL.Sem Idealize.ShloMosaic.StableHlo
open scoped BigOperators

namespace Cert.Attn.Ref
open Cert.ReferenceIdeal Cert.ReferenceIdeal.Gen Cert.ReferenceIdeal.Value

variable {V0 : Valuation τ sig (Elt Ideal)} {Q G : Fin 2048 → Fin 512 → ℝ} {K V : Fin 2304 → Fin 512 → ℝ} {s : Fin 8 → ℝ}

/-- The fold over a row, for any operation that is the maximum. -/
theorem fold_op (op : EReal → EReal → EReal) [Std.Commutative op] [Std.Associative op] (hop : op = max) (z : EReal) (hz : z = ⊥)
    (x : S16x8x128x641.Idx → EReal) (b : Fin 16) (h : Fin 8) (r : Fin 128)
    [DecidablePred fun i : S16x8x128x641.Idx => reducesTo_S16x8x128x641_S16x8x128_d3.drop i = ix3 b h r] :
    Finset.fold op z x {i | reducesTo_S16x8x128x641_S16x8x128_d3.drop i = ix3 b h r}
      = Finset.univ.fold max ⊥ fun c : Fin 641 => x (ix4 b h r c) := by
  subst hop hz
  exact fold_row x b h r

/-- A maximum over the last axis, at an index. -/
theorem max_row (x : FVec Ideal S16x8x128x641 .f32) (b : Fin 16) (h : Fin 8) (r : Fin 128) :
    (Host.reduce FloatOps.maximumf x (constant S_ .f32 0xFF800000#32) reducesTo_S16x8x128x641_S16x8x128_d3 h_S_
      : FVec Ideal S16x8x128 .f32) (ix3 b h r) = Finset.univ.fold max (⊥ : EReal) fun c : Fin 641 => x (ix4 b h r c) :=
  (Host.reduce_eq_fold _ _ _ _ _ _).trans (fold_op _ rfl _ ninf_f32 x b h r)

/-- The exponential of a logit less its row's maximum, at an index. -/
theorem exp_read (x : FVec Ideal S16x8x128x641 .f32) (m : FVec Ideal S16x8x128 .f32) (b : Fin 16) (h : Fin 8) (r : Fin 128) (c : Fin 641) :
    (Host.exp (subf x (broadcastInDim S16x8x128x641 ![0, 1, 2, 3] bcast_S16x8x128x1_S16x8x128x641_0_1_2_3
      (broadcastInDim S16x8x128x1 ![0, 1, 2] bcast_S16x8x128_S16x8x128x1_0_1_2
        (maximumf (broadcastInDim S16x8x128 ![] bcast_S_S16x8x128 (constant S_ .f32 0xFF800000#32)) m))))
      : FVec Ideal S16x8x128x641 .f32) (ix4 b h r c)
      = Ideal.exp (x (ix4 b h r c) - max (Ideal.ofBits .f32 0xFF800000#32) (m (ix3 b h r))) := by
  pointwise

variable (HA : Args V0 Q G K V s)
include HA

/-- The rows' largest logits. -/
theorem m_at (b : Fin 16) (h : Fin 8) (r : Fin 128) : res_main_v63 V0 (ix3 b h r) = rowM Q K s b h r :=
  (max_row (res_main_v62 V0) b h r).trans (congrArg (Finset.univ.fold max ⊥) (funext fun c => s_at HA b h r c))

/-- The exponentials. -/
theorem e_at (b : Fin 16) (h : Fin 8) (r : Fin 128) (c : Fin 641) :
    res_main_v83 V0 (ix4 b h r c) = Ideal.exp (rowL Q K s b h r c - rowM Q K s b h r) := by
  refine (exp_read (res_main_v62 V0) (res_main_v63 V0) b h r c).trans ?_
  rw [s_at HA b h r c, m_at HA b h r, ninf_f32, max_bot_left]

/-- The rows' sums. -/
theorem z_at {μ : ℝ} (b : Fin 16) (h : Fin 8) (r : Fin 128) (hμ : rowM Q K s b h r = (μ : EReal)) :
    res_main_v85 V0 (ix4 b h r 0) = ((Spec.W Q K s b h r * Real.exp (-μ) : ℝ) : EReal) := by
  have he := fun c => e_at HA b h r c
  pointwise [res_main_v85, he]
  rw [hμ]
  exact rowZ_eq b h r

/-- The weights. -/
theorem p_at (b : Fin 16) (h : Fin 8) (r : Fin 128) (c : Fin 640) :
    res_main_v87 V0 (ix4 b h r c.castSucc) = (Spec.P Q K s b h r c : EReal) := by
  obtain ⟨μ, hμ⟩ := rowM_real (Q := Q) (K := K) (s := s) b h r
  have he := e_at HA b h r c.castSucc
  have hz := z_at HA b h r hμ
  pointwise [res_main_v87, he, hz]
  rw [hμ]
  exact rowP_eq b h r c

/-- The products of cotangents and values, as the padded band has them. -/
def tOf (G : Fin 2048 → Fin 512 → ℝ) (V : Fin 2304 → Fin 512 → ℝ) (b : Fin 16) (h : Fin 8) (r : Fin 128) (c : Fin 640) : ℝ :=
  if hc : c.val < 384 then ∑ x : Fin 64, G (pos b r) (col h x) * bandOf V b ⟨c.val, hc⟩ (col h x)
  else ∑ x : Fin 64, G (pos b r) (col h x) * V ⟨c.val - 384, by omega⟩ (col h x)

omit HA in
theorem tOf_valid (G : Fin 2048 → Fin 512 → ℝ) (V : Fin 2304 → Fin 512 → ℝ) (b : Fin 16) (h : Fin 8) (r : Fin 128) (c : Fin 640)
    (hv : Valid b.val r.val c.val) : tOf G V b h r c = Spec.T G V b h r c := by
  unfold tOf Spec.T
  split_ifs with hc
  · exact Finset.sum_congr rfl fun x _ => by rw [bandOf_valid V b r ⟨c.val, hc⟩ _ hv]
  · exact Finset.sum_congr rfl fun x _ => by rw [key_ctx b c hc]

omit HA in
/-- The two padded products together. -/
theorem t_sum (G : Fin 2048 → Fin 512 → ℝ) (V : Fin 2304 → Fin 512 → ℝ) (b : Fin 16) (h : Fin 8) (r : Fin 128) (c : Fin 641) :
    ((if h_1 : 384 ≤ c.val ∧ c.val - 384 < 256 then
        ∑ x : Fin 64, (G (pos b r) (col h x) : EReal) * (V ⟨c.val - 384, by omega⟩ (col h x) : EReal) else 0) +
      if h_1 : c.val < 384 then ∑ x : Fin 64, (G (pos b r) (col h x) : EReal) * (bandOf V b ⟨c.val, h_1⟩ (col h x) : EReal) else 0)
      = ((rowT (tOf G V b h r) c : ℝ) : EReal) := by
  have hc := c.isLt
  unfold rowT tOf
  by_cases h1 : c.val < 384
  · rw [dif_neg (by omega), dif_pos h1, dif_pos (by omega), dif_pos h1, zero_add, Reals.coe_sum]
    simp only [EReal.coe_mul]
  · by_cases h2 : c.val < 640
    · rw [dif_pos (by omega), dif_neg h1, dif_pos h2, dif_neg h1, add_zero, Reals.coe_sum]
      simp only [EReal.coe_mul]
    · rw [dif_neg (by omega), dif_neg h1, dif_neg h2, add_zero]; rfl

theorem t_at (b : Fin 16) (h : Fin 8) (r : Fin 128) (c : Fin 641) :
    res_main_v111 V0 (ix4 b h r c) = ((rowT (tOf G V b h r) c : ℝ) : EReal) := by
  have hg := fun r h d => g_at HA b r h d
  have hk := fun c d => bandv_at HA b c h d
  have hc := fun c d => ctxv_at HA c h d
  pointwise [res_main_v111, res_main_v100, res_main_v106, hg, hk, hc]
  exact t_sum G V b h r c

theorem ds_at (b : Fin 16) (h : Fin 8) (r : Fin 128) (c : Fin 641) :
    res_main_v123 V0 (ix4 b h r c) = ((if hc : c.val < 640 then Spec.DS Q G K V s b h r ⟨c.val, hc⟩
          else -(Real.exp (s h) / Spec.W Q K s b h r * Spec.Dl Q G K V s b h r) : ℝ) : EReal) := by
  obtain ⟨μ, hμ⟩ := rowM_real (Q := Q) (K := K) (s := s) b h r
  have he := fun c => e_at HA b h r c
  have hz := z_at HA b h r hμ
  have ht := fun c => t_at HA b h r c
  pointwise [res_main_v123, he, hz, ht]
  rw [hμ, Fin.sum_univ_one]
  exact rowDS_eq b h r (tOf G V b h r) (fun c hv => tOf_valid G V b h r c hv) c

end Cert.Attn.Ref
-- ==== Proof.AttnRef3.lean ====
/- Hand-written: the six results of the plain attention gradient, as the real mathematics. -/
module

public import proofs.«01_k».proof.Proof.AttnRef2

set_option maxRecDepth 16384

@[expose] public noncomputable section

open Idealize.ShloMosaic Idealize.ShloMosaic.TcCoe Idealize.SL.Sem Idealize.ShloMosaic.StableHlo
open scoped BigOperators

namespace Cert.Attn

/-- Block of a query row, its row there; head of a column, its lane there. -/
abbrev rowB (t : Fin 2048) : Fin 16 := ⟨t.val / 128, by omega⟩
abbrev rowR (t : Fin 2048) : Fin 128 := ⟨t.val % 128, by omega⟩
abbrev colH (l : Fin 512) : Fin 8 := ⟨l.val / 64, by omega⟩
abbrev colD (l : Fin 512) : Fin 64 := ⟨l.val % 64, by omega⟩

/-- A sum over all keys is the band's and the context's. -/
theorem sum640 {M : Type*} [AddCommMonoid M] (f : Fin 640 → M) :
    ∑ c, f c = ∑ c : Fin 384, f ⟨c.val, by omega⟩ + ∑ c : Fin 256, f ⟨384 + c.val, by omega⟩ :=
  Fin.sum_univ_add (a := 384) (b := 256) f

end Cert.Attn

namespace Cert.Attn.Ref
open Cert.ReferenceIdeal Cert.ReferenceIdeal.Gen Cert.ReferenceIdeal.Value

variable {V0 : Valuation τ sig (Elt Ideal)} {Q G : Fin 2048 → Fin 512 → ℝ} {K V : Fin 2304 → Fin 512 → ℝ} {s : Fin 8 → ℝ}
/-- A sum over every axis but the heads', the last of length one. -/
theorem sum_sink (x : FVec Ideal S16x8x128x1 .f32) (h : Fin 8) :
    Ideal.hostReduceAdd reducesTo_S16x8x128x1_S8_d0_2_3 x 0 (ix1 h) = ∑ b : Fin 16, ∑ r : Fin 128, x (ix4 b h r 0) := by
  unfold Ideal.hostReduceAdd
  rw [zero_add, ← Finset.sum_product' Finset.univ Finset.univ fun (b : Fin 16) (r : Fin 128) => x (ix4 b h r 0)]
  refine Finset.sum_nbij' (fun i => (i 0, i 2)) (fun p => ix4 p.1 h p.2 0) ?_ ?_ ?_ ?_ ?_
  · intro i _; exact Finset.mem_product.mpr ⟨Finset.mem_univ _, Finset.mem_univ _⟩
  · intro p _
    refine Finset.mem_filter.mpr ⟨Finset.mem_univ _, ?_⟩
    funext a
    fin_cases a
    rfl
  · intro i hi
    have hi := congrFun (Finset.mem_filter.mp hi).2 0
    funext a
    fin_cases a
    · rfl
    · exact hi.symm
    · rfl
    · exact (Subsingleton.elim (α := Fin 1) _ _)
  · intro p _; rfl
  · intro i hi
    have hi := congrFun (Finset.mem_filter.mp hi).2 0
    refine congrArg x ?_
    funext a
    fin_cases a
    · rfl
    · exact hi
    · rfl
    · exact (Subsingleton.elim (α := Fin 1) _ _)

variable (HA : Args V0 Q G K V s)
include HA

/-- The context logits' gradients. -/
theorem dsc_at (h : Fin 8) (c : Fin 256) (b : Fin 16) (r : Fin 128) :
    res_main_v130 V0 (ix4 h c b r) = (Spec.DS Q G K V s b h r ⟨384 + c.val, by omega⟩ : EReal) := by
  have hd := fun c => ds_at HA b h r c
  pointwise [res_main_v130, hd]
  rw [dif_pos (by omega)]

/-- The band logits' gradients. -/
theorem dsb_at (b : Fin 16) (h : Fin 8) (r : Fin 128) (c : Fin 384) :
    res_main_v135 V0 (ix4 b h r c) = (Spec.DS Q G K V s b h r ⟨c.val, by omega⟩ : EReal) := by
  have hd := fun c => ds_at HA b h r c
  have hm := mask_at (V0 := V0) b h r
  pointwise [res_main_v135, hd, hm]
  by_cases hv : Valid b.val r.val c.val
  · simp only [hv, decide_true, if_true]
    rw [dif_pos (by omega)]
  · simp only [hv, decide_false, if_false]
    rw [DS_zero b h r ⟨c.val, by omega⟩ hv]
    first | exact zero_word | (show _ = _; simp)

theorem pb_at (b : Fin 16) (h : Fin 8) (r : Fin 128) (c : Fin 384) :
    res_main_v91 V0 (ix4 b h r c) = (Spec.P Q K s b h r ⟨c.val, by omega⟩ : EReal) := by
  have hp := p_at HA b h r ⟨c.val, by omega⟩
  simp only [Fin.castSucc_mk] at hp
  pointwise [res_main_v91, hp]

theorem pc_at (b : Fin 16) (h : Fin 8) (r : Fin 128) (c : Fin 256) :
    res_main_v94 V0 (ix4 b h r c) = (Spec.P Q K s b h r ⟨384 + c.val, by omega⟩ : EReal) := by
  have hp := p_at HA b h r ⟨384 + c.val, by omega⟩
  simp only [Fin.castSucc_mk] at hp
  pointwise [res_main_v94, hp]

/-- The query's gradient. -/
theorem dq_at (t : Fin 2048) (l : Fin 512) :
    (shapeCast S2048x512 (addf (transpose S16x128x8x64 [1, 2, 0, 3] (Host.dotGeneral (φ₁ := .f32) (φ₂ := .f32) dot_S8x256x16x128_S256x8x64_S8x16x128x64_1_0_23_2_0_1 none (res_main_v130 V0) (res_main_v20 V0)) transposes_S8x16x128x64_S16x128x8x64_1_2_0_3) (transpose S16x128x8x64 [0, 2, 1, 3] (Host.dotGeneral (φ₁ := .f32) (φ₂ := .f32) dot_S16x8x128x384_S16x384x8x64_S16x8x128x64_3_1_2_3_01_02 none (res_main_v135 V0) (res_main_v12 V0)) transposes_S16x8x128x64_S16x128x8x64_0_2_1_3)) shapeCasts_S16x128x8x64_S2048x512 : FVec Ideal S2048x512 .f32) (ix2 t l)
      = ((Spec.dq Q G K V s (rowB t) (colH l) (rowR t) (colD l) : ℝ) : EReal) := by
  have h1 := fun h c b r => dsc_at HA h c b r
  have h2 := fun b h r c => dsb_at HA b h r c
  have h3 := fun c h d => ctxk_at HA c h d
  have h4 := fun b c h d => bandk_at HA b c h d
  pointwise [h1, h2, h3, h4]
  unfold Spec.dq
  rw [Reals.coe_sum, sum640, add_comm]
  congr 1
  · refine Finset.sum_congr rfl fun c _ => ?_
    rw [EReal.coe_mul]
    by_cases hv : Valid (rowB t).val (rowR t).val c.val
    · rw [bandOf_valid K (rowB t) (rowR t) c _ hv]
    · rw [DS_zero (rowB t) (colH l) (rowR t) ⟨c.val, by omega⟩ hv, EReal.coe_zero, zero_mul, zero_mul]

/-- The band keys' gradients. -/
theorem dkw_at (b : Fin 16) (c : Fin 384) (l : Fin 512) :
    (shapeCast S16x384x512 (transpose S16x384x8x64 [0, 2, 1, 3] (Host.dotGeneral (φ₁ := .f32) (φ₂ := .f32) dot_S16x8x128x384_S16x128x8x64_S16x8x384x64_2_1_3_3_01_02 none (res_main_v135 V0) (res_main_v22 V0)) transposes_S16x8x384x64_S16x384x8x64_0_2_1_3) shapeCasts_S16x384x8x64_S16x384x512 : FVec Ideal S16x384x512 .f32) (ix3 b c l)
      = ((Spec.dk Q G K V s b (colH l) ⟨c.val, by omega⟩ (colD l) : ℝ) : EReal) := by
  have h2 := fun b h r c => dsb_at HA b h r c
  have h4 := fun b r h d => q_at HA b r h d
  pointwise [h2, h4]
  unfold Spec.dk
  rw [Reals.coe_sum]
  simp only [EReal.coe_mul]

/-- The band values' gradients. -/
theorem dvw_at (b : Fin 16) (c : Fin 384) (l : Fin 512) :
    (shapeCast S16x384x512 (transpose S16x384x8x64 [0, 3, 1, 2] (Host.dotGeneral (φ₁ := .f32) (φ₂ := .f32) dot_S16x8x64x128_S16x8x128x384_S16x8x64x384_3_2_2_3_01_01 none (res_main_v106 V0) (res_main_v91 V0)) transposes_S16x8x64x384_S16x384x8x64_0_3_1_2) shapeCasts_S16x384x8x64_S16x384x512 : FVec Ideal S16x384x512 .f32) (ix3 b c l)
      = ((Spec.dv Q G K s b (colH l) ⟨c.val, by omega⟩ (colD l) : ℝ) : EReal) := by
  have h2 := fun b h r c => pb_at HA b h r c
  have h4 := fun b r h d => g_at HA b r h d
  pointwise [res_main_v106, h2, h4]
  unfold Spec.dv
  rw [Reals.coe_sum]
  refine Finset.sum_congr rfl fun r _ => ?_
  rw [EReal.coe_mul, mul_comm]

/-- The context keys' gradients. -/
theorem dkc_at (c : Fin 256) (l : Fin 512) :
    (shapeCast S256x512 (transpose S256x8x64 [1, 0, 2] (Host.dotGeneral (φ₁ := .f32) (φ₂ := .f32) dot_S8x256x16x128_S16x128x8x64_S8x256x64_23_01_1_3_0_2 none (res_main_v130 V0) (res_main_v22 V0)) transposes_S8x256x64_S256x8x64_1_0_2) shapeCasts_S256x8x64_S256x512 : FVec Ideal S256x512 .f32) (ix2 c l)
      = ((∑ b, Spec.dk Q G K V s b (colH l) ⟨384 + c.val, by omega⟩ (colD l) : ℝ) : EReal) := by
  have h2 := fun h c b r => dsc_at HA h c b r
  have h4 := fun b r h d => q_at HA b r h d
  pointwise [h2, h4]
  unfold Spec.dk
  rw [Reals.coe_sum]
  refine Finset.sum_congr rfl fun b _ => ?_
  rw [Reals.coe_sum]
  simp only [EReal.coe_mul]

/-- The context values' gradients. -/
theorem dvc_at (c : Fin 256) (l : Fin 512) :
    (shapeCast S256x512 (transpose S256x8x64 [2, 0, 1] (Host.dotGeneral (φ₁ := .f32) (φ₂ := .f32) dot_S8x64x16x128_S16x8x128x256_S8x64x256_23_02_1_3_0_1 none (res_main_v100 V0) (res_main_v94 V0)) transposes_S8x64x256_S256x8x64_2_0_1) shapeCasts_S256x8x64_S256x512 : FVec Ideal S256x512 .f32) (ix2 c l)
      = ((∑ b, Spec.dv Q G K s b (colH l) ⟨384 + c.val, by omega⟩ (colD l) : ℝ) : EReal) := by
  have h2 := fun b h r c => pc_at HA b h r c
  have h4 := fun b r h d => g_at HA b r h d
  pointwise [res_main_v100, h2, h4]
  unfold Spec.dv
  rw [Reals.coe_sum]
  refine Finset.sum_congr rfl fun b _ => ?_
  rw [Reals.coe_sum]
  refine Finset.sum_congr rfl fun r _ => ?_
  rw [EReal.coe_mul, mul_comm]

/-- The sinks' gradients. -/
theorem dsk_at (h : Fin 8) (l : Fin 128) :
    (broadcastInDim S8x128 ![0, 1] bcast_S8x1_S8x128_0_1 (broadcastInDim S8x1 ![0] bcast_S8_S8x1_0 (shapeCast S8 (broadcastInDim S1x8x1x1 ![1] bcast_S8_S1x8x1x1_1 (Host.reduceAdd (extractStridedSlice S16x8x128x1 ![0, 0, 0, 640] (res_main_v123 V0) slices_S16x8x128x641_S16x8x128x1_0_0_0_640) (constant S_ .f32 0x00000000#32) reducesTo_S16x8x128x1_S8_d0_2_3 h_S_)) shapeCasts_S1x8x1x1_S8)) : FVec Ideal S8x128 .f32) (ix2 h l)
      = ((∑ b, Spec.dt Q G K V s b h : ℝ) : EReal) := by
  pointwise
  rw [sum_sink]
  unfold Spec.dt
  rw [Reals.coe_sum]
  refine Finset.sum_congr rfl fun b _ => ?_
  rw [← Finset.sum_neg_distrib, Reals.coe_sum]
  refine Finset.sum_congr rfl fun r _ => ?_
  have hd := ds_at HA b h r 640
  pointwise [hd]

end Cert.Attn.Ref
-- ==== Proof.AttnGroup.lean ====
/- Hand-written: what one grid point of the attention gradient stores, from the blocks that it reads: each stored piece is
   the real mathematics at that point's block, for both groups of four heads. -/
module

public import proofs.«01_k».proof.Proof.AttnRef3
public import Idealize.ShloMosaic.Lib.Pipeline.ValueKit

set_option maxRecDepth 16384

@[expose] public noncomputable section

open Idealize.ShloMosaic Idealize.ShloMosaic.TcCoe Idealize.SL.Sem
open scoped BigOperators

namespace Cert.Attn
open Cert.KernelIdeal Cert.KernelIdeal.Gen

variable {Q G : Fin 2048 → Fin 512 → ℝ} {K V : Fin 2304 → Fin 512 → ℝ} {s : Fin 8 → ℝ} {b : Fin 16} {g : Fin 2}

/-! ## Heads and lanes of a group -/

theorem lane_surj (l : Fin 256) : ∃ (j : Fin 4) (d : Fin 64), l = lane j d :=
  ⟨⟨l.val / 64, by omega⟩, ⟨l.val % 64, by omega⟩, by apply Fin.ext; show l.val = l.val / 64 * 64 + l.val % 64; omega⟩

theorem colH_lane (g : Fin 2) (j : Fin 4) (d : Fin 64) : colH (gcol g (lane j d)) = hd g j := by
  apply Fin.ext; show (g.val * 256 + (j.val * 64 + d.val)) / 64 = g.val * 4 + j.val; omega

theorem colD_lane (g : Fin 2) (j : Fin 4) (d : Fin 64) : colD (gcol g (lane j d)) = d := by
  apply Fin.ext; show (g.val * 256 + (j.val * 64 + d.val)) % 64 = d.val; omega

/-! ## The blocks of a point -/

/-- The query rows, the result's gradient, the attention's output and the log-sum-exp of block `b`. -/
structure Blk (Q G : Fin 2048 → Fin 512 → ℝ) (K V : Fin 2304 → Fin 512 → ℝ) (s : Fin 8 → ℝ) (b : Fin 16)
    (v40 : Vec Ideal S128x512 .bf16) (v41 : Vec Ideal S128x512 .f32) (v42 : Vec Ideal S128x512 .bf16) (v46 : Vec Ideal S128x512 .f32) : Prop where
  q_at : ∀ r l, v40 (ix2 r l) = ((Q (pos b r) l : ℝ) : EReal)
  d_at : ∀ r l, v41 (ix2 r l) = ((G (pos b r) l : ℝ) : EReal)
  y_at : ∀ r l, v42 (ix2 r l) = ((Spec.Y Q K V s b (colH l) r (colD l) : ℝ) : EReal)
  l_at : ∀ r l, v46 (ix2 r l) = ((Real.log (Spec.W Q K s b (colH l) r) : ℝ) : EReal)

/-- The three neighbouring blocks of key (or value) rows, and the context's. -/
structure Win (K : Fin 2304 → Fin 512 → ℝ) (b : Fin 16) (x2 x3 x4 : Vec Ideal S128x512 .bf16) (x5 : Vec Ideal S256x512 .bf16) : Prop where
  p0 : ∀ (r : Fin 128) l, x2 (ix2 r l) = ((K (key b ⟨r.val, by omega⟩) l : ℝ) : EReal)
  p1 : ∀ (r : Fin 128) l, x3 (ix2 r l) = ((K (key b ⟨128 + r.val, by omega⟩) l : ℝ) : EReal)
  p2 : ∀ (r : Fin 128) l, x4 (ix2 r l) = ((K (key b ⟨256 + r.val, by omega⟩) l : ℝ) : EReal)
  p3 : ∀ (r : Fin 256) l, x5 (ix2 r l) = ((K (key b ⟨384 + r.val, by omega⟩) l : ℝ) : EReal)

/-- The columns of group `g`. -/
def Half (g : Fin 2) (x : Vec Ideal S128x512 .bf16) (a : Vec Ideal S128x256 .bf16) : Prop := ∀ r l, a (ix2 r l) = x (ix2 r (gcol g l))
/-- The columns of group `g` of the context's rows. -/
def HalfC (g : Fin 2) (x : Vec Ideal S256x512 .bf16) (a : Vec Ideal S256x256 .bf16) : Prop := ∀ r l, a (ix2 r l) = x (ix2 r (gcol g l))

theorem cat_win {x2 x3 x4 : Vec Ideal S128x512 .bf16} {x5 : Vec Ideal S256x512 .bf16} {a2 a3 a4 : Vec Ideal S128x256 .bf16} {a5 : Vec Ideal S256x256 .bf16}
    (H : Win K b x2 x3 x4 x5) (h2 : Half g x2 a2) (h3 : Half g x3 a3) (h4 : Half g x4 a4) (h5 : HalfC g x5 a5) (c : Fin 640) (l : Fin 256) :
    k0_pay10 (F := Ideal) a2 a3 a4 a5 (ix2 c l) = ((K (key b c) (gcol g l) : ℝ) : EReal) := by
  rw [cat_at]
  unfold cat640
  split_ifs with e1 e2 e3
  · exact (h2 _ _).trans (H.p0 _ _)
  · refine (h3 _ _).trans ((H.p1 _ _).trans ?_)
    congr 3; apply Fin.ext; dsimp only; omega
  · refine (h4 _ _).trans ((H.p2 _ _).trans ?_)
    congr 3; apply Fin.ext; dsimp only; omega
  · refine (h5 _ _).trans ((H.p3 _ _).trans ?_)
    congr 3; apply Fin.ext; dsimp only; omega

/-! ## One group of four heads -/

/-- A group's stacked operands read block `b`'s real numbers. -/
def Grp (Q G : Fin 2048 → Fin 512 → ℝ) (K V : Fin 2304 → Fin 512 → ℝ) (s : Fin 8 → ℝ) (b : Fin 16) (g : Fin 2) (i : grid0.Coords)
    (KK VV : FVec Ideal S640x256 .bf16) (X Y : FVec Ideal S512x256 .bf16) (L D : FVec Ideal S512x1 .f32) : Prop :=
  ∃ (q dy dyy lse : Fin 128 → Fin 256 → EReal) (k v : Fin 640 → Fin 256 → EReal), Reads Q G K V s b g q dy dyy lse k v
    ∧ (∀ c l, KK (ix2 c l) = k c l) ∧ (∀ c l, VV (ix2 c l) = v c l) ∧ IsStack X q ∧ IsStack Y dy
    ∧ (∀ j r, L (ix2 (row j r) 0) = gL lse j r) ∧ (∀ j r, D (ix2 (row j r) 0) = gD dyy j r) ∧ (i 0).val = b.val

section
variable {i : grid0.Coords} {KK VV : FVec Ideal S640x256 .bf16} {X Y : FVec Ideal S512x256 .bf16} {L D : FVec Ideal S512x1 .f32}
variable (H : Grp Q G K V s b g i KK VV X Y L D)
include H

theorem Grp.dq (r : Fin 128) (l : Fin 256) :
    unstack (k0_pay41 (F := Ideal) KK (dsV (k0_pay7 i) KK VV X Y L D)) (ix2 r l)
      = ((Spec.dq Q G K V s b (colH (gcol g l)) r (colD (gcol g l)) : ℝ) : EReal) := by
  obtain ⟨q, dy, dyy, lse, k, v, R, hK, hV, hX, hY, hL, hD, hi⟩ := H
  obtain ⟨j, d, rfl⟩ := lane_surj l
  rw [colH_lane, colD_lane, dq_at hK (fun j r c => ds_at hK hV hX hY hL hD j r c), hi]
  exact gDQ_eq R j r d

theorem Grp.dk (c : Fin 640) (l : Fin 256) :
    k0_pay51 (F := Ideal) X (dsV (k0_pay7 i) KK VV X Y L D) (ix2 c l)
      = ((Spec.dk Q G K V s b (colH (gcol g l)) c (colD (gcol g l)) : ℝ) : EReal) := by
  obtain ⟨q, dy, dyy, lse, k, v, R, hK, hV, hX, hY, hL, hD, hi⟩ := H
  obtain ⟨j, d, rfl⟩ := lane_surj l
  rw [colH_lane, colD_lane, dk_at (fun j r c => ds_at hK hV hX hY hL hD j r c) hX, hi]
  exact gDK_eq R j c d

theorem Grp.dv (c : Fin 640) (l : Fin 256) :
    k0_pay51 (F := Ideal) Y (k0_pay32 (F := Ideal) (k0_pay7 i) KK X L) (ix2 c l)
      = ((Spec.dv Q G K s b (colH (gcol g l)) c (colD (gcol g l)) : ℝ) : EReal) := by
  obtain ⟨q, dy, dyy, lse, k, v, R, hK, hV, hX, hY, hL, hD, hi⟩ := H
  obtain ⟨j, d, rfl⟩ := lane_surj l
  rw [colH_lane, colD_lane, dk_at (fun j r c => p_at hK hX hL j r c) hY, hi]
  exact gDV_eq R j c d

theorem Grp.dt (s0 s1 s2 s3 : Elt Ideal .f32) (hs : ∀ j, (![s0, s1, s2, s3] j : EReal) = ((s (hd g j) : ℝ) : EReal)) (j : Fin 4) :
    -∑ r, sinkV L D s0 s1 s2 s3 (ix2 (row j r) 0) = ((Spec.dt Q G K V s b (hd g j) : ℝ) : EReal) := by
  obtain ⟨q, dy, dyy, lse, k, v, R, hK, hV, hX, hY, hL, hD, hi⟩ := H
  rw [← gDT_eq R j]
  unfold gDT
  congr 1
  refine Finset.sum_congr rfl fun r _ => ?_
  rw [sinkV_at s0 s1 s2 s3 hL hD, hs]
end

section
variable {i : grid0.Coords} {KK VV : FVec Ideal S640x256 .bf16}
variable {v40 v42 : Vec Ideal S128x512 .bf16} {v41 v46 : Vec Ideal S128x512 .f32}

theorem pay8_at (v41 : Vec Ideal S128x512 .f32) (v42 : Vec Ideal S128x512 .bf16) (r : Fin 128) (l : Fin 512) :
    k0_pay8 (F := Ideal) v41 v42 (ix2 r l) = (v41 (ix2 r l) : EReal) * v42 (ix2 r l) := by
  pointwise [k0_pay8]

theorem pay9_at (v46 : Vec Ideal S128x512 .f32) (r : Fin 128) (l : Fin 512) : k0_pay9 (F := Ideal) v46 (ix2 r l) = v46 (ix2 r l) := by
  pointwise [k0_pay9]

theorem col0 (l : Fin 256) : (⟨l.val, by omega⟩ : Fin 512) = gcol 0 l := by apply Fin.ext; simp
theorem col1 (l : Fin 256) : (⟨256 + l.val, by omega⟩ : Fin 512) = gcol 1 l := by apply Fin.ext; simp

theorem reads_of (HB : Blk Q G K V s b v40 v41 v42 v46) (hK : ∀ c l, KK (ix2 c l) = ((K (key b c) (gcol g l) : ℝ) : EReal))
    (hV : ∀ c l, VV (ix2 c l) = ((V (key b c) (gcol g l) : ℝ) : EReal)) :
    Reads Q G K V s b g (fun r l => v40 (ix2 r (gcol g l))) (fun r l => v41 (ix2 r (gcol g l)))
      (fun r l => k0_pay8 (F := Ideal) v41 v42 (ix2 r (gcol g l))) (fun r l => k0_pay9 (F := Ideal) v46 (ix2 r (gcol g l)))
      (fun c l => KK (ix2 c l)) (fun c l => VV (ix2 c l)) where
  q_eq r l := HB.q_at r _
  dy_eq r l := HB.d_at r _
  k_eq := hK
  v_eq := hV
  dyy_eq r j d := by
    rw [pay8_at, HB.d_at, HB.y_at, colH_lane, colD_lane, gcol_lane, EReal.coe_mul]
  lse_eq r j d := by
    rw [pay9_at, HB.l_at, colH_lane]

theorem copies_q (g : Fin 2) (v : Vec Ideal S128x512 .bf16) :
    (g = 0 → Copies (φ := .bf16) (k0_pay12 (F := Ideal) v) fun r l => v (ix2 r (gcol g l)))
    ∧ (g = 1 → Copies (φ := .bf16) (k0_pay59 (F := Ideal) v) fun r l => v (ix2 r (gcol g l))) := by
  constructor
  · rintro rfl j r l
    exact (copies_q0 v j r l).trans (congrArg (fun x => v (ix2 r x)) (col0 l))
  · rintro rfl j r l
    exact (copies_q1 v j r l).trans (congrArg (fun x => v (ix2 r x)) (col1 l))

theorem copies_d (g : Fin 2) (v : Vec Ideal S128x512 .f32) :
    (g = 0 → Copies (φ := .f32) (k0_pay16 (F := Ideal) v) fun r l => v (ix2 r (gcol g l)))
    ∧ (g = 1 → Copies (φ := .f32) (k0_pay64 (F := Ideal) v) fun r l => v (ix2 r (gcol g l))) := by
  constructor
  · rintro rfl j r l
    exact (copies_d0 v j r l).trans (congrArg (fun x => v (ix2 r x)) (col0 l))
  · rintro rfl j r l
    exact (copies_d1 v j r l).trans (congrArg (fun x => v (ix2 r x)) (col1 l))

theorem grp0 (HB : Blk Q G K V s b v40 v41 v42 v46) (hi : (i 0).val = b.val) (hK : ∀ c l, KK (ix2 c l) = ((K (key b c) (gcol 0 l) : ℝ) : EReal))
    (hV : ∀ c l, VV (ix2 c l) = ((V (key b c) (gcol 0 l) : ℝ) : EReal)) :
    Grp Q G K V s b 0 i KK VV (stackQ (k0_pay12 v40)) (stackY (k0_pay16 v41)) (rowMax (k0_pay16 (k0_pay9 v46))) (rowSum (k0_pay16 (k0_pay8 v41 v42))) :=
  ⟨_, _, _, _, _, _, reads_of HB hK hV, fun _ _ => rfl, fun _ _ => rfl, stackQ_at ((copies_q 0 v40).1 rfl), stackY_at ((copies_d 0 v41).1 rfl),
    rowMax_at ((copies_d 0 _).1 rfl), rowSum_at ((copies_d 0 _).1 rfl), hi⟩

theorem grp1 (HB : Blk Q G K V s b v40 v41 v42 v46) (hi : (i 0).val = b.val) (hK : ∀ c l, KK (ix2 c l) = ((K (key b c) (gcol 1 l) : ℝ) : EReal))
    (hV : ∀ c l, VV (ix2 c l) = ((V (key b c) (gcol 1 l) : ℝ) : EReal)) :
    Grp Q G K V s b 1 i KK VV (stackQ (k0_pay59 v40)) (stackY (k0_pay64 v41)) (rowMax (k0_pay64 (k0_pay9 v46))) (rowSum (k0_pay64 (k0_pay8 v41 v42))) :=
  ⟨_, _, _, _, _, _, reads_of HB hK hV, fun _ _ => rfl, fun _ _ => rfl, stackQ_at ((copies_q 1 v40).2 rfl), stackY_at ((copies_d 1 v41).2 rfl),
    rowMax_at ((copies_d 1 _).2 rfl), rowSum_at ((copies_d 1 _).2 rfl), hi⟩
end

/-! ## The stored pieces -/

section
variable (X : FVec Ideal S512x256 .bf16) (W : FVec Ideal S512x640 .bf16) (W' : FVec Ideal S512x640 .f32) (A : Vec Ideal S256x256 .f32)

theorem pay53_at (c : Fin 384) (l : Fin 256) : k0_pay53 (F := Ideal) X W (ix3 0 c l) = k0_pay51 (F := Ideal) X W (ix2 ⟨c.val, by omega⟩ l) := by
  pointwise [k0_pay53]
theorem pay100_at (c : Fin 384) (l : Fin 256) : k0_pay100 (F := Ideal) X W (ix3 0 c l) = k0_pay51 (F := Ideal) X W (ix2 ⟨c.val, by omega⟩ l) := by
  rw [← dk_eq1]; pointwise [k0_pay100]
theorem pay54_at (c : Fin 384) (l : Fin 256) : k0_pay54 (F := Ideal) X W' (ix3 0 c l) = k0_pay51 (F := Ideal) X W' (ix2 ⟨c.val, by omega⟩ l) := by
  rw [← dv_eq0]; pointwise [k0_pay54]
theorem pay101_at (c : Fin 384) (l : Fin 256) : k0_pay101 (F := Ideal) X W' (ix3 0 c l) = k0_pay51 (F := Ideal) X W' (ix2 ⟨c.val, by omega⟩ l) := by
  rw [← dv_eq1]; pointwise [k0_pay101]
theorem pay55_at (c : Fin 256) (l : Fin 256) : k0_pay55 (F := Ideal) X W A (ix2 c l) = (A (ix2 c l) : EReal) + k0_pay51 (F := Ideal) X W (ix2 ⟨384 + c.val, by omega⟩ l) := by
  pointwise [k0_pay55]
theorem pay102_at (c : Fin 256) (l : Fin 256) : k0_pay1 (F := Ideal) (k0_pay102 (F := Ideal) X W A) (ix2 c l) = (A (ix2 c l) : EReal) + k0_pay51 (F := Ideal) X W (ix2 ⟨384 + c.val, by omega⟩ l) := by
  rw [← dk_eq1]; pointwise [k0_pay1, k0_pay102]
theorem pay56_at (c : Fin 256) (l : Fin 256) : k0_pay56 (F := Ideal) X W' A (ix2 c l) = (A (ix2 c l) : EReal) + k0_pay51 (F := Ideal) X W' (ix2 ⟨384 + c.val, by omega⟩ l) := by
  rw [← dv_eq0]; pointwise [k0_pay56]
theorem pay2_at (c : Fin 256) (l : Fin 256) : k0_pay2 (F := Ideal) (k0_pay99 (F := Ideal) X W') A (ix2 c l) = (A (ix2 c l) : EReal) + k0_pay51 (F := Ideal) X W' (ix2 ⟨384 + c.val, by omega⟩ l) := by
  rw [← dv_eq1]; pointwise [k0_pay2]

theorem pay3_at (a0 a1 : FVec Ideal S128x256 .f32) (r : Fin 128) (l : Fin 512) : k0_pay3 (F := Ideal) a0 a1 (ix2 r l)
    = if h : l.val < 256 then a0 (ix2 r ⟨l.val, h⟩) else a1 (ix2 r ⟨l.val - 256, by omega⟩) := by
  pointwise [k0_pay3]
end

section
variable (T L D : FVec Ideal S512x1 .f32) (A : Vec Ideal S1x128 .f32) (a : FVec Ideal S512x256 .f32) (b' c' f' g' : IVec S512x256 32) (e' : BitVec 32)
  (s0 s1 s2 s3 : Elt Ideal .f32) (x : Fin 128)

theorem sink_idx (T : FVec Ideal S512x1 .f32) (A : EReal) (j : Fin 4) (f : Fin 128 → Fin 512) (h : ∀ r, (f r).val = j.val * 128 + r.val) :
    A + (0 - ∑ r, T (ix2 (f r) 0)) = A + -∑ r, T (ix2 (row j r) 0) := by
  rw [zero_sub]
  refine congrArg (fun z => A + -z) (Finset.sum_congr rfl fun r _ => ?_)
  rw [show f r = row j r from Fin.ext (h r)]

/-! Every row of the sinks' gradient adds the negated sum of one stacked head's rows. -/

theorem sink_row0 : k0_pay36 (F := Ideal) A (k0_pay35 (F := Ideal) L a b' c' e' f' g' s0 s1 s2 s3) (ix2 0 x)
    = (A (ix2 0 x) : EReal) + -∑ r, sinkV L (k0_pay31 a b' c' e' f' g') s0 s1 s2 s3 (ix2 (row 0 r) 0) := by
  rw [← s_eq0]
  pointwise [k0_pay36, k0_pay35]
  exact sink_idx _ _ 0 (fun r => ⟨r.val, by omega⟩) (fun r => by simp)

theorem sink_row1 : k0_pay37 (F := Ideal) (k0_pay34 (F := Ideal) L a b' c' e' f' g' s0 s1 s2 s3) A (ix2 0 x)
    = (A (ix2 0 x) : EReal) + -∑ r, sinkV L (k0_pay31 a b' c' e' f' g') s0 s1 s2 s3 (ix2 (row 1 r) 0) := by
  rw [← s_eq0]
  pointwise [k0_pay37]
  exact sink_idx _ _ 1 (fun r => ⟨128 + r.val, by omega⟩) (fun r => by simp)

theorem sink_row2 : k0_pay38 (F := Ideal) (k0_pay34 (F := Ideal) L a b' c' e' f' g' s0 s1 s2 s3) A (ix2 0 x)
    = (A (ix2 0 x) : EReal) + -∑ r, sinkV L (k0_pay31 a b' c' e' f' g') s0 s1 s2 s3 (ix2 (row 2 r) 0) := by
  rw [← s_eq0]
  pointwise [k0_pay38]
  exact sink_idx _ _ 2 (fun r => ⟨256 + r.val, by omega⟩) (fun r => by simp)

theorem sink_row3 : k0_pay40 (F := Ideal) A (k0_pay39 (F := Ideal) (k0_pay34 (F := Ideal) L a b' c' e' f' g' s0 s1 s2 s3)) (ix2 0 x)
    = (A (ix2 0 x) : EReal) + -∑ r, sinkV L (k0_pay31 a b' c' e' f' g') s0 s1 s2 s3 (ix2 (row 3 r) 0) := by
  rw [← s_eq0]
  pointwise [k0_pay40, k0_pay39]
  exact sink_idx _ _ 3 (fun r => ⟨384 + r.val, by omega⟩) (fun r => by simp)

theorem sink_row4 : k0_pay82 (F := Ideal) L D s0 s1 s2 s3 A (ix2 0 x)
    = (A (ix2 0 x) : EReal) + -∑ r, sinkV L D s0 s1 s2 s3 (ix2 (row 0 r) 0) := by
  rw [← s_eq1]
  pointwise [k0_pay82]
  exact sink_idx _ _ 0 (fun r => ⟨r.val, by omega⟩) (fun r => by simp)

theorem sink_row5 : k0_pay84 (F := Ideal) (k0_pay83 (F := Ideal) L D s0 s1 s2 s3 A) (ix2 0 x)
    = (A (ix2 0 x) : EReal) + -∑ r, sinkV L D s0 s1 s2 s3 (ix2 (row 1 r) 0) := by
  rw [← s_eq1]
  pointwise [k0_pay84, k0_pay83]
  exact sink_idx _ _ 1 (fun r => ⟨128 + r.val, by omega⟩) (fun r => by simp)

theorem sink_row6 : k0_pay85 (F := Ideal) (k0_pay81 (F := Ideal) L D s0 s1 s2 s3) A (ix2 0 x)
    = (A (ix2 0 x) : EReal) + -∑ r, sinkV L D s0 s1 s2 s3 (ix2 (row 2 r) 0) := by
  rw [← s_eq1]
  pointwise [k0_pay85]
  exact sink_idx _ _ 2 (fun r => ⟨256 + r.val, by omega⟩) (fun r => by simp)

theorem sink_row7 : k0_pay86 (F := Ideal) (k0_pay81 (F := Ideal) L D s0 s1 s2 s3) A (ix2 0 x)
    = (A (ix2 0 x) : EReal) + -∑ r, sinkV L D s0 s1 s2 s3 (ix2 (row 3 r) 0) := by
  rw [← s_eq1]
  pointwise [k0_pay86]
  exact sink_idx _ _ 3 (fun r => ⟨384 + r.val, by omega⟩) (fun r => by simp)

end

end Cert.Attn
-- ==== Proof.AttnHost.lean ====
/- Hand-written: the host operations before the attention gradient's launch, read as the plain program's own terms: the
   logits, the weights, the log-sum-exp and the attention's output. -/
module

public import proofs.«01_k».proof.Proof.AttnRef3
public import proofs.«01_k».proof.Proof.AttnFrameIdeal

set_option maxRecDepth 16384

@[expose] public noncomputable section

open Idealize.ShloMosaic Idealize.ShloMosaic.TcCoe Idealize.SL.Sem Idealize.ShloMosaic.StableHlo
open scoped BigOperators

namespace Cert.Attn.Host
open Cert.KernelIdeal Cert.KernelIdeal.Gen
variable {F : FTy → Type} [FloatOps F] [Named F]
open Cert.ReferenceIdeal.Value (res_main_v12 res_main_v19 res_main_v20 res_main_v21 res_main_v22 res_main_v57_1 res_main_v62 res_main_v63 res_main_v83 res_main_v85 res_main_v87)

/-- The host operations of the logits. -/
abbrev ops_a : List (HloOp τ sig (Elt F)) :=
  [ StableHlo.binary main_v20 main_v22 main_v58 ((fun l r => Host.dotGeneral dot_S256x8x64_S16x128x8x64_S8x256x16x128_2_3_0_01_1_2 none l r) : (⟨S256x8x64, .f32⟩ : BufTy).Contents (Elt F) → (⟨S16x128x8x64, .f32⟩ : BufTy).Contents (Elt F) → (⟨S8x256x16x128, .f32⟩ : BufTy).Contents (Elt F)),
    StableHlo.unary main_v58 main_v59 ((transpose S16x8x128x256 [2, 0, 3, 1] · transposes_S8x256x16x128_S16x8x128x256_2_0_3_1) : (⟨S8x256x16x128, .f32⟩ : BufTy).Contents (Elt F) → (⟨S16x8x128x256, .f32⟩ : BufTy).Contents (Elt F)),
    StableHlo.reshape main_arg3 main_v60 (rfl : (.f32 : EltTy) = .f32) shapeCasts_S8_S1x8x1x1,
    StableHlo.unary main_v60 main_v61 (broadcastInDim S16x8x128x1 ![0, 1, 2, 3] bcast_S1x8x1x1_S16x8x128x1_0_1_2_3 : (⟨S1x8x1x1, .f32⟩ : BufTy).Contents (Elt F) → (⟨S16x8x128x1, .f32⟩ : BufTy).Contents (Elt F)),
    StableHlo.nary ![main_v57, main_v59, main_v61] main_v62 (fun u => (concatenate S16x8x128x641 3 [⟨S16x8x128x384, (u 0 : (⟨S16x8x128x384, .f32⟩ : BufTy).Contents (Elt F))⟩, ⟨S16x8x128x256, (u 1 : (⟨S16x8x128x256, .f32⟩ : BufTy).Contents (Elt F))⟩, ⟨S16x8x128x1, (u 2 : (⟨S16x8x128x1, .f32⟩ : BufTy).Contents (Elt F))⟩] concatenates_S16x8x128x384_S16x8x128x256_S16x8x128x1_S16x8x128x641_d3 : (⟨S16x8x128x641, .f32⟩ : BufTy).Contents (Elt F))) ]

/-- The host operations of the log-sum-exp. -/
abbrev ops_b : List (HloOp τ sig (Elt F)) :=
  [ StableHlo.nullary main_cst_7 (constant S_ .f32 0xFF800000#32),
    StableHlo.binary main_v62 main_cst_7 main_v63 ((fun x v => Host.reduce FloatOps.maximumf x v reducesTo_S16x8x128x641_S16x8x128_d3 h_S_) : (⟨S16x8x128x641, .f32⟩ : BufTy).Contents (Elt F) → (⟨S_, .f32⟩ : BufTy).Contents (Elt F) → (⟨S16x8x128, .f32⟩ : BufTy).Contents (Elt F)),
    StableHlo.unary main_v63 main_v64 (broadcastInDim S16x8x128x1 ![0, 1, 2] bcast_S16x8x128_S16x8x128x1_0_1_2 : (⟨S16x8x128, .f32⟩ : BufTy).Contents (Elt F) → (⟨S16x8x128x1, .f32⟩ : BufTy).Contents (Elt F)),
    StableHlo.unary main_v64 main_v65 (broadcastInDim S16x8x128x641 ![0, 1, 2, 3] bcast_S16x8x128x1_S16x8x128x641_0_1_2_3 : (⟨S16x8x128x1, .f32⟩ : BufTy).Contents (Elt F) → (⟨S16x8x128x641, .f32⟩ : BufTy).Contents (Elt F)),
    StableHlo.binary main_v62 main_v65 main_v66 (subf : (⟨S16x8x128x641, .f32⟩ : BufTy).Contents (Elt F) → (⟨S16x8x128x641, .f32⟩ : BufTy).Contents (Elt F) → (⟨S16x8x128x641, .f32⟩ : BufTy).Contents (Elt F)),
    StableHlo.unary main_v66 main_v67 (Host.exp : (⟨S16x8x128x641, .f32⟩ : BufTy).Contents (Elt F) → (⟨S16x8x128x641, .f32⟩ : BufTy).Contents (Elt F)),
    StableHlo.nullary main_cst_8 (constant S_ .f32 0x00000000#32),
    StableHlo.binary main_v67 main_cst_8 main_v68 ((fun x v => Host.reduceAdd x v reducesTo_S16x8x128x641_S16x8x128_d3 h_S_) : (⟨S16x8x128x641, .f32⟩ : BufTy).Contents (Elt F) → (⟨S_, .f32⟩ : BufTy).Contents (Elt F) → (⟨S16x8x128, .f32⟩ : BufTy).Contents (Elt F)),
    StableHlo.unary main_v68 main_v69 (broadcastInDim S16x8x128x1 ![0, 1, 2] bcast_S16x8x128_S16x8x128x1_0_1_2 : (⟨S16x8x128, .f32⟩ : BufTy).Contents (Elt F) → (⟨S16x8x128x1, .f32⟩ : BufTy).Contents (Elt F)),
    StableHlo.unary main_v69 main_v70 (Host.log : (⟨S16x8x128x1, .f32⟩ : BufTy).Contents (Elt F) → (⟨S16x8x128x1, .f32⟩ : BufTy).Contents (Elt F)),
    StableHlo.binary main_v64 main_v70 main_v71 (addf : (⟨S16x8x128x1, .f32⟩ : BufTy).Contents (Elt F) → (⟨S16x8x128x1, .f32⟩ : BufTy).Contents (Elt F) → (⟨S16x8x128x1, .f32⟩ : BufTy).Contents (Elt F)),
    StableHlo.unary main_v71 main_v72 ((transpose S16x128x8x1 [0, 2, 1, 3] · transposes_S16x8x128x1_S16x128x8x1_0_2_1_3) : (⟨S16x8x128x1, .f32⟩ : BufTy).Contents (Elt F) → (⟨S16x128x8x1, .f32⟩ : BufTy).Contents (Elt F)),
    StableHlo.unary main_v72 main_v73 (broadcastInDim S16x128x8x64 ![0, 1, 2, 3] bcast_S16x128x8x1_S16x128x8x64_0_1_2_3 : (⟨S16x128x8x1, .f32⟩ : BufTy).Contents (Elt F) → (⟨S16x128x8x64, .f32⟩ : BufTy).Contents (Elt F)),
    StableHlo.reshape main_v73 main_v74 (rfl : (.f32 : EltTy) = .f32) shapeCasts_S16x128x8x64_S2048x512 ]

/-- The host operations of the weights. -/
abbrev ops_c : List (HloOp τ sig (Elt F)) :=
  [ StableHlo.nullary main_cst_9 (constant S_ .f32 0xFF800000#32),
    StableHlo.binary main_v62 main_cst_9 main_v75 ((fun x v => Host.reduce FloatOps.maximumf x v reducesTo_S16x8x128x641_S16x8x128_d3 h_S_) : (⟨S16x8x128x641, .f32⟩ : BufTy).Contents (Elt F) → (⟨S_, .f32⟩ : BufTy).Contents (Elt F) → (⟨S16x8x128, .f32⟩ : BufTy).Contents (Elt F)),
    StableHlo.nullary main_cst_10 (constant S_ .f32 0xFF800000#32),
    StableHlo.unary main_cst_10 main_v76 (broadcastInDim S16x8x128 ![] bcast_S_S16x8x128 : (⟨S_, .f32⟩ : BufTy).Contents (Elt F) → (⟨S16x8x128, .f32⟩ : BufTy).Contents (Elt F)),
    StableHlo.binary main_v76 main_v75 main_v77 (maximumf : (⟨S16x8x128, .f32⟩ : BufTy).Contents (Elt F) → (⟨S16x8x128, .f32⟩ : BufTy).Contents (Elt F) → (⟨S16x8x128, .f32⟩ : BufTy).Contents (Elt F)),
    StableHlo.unary main_v77 main_v78 (broadcastInDim S16x8x128x1 ![0, 1, 2] bcast_S16x8x128_S16x8x128x1_0_1_2 : (⟨S16x8x128, .f32⟩ : BufTy).Contents (Elt F) → (⟨S16x8x128x1, .f32⟩ : BufTy).Contents (Elt F)),
    StableHlo.unary main_v78 main_v79 (broadcastInDim S16x8x128x641 ![0, 1, 2, 3] bcast_S16x8x128x1_S16x8x128x641_0_1_2_3 : (⟨S16x8x128x1, .f32⟩ : BufTy).Contents (Elt F) → (⟨S16x8x128x641, .f32⟩ : BufTy).Contents (Elt F)),
    StableHlo.binary main_v62 main_v79 main_v80 (subf : (⟨S16x8x128x641, .f32⟩ : BufTy).Contents (Elt F) → (⟨S16x8x128x641, .f32⟩ : BufTy).Contents (Elt F) → (⟨S16x8x128x641, .f32⟩ : BufTy).Contents (Elt F)),
    StableHlo.unary main_v80 main_v81 (Host.exp : (⟨S16x8x128x641, .f32⟩ : BufTy).Contents (Elt F) → (⟨S16x8x128x641, .f32⟩ : BufTy).Contents (Elt F)),
    StableHlo.nullary main_cst_11 (constant S_ .f32 0x00000000#32),
    StableHlo.binary main_v81 main_cst_11 main_v82 ((fun x v => Host.reduceAdd x v reducesTo_S16x8x128x641_S16x8x128_d3 h_S_) : (⟨S16x8x128x641, .f32⟩ : BufTy).Contents (Elt F) → (⟨S_, .f32⟩ : BufTy).Contents (Elt F) → (⟨S16x8x128, .f32⟩ : BufTy).Contents (Elt F)),
    StableHlo.unary main_v82 main_v83 (broadcastInDim S16x8x128x1 ![0, 1, 2] bcast_S16x8x128_S16x8x128x1_0_1_2 : (⟨S16x8x128, .f32⟩ : BufTy).Contents (Elt F) → (⟨S16x8x128x1, .f32⟩ : BufTy).Contents (Elt F)),
    StableHlo.unary main_v83 main_v84 (broadcastInDim S16x8x128x641 ![0, 1, 2, 3] bcast_S16x8x128x1_S16x8x128x641_0_1_2_3 : (⟨S16x8x128x1, .f32⟩ : BufTy).Contents (Elt F) → (⟨S16x8x128x641, .f32⟩ : BufTy).Contents (Elt F)),
    StableHlo.binary main_v81 main_v84 main_v85 (Host.divf : (⟨S16x8x128x641, .f32⟩ : BufTy).Contents (Elt F) → (⟨S16x8x128x641, .f32⟩ : BufTy).Contents (Elt F) → (⟨S16x8x128x641, .f32⟩ : BufTy).Contents (Elt F)) ]

/-- The host operations of the output. -/
abbrev ops_d : List (HloOp τ sig (Elt F)) :=
  [ StableHlo.unary main_v85 main_v86 ((extractStridedSlice S16x8x128x384 ![0, 0, 0, 0] · slices_S16x8x128x641_S16x8x128x384_0_0_0_0) : (⟨S16x8x128x641, .f32⟩ : BufTy).Contents (Elt F) → (⟨S16x8x128x384, .f32⟩ : BufTy).Contents (Elt F)),
    StableHlo.binary main_v19 main_v86 main_v87 ((fun l r => Host.dotGeneral dot_S16x384x8x64_S16x8x128x384_S16x8x64x128_1_3_3_2_02_01 none l r) : (⟨S16x384x8x64, .f32⟩ : BufTy).Contents (Elt F) → (⟨S16x8x128x384, .f32⟩ : BufTy).Contents (Elt F) → (⟨S16x8x64x128, .f32⟩ : BufTy).Contents (Elt F)),
    StableHlo.unary main_v87 main_v88 ((transpose S16x128x8x64 [0, 3, 1, 2] · transposes_S16x8x64x128_S16x128x8x64_0_3_1_2) : (⟨S16x8x64x128, .f32⟩ : BufTy).Contents (Elt F) → (⟨S16x128x8x64, .f32⟩ : BufTy).Contents (Elt F)),
    StableHlo.unary main_v85 main_v89 ((extractStridedSlice S16x8x128x256 ![0, 0, 0, 384] · slices_S16x8x128x641_S16x8x128x256_0_0_0_384) : (⟨S16x8x128x641, .f32⟩ : BufTy).Contents (Elt F) → (⟨S16x8x128x256, .f32⟩ : BufTy).Contents (Elt F)),
    StableHlo.binary main_v21 main_v89 main_v90 ((fun l r => Host.dotGeneral dot_S256x8x64_S16x8x128x256_S8x64x16x128_0_3_2_02_1_1 none l r) : (⟨S256x8x64, .f32⟩ : BufTy).Contents (Elt F) → (⟨S16x8x128x256, .f32⟩ : BufTy).Contents (Elt F) → (⟨S8x64x16x128, .f32⟩ : BufTy).Contents (Elt F)),
    StableHlo.unary main_v90 main_v91 ((transpose S16x128x8x64 [2, 3, 0, 1] · transposes_S8x64x16x128_S16x128x8x64_2_3_0_1) : (⟨S8x64x16x128, .f32⟩ : BufTy).Contents (Elt F) → (⟨S16x128x8x64, .f32⟩ : BufTy).Contents (Elt F)),
    StableHlo.binary main_v88 main_v91 main_v92 (addf : (⟨S16x128x8x64, .f32⟩ : BufTy).Contents (Elt F) → (⟨S16x128x8x64, .f32⟩ : BufTy).Contents (Elt F) → (⟨S16x128x8x64, .f32⟩ : BufTy).Contents (Elt F)),
    StableHlo.reshape main_v92 main_v93 (rfl : (.f32 : EltTy) = .f32) shapeCasts_S16x128x8x64_S2048x512,
    StableHlo.unary main_v93 main_v94 ((truncf .bf16 · bitsLt_bf16_f32) : (⟨S2048x512, .f32⟩ : BufTy).Contents (Elt F) → (⟨S2048x512, .bf16⟩ : BufTy).Contents (Elt F)) ]

/-- A device's buffers hold the arguments that the plain program was called with. -/
structure Same (W : Valuation τ sig (Elt Ideal)) (V0 : Valuation Cert.ReferenceIdeal.τ Cert.ReferenceIdeal.sig (Elt Ideal)) : Prop where
  a0 : (W (Proc.devRef .tc main_arg0) : FVec Ideal S2304x512 .bf16) = V0 (Proc.devRef .tc Cert.ReferenceIdeal.main_arg0)
  a1 : (W (Proc.devRef .tc main_arg1) : FVec Ideal S2304x512 .bf16) = V0 (Proc.devRef .tc Cert.ReferenceIdeal.main_arg1)
  a2 : (W (Proc.devRef .tc main_arg2) : FVec Ideal S2304x512 .bf16) = V0 (Proc.devRef .tc Cert.ReferenceIdeal.main_arg2)
  a3 : (W (Proc.devRef .tc main_arg3) : FVec Ideal S8 .f32) = V0 (Proc.devRef .tc Cert.ReferenceIdeal.main_arg3)

variable (W : Valuation τ sig (Elt Ideal)) {V0 : Valuation Cert.ReferenceIdeal.τ Cert.ReferenceIdeal.sig (Elt Ideal)}

/-- The buffers after the band of the keys is laid. -/
def w1 : Valuation τ sig (Elt Ideal) := after hostOps0_3 (after hostOps0_2 (after hostOps0_1 (after hostOps0 W)))
/-- The buffers after the mask is computed. -/
def w2 : Valuation τ sig (Elt Ideal) := after hostOps0_4 (w1 W)
/-- The buffers after the band's logits are masked. -/
def w3 : Valuation τ sig (Elt Ideal) := after hostOps0_5 (w2 W)
/-- The buffers after the logits are computed. -/
def w4 : Valuation τ sig (Elt Ideal) := after ops_a (w3 W)
/-- The buffers after the log-sum-exp is computed. -/
def w5 : Valuation τ sig (Elt Ideal) := after ops_b (w4 W)
/-- The buffers after the weights are computed. -/
def w6 : Valuation τ sig (Elt Ideal) := after ops_c (w5 W)
/-- The buffers at the launch. -/
def w7 : Valuation τ sig (Elt Ideal) := after ops_d (w6 W)

theorem after_app (l₁ l₂ : List (HloOp τ sig (Elt Ideal))) (V : Valuation τ sig (Elt Ideal)) :
    after (l₁ ++ l₂) V = after l₂ (after l₁ V) := by
  induction l₁ generalizing V with
  | nil => rfl
  | cons op l ih => exact ih _

theorem flat_eq : (List.flatten [hostOps0, hostOps0_1, hostOps0_2, hostOps0_3, hostOps0_4, hostOps0_5, hostOps0_6] : List (HloOp τ sig (Elt F)))
    = ((((((((hostOps0 ++ hostOps0_1) ++ hostOps0_2) ++ hostOps0_3) ++ hostOps0_4) ++ hostOps0_5) ++ ops_a) ++ ops_b) ++ ops_c) ++ ops_d := by
  have h : (hostOps0_6 : List (HloOp τ sig (Elt F))) = ops_a ++ (ops_b ++ (ops_c ++ ops_d)) := rfl
  simp only [List.flatten_cons, List.flatten_nil, List.append_nil, h, List.append_assoc]

theorem V_eq (m : (ℓ : Loc nD τ sig) → Buf (Elt Ideal) ℓ) (c : Dev nD) (b : Ref sig .tc) :
    V m c b = w7 (fun b => m (c, b)) (Proc.devRef .tc b) := by
  unfold w7 w6 w5 w4 w3 w2 w1
  simp only [← after_app]
  exact congrArg (fun l => after l (fun b => m (c, b)) (Proc.devRef .tc b)) (flat_eq (F := Ideal))

theorem cat_congr {α : Type} {R S₁ S₂ S₃ : Shape} {k : Fin R.rank} {a a' : S₁.Idx → α} {b b' : S₂.Idx → α} {c c' : S₃.Idx → α} (H : Shape.Concatenates [S₁, S₂, S₃] R k)
    (ha : a = a') (hb : b = b') (hc : c = c') :
    concatenate R k [⟨S₁, a⟩, ⟨S₂, b⟩, ⟨S₃, c⟩] H = concatenate R k [⟨S₁, a'⟩, ⟨S₂, b'⟩, ⟨S₃, c'⟩] H := by
  subst ha hb hc; rfl

variable (H : Same W V0)

set_option maxHeartbeats 2000000 in
include H in
theorem w1_v12 : w1 W (no_index (Proc.devRef .tc main_v12)) = res_main_v12 V0 := by
  unfold w1
  simp only [hostOps0, hostOps0_1, hostOps0_2, hostOps0_3, TRef.binary, TRef.unary, TRef.ternary, TRef.toBuf, TRef.ofBuf, cast_eq]
  after_results_simp
  dsimp only [Matrix.cons_val]
  refine cat_congr _ ?_ ?_ ?_ <;> after_results_simp <;> simp only [H.a1] <;> rfl

set_option maxHeartbeats 2000000 in
include H in
theorem w1_v3 : w1 W (no_index (Proc.devRef .tc main_v3)) = Cert.ReferenceIdeal.Value.res_main_v3 V0 := by
  unfold w1
  simp only [hostOps0, hostOps0_1, hostOps0_2, hostOps0_3, TRef.binary, TRef.unary, TRef.ternary, TRef.toBuf, TRef.ofBuf, cast_eq]
  after_results_simp
  simp only [H.a1] <;> rfl

set_option maxHeartbeats 2000000 in
include H in
theorem w1_v4 : w1 W (no_index (Proc.devRef .tc main_v4)) = Cert.ReferenceIdeal.Value.res_main_v4 V0 := by
  unfold w1
  simp only [hostOps0, hostOps0_1, hostOps0_2, hostOps0_3, TRef.binary, TRef.unary, TRef.ternary, TRef.toBuf, TRef.ofBuf, cast_eq]
  after_results_simp
  simp only [H.a2] <;> rfl

set_option maxHeartbeats 2000000 in
include H in
theorem w1_v5 : w1 W (no_index (Proc.devRef .tc main_v5)) = (extractStridedSlice S2048x512 ![256, 0] (extf .f32 (V0 (Proc.devRef .tc Cert.ReferenceIdeal.main_arg0) : FVec Ideal S2304x512 .bf16) bitsLt_bf16_f32 : FVec Ideal S2304x512 .f32) slices_S2304x512_S2048x512_256_0 : FVec Ideal S2048x512 .f32) := by
  unfold w1
  simp only [hostOps0, hostOps0_1, hostOps0_2, hostOps0_3, TRef.binary, TRef.unary, TRef.ternary, TRef.toBuf, TRef.ofBuf, cast_eq]
  after_results_simp
  simp only [H.a0] <;> rfl

set_option maxHeartbeats 2000000 in
include H in
theorem w1_v14 : w1 W (no_index (Proc.devRef .tc main_v14)) = pad S2304x8x64 ![128, 0, 0] ![128, 0, 0] ![0, 0, 0] (extractStridedSlice S2048x8x64 ![256, 0, 0] (Cert.ReferenceIdeal.Value.res_main_v4 V0 : FVec Ideal S2304x8x64 .f32) slices_S2304x8x64_S2048x8x64_256_0_0 : FVec Ideal S2048x8x64 .f32) (sitofp .f32 (constantI S_ 32 0#32)) pads_S2048x8x64_S2304x8x64_1281280_000_000 h_S_ := by
  unfold w1
  simp only [hostOps0, hostOps0_1, hostOps0_2, hostOps0_3, TRef.binary, TRef.unary, TRef.ternary, TRef.toBuf, TRef.ofBuf, cast_eq]
  after_results_simp
  simp only [H.a2] <;> rfl

set_option maxHeartbeats 2000000 in
include H in
theorem w1_arg3 : w1 W (no_index (Proc.devRef .tc main_arg3)) = (V0 (Proc.devRef .tc Cert.ReferenceIdeal.main_arg3) : FVec Ideal S8 .f32) := by
  unfold w1
  simp only [hostOps0, hostOps0_1, hostOps0_2, hostOps0_3, TRef.binary, TRef.unary, TRef.ternary, TRef.toBuf, TRef.ofBuf, cast_eq]
  after_results_simp
  simp only [H.a3] <;> rfl

set_option maxHeartbeats 2000000 in
include H in
theorem w2_v19 : w2 W (no_index (Proc.devRef .tc main_v19)) = res_main_v19 V0 := by
  unfold w2
  simp only [hostOps0_4, TRef.binary, TRef.unary, TRef.ternary, TRef.toBuf, TRef.ofBuf, cast_eq]
  after_results_simp
  dsimp only [Matrix.cons_val]
  refine cat_congr _ ?_ ?_ ?_ <;> after_results_simp <;> simp only [w1_v14 W H] <;> rfl

set_option maxHeartbeats 2000000 in
include H in
theorem w2_v20 : w2 W (no_index (Proc.devRef .tc main_v20)) = res_main_v20 V0 := by
  unfold w2
  simp only [hostOps0_4, TRef.binary, TRef.unary, TRef.ternary, TRef.toBuf, TRef.ofBuf, cast_eq]
  after_results_simp
  simp only [w1_v3 W H] <;> rfl

set_option maxHeartbeats 2000000 in
include H in
theorem w2_v21 : w2 W (no_index (Proc.devRef .tc main_v21)) = res_main_v21 V0 := by
  unfold w2
  simp only [hostOps0_4, TRef.binary, TRef.unary, TRef.ternary, TRef.toBuf, TRef.ofBuf, cast_eq]
  after_results_simp
  simp only [w1_v4 W H] <;> rfl

set_option maxHeartbeats 2000000 in
include H in
theorem w2_v22 : w2 W (no_index (Proc.devRef .tc main_v22)) = res_main_v22 V0 := by
  unfold w2
  simp only [hostOps0_4, TRef.binary, TRef.unary, TRef.ternary, TRef.toBuf, TRef.ofBuf, cast_eq]
  after_results_simp
  simp only [w1_v5 W H] <;> rfl

set_option maxHeartbeats 2000000 in
include H in
theorem w2_v23 : w2 W (no_index (Proc.devRef .tc main_v23)) = Host.dotGeneral (φ₁ := .f32) (φ₂ := .f32) dot_S16x128x8x64_S16x384x8x64_S16x8x128x384_3_3_1_1_02_02 none (res_main_v22 V0) (res_main_v12 V0) := by
  unfold w2
  simp only [hostOps0_4, TRef.binary, TRef.unary, TRef.ternary, TRef.toBuf, TRef.ofBuf, cast_eq]
  after_results_simp
  simp only [w1_v5 W H, w1_v12 W H] <;> rfl

set_option maxHeartbeats 2000000 in
theorem w2_cst : w2 W (no_index (Proc.devRef .tc main_cst)) = (constant S_ .f32 0xFF800000#32 : FVec Ideal S_ .f32) := by
  unfold w2
  simp only [hostOps0_4, TRef.binary, TRef.unary, TRef.ternary, TRef.toBuf, TRef.ofBuf, cast_eq]
  after_results_simp
  all_goals rfl

set_option maxHeartbeats 2000000 in
include H in
theorem w2_arg3 : w2 W (no_index (Proc.devRef .tc main_arg3)) = (V0 (Proc.devRef .tc Cert.ReferenceIdeal.main_arg3) : FVec Ideal S8 .f32) := by
  unfold w2
  simp only [hostOps0_4, TRef.binary, TRef.unary, TRef.ternary, TRef.toBuf, TRef.ofBuf, cast_eq]
  after_results_simp
  simp only [w1_arg3 W H] <;> rfl

/-- The mask, before it is repeated over the heads. -/
theorem w2_v56 : broadcastInDim S16x8x128x384 ![0, 1, 2, 3] bcast_S16x1x128x384_S16x8x128x384_0_1_2_3 (w2 W (Proc.devRef .tc main_v56) : (⟨S16x1x128x384, .i1⟩ : BufTy).Contents (Elt Ideal)) = res_main_v57_1 V0 := by
  unfold w2
  simp only [hostOps0_4]
  after_results_simp
  rfl

set_option maxHeartbeats 2000000 in
include H in
theorem w3_v19 : w3 W (no_index (Proc.devRef .tc main_v19)) = res_main_v19 V0 := by
  unfold w3
  simp only [hostOps0_5, TRef.binary, TRef.unary, TRef.ternary, TRef.toBuf, TRef.ofBuf, cast_eq]
  after_results_simp
  simp only [w2_v19 W H] <;> rfl

set_option maxHeartbeats 2000000 in
include H in
theorem w3_v20 : w3 W (no_index (Proc.devRef .tc main_v20)) = res_main_v20 V0 := by
  unfold w3
  simp only [hostOps0_5, TRef.binary, TRef.unary, TRef.ternary, TRef.toBuf, TRef.ofBuf, cast_eq]
  after_results_simp
  simp only [w2_v20 W H] <;> rfl

set_option maxHeartbeats 2000000 in
include H in
theorem w3_v21 : w3 W (no_index (Proc.devRef .tc main_v21)) = res_main_v21 V0 := by
  unfold w3
  simp only [hostOps0_5, TRef.binary, TRef.unary, TRef.ternary, TRef.toBuf, TRef.ofBuf, cast_eq]
  after_results_simp
  simp only [w2_v21 W H] <;> rfl

set_option maxHeartbeats 2000000 in
include H in
theorem w3_v22 : w3 W (no_index (Proc.devRef .tc main_v22)) = res_main_v22 V0 := by
  unfold w3
  simp only [hostOps0_5, TRef.binary, TRef.unary, TRef.ternary, TRef.toBuf, TRef.ofBuf, cast_eq]
  after_results_simp
  simp only [w2_v22 W H] <;> rfl

set_option maxHeartbeats 2000000 in
include H in
theorem w3_arg3 : w3 W (no_index (Proc.devRef .tc main_arg3)) = (V0 (Proc.devRef .tc Cert.ReferenceIdeal.main_arg3) : FVec Ideal S8 .f32) := by
  unfold w3
  simp only [hostOps0_5, TRef.binary, TRef.unary, TRef.ternary, TRef.toBuf, TRef.ofBuf, cast_eq]
  after_results_simp
  simp only [w2_arg3 W H] <;> rfl

set_option maxHeartbeats 2000000 in
include H in
theorem w3_v57 : w3 W (no_index (Proc.devRef .tc main_v57)) = select (res_main_v57_1 V0) (Host.dotGeneral (φ₁ := .f32) (φ₂ := .f32) dot_S16x128x8x64_S16x384x8x64_S16x8x128x384_3_3_1_1_02_02 none (res_main_v22 V0) (res_main_v12 V0)) (broadcastInDim S16x8x128x384 ![] bcast_S_S16x8x128x384 (id (constant S_ .f32 0xFF800000#32))) := by
  unfold w3
  simp only [hostOps0_5, TRef.binary, TRef.unary, TRef.ternary, TRef.toBuf, TRef.ofBuf, cast_eq]
  after_results_simp
  simp only [w2_v23 W H, w2_cst W, ← w2_v56 W (V0 := V0)] <;> rfl

set_option maxHeartbeats 2000000 in
include H in
theorem w4_v19 : w4 W (no_index (Proc.devRef .tc main_v19)) = res_main_v19 V0 := by
  unfold w4
  simp only [ops_a, TRef.binary, TRef.unary, TRef.ternary, TRef.toBuf, TRef.ofBuf, cast_eq]
  after_results_simp
  simp only [w3_v19 W H] <;> rfl

set_option maxHeartbeats 2000000 in
include H in
theorem w4_v21 : w4 W (no_index (Proc.devRef .tc main_v21)) = res_main_v21 V0 := by
  unfold w4
  simp only [ops_a, TRef.binary, TRef.unary, TRef.ternary, TRef.toBuf, TRef.ofBuf, cast_eq]
  after_results_simp
  simp only [w3_v21 W H] <;> rfl

set_option maxHeartbeats 2000000 in
include H in
theorem w4_v62 : w4 W (no_index (Proc.devRef .tc main_v62)) = res_main_v62 V0 := by
  unfold w4
  simp only [ops_a, TRef.binary, TRef.unary, TRef.ternary, TRef.toBuf, TRef.ofBuf, cast_eq]
  after_results_simp
  dsimp only [Matrix.cons_val]
  refine cat_congr _ ?_ ?_ ?_ <;> after_results_simp <;> simp only [w3_v57 W H, w3_v20 W H, w3_v22 W H, w3_arg3 W H] <;> rfl

set_option maxHeartbeats 2000000 in
include H in
theorem w5_v19 : w5 W (no_index (Proc.devRef .tc main_v19)) = res_main_v19 V0 := by
  unfold w5
  simp only [ops_b, TRef.binary, TRef.unary, TRef.ternary, TRef.toBuf, TRef.ofBuf, cast_eq]
  after_results_simp
  simp only [w4_v19 W H] <;> rfl

set_option maxHeartbeats 2000000 in
include H in
theorem w5_v21 : w5 W (no_index (Proc.devRef .tc main_v21)) = res_main_v21 V0 := by
  unfold w5
  simp only [ops_b, TRef.binary, TRef.unary, TRef.ternary, TRef.toBuf, TRef.ofBuf, cast_eq]
  after_results_simp
  simp only [w4_v21 W H] <;> rfl

set_option maxHeartbeats 2000000 in
include H in
theorem w5_v62 : w5 W (no_index (Proc.devRef .tc main_v62)) = res_main_v62 V0 := by
  unfold w5
  simp only [ops_b, TRef.binary, TRef.unary, TRef.ternary, TRef.toBuf, TRef.ofBuf, cast_eq]
  after_results_simp
  simp only [w4_v62 W H] <;> rfl

set_option maxHeartbeats 2000000 in
include H in
theorem w5_v74 : w5 W (no_index (Proc.devRef .tc main_v74)) = shapeCast S2048x512 (broadcastInDim S16x128x8x64 ![0, 1, 2, 3] bcast_S16x128x8x1_S16x128x8x64_0_1_2_3 (transpose S16x128x8x1 [0, 2, 1, 3] (addf (broadcastInDim S16x8x128x1 ![0, 1, 2] bcast_S16x8x128_S16x8x128x1_0_1_2 (res_main_v63 V0)) (Host.log (broadcastInDim S16x8x128x1 ![0, 1, 2] bcast_S16x8x128_S16x8x128x1_0_1_2 (Host.reduceAdd (Host.exp (subf (res_main_v62 V0) (broadcastInDim S16x8x128x641 ![0, 1, 2, 3] bcast_S16x8x128x1_S16x8x128x641_0_1_2_3 (broadcastInDim S16x8x128x1 ![0, 1, 2] bcast_S16x8x128_S16x8x128x1_0_1_2 (res_main_v63 V0))))) (constant S_ .f32 0x00000000#32) reducesTo_S16x8x128x641_S16x8x128_d3 h_S_)))) transposes_S16x8x128x1_S16x128x8x1_0_2_1_3)) shapeCasts_S16x128x8x64_S2048x512 := by
  unfold w5
  simp only [ops_b, TRef.binary, TRef.unary, TRef.ternary, TRef.toBuf, TRef.ofBuf, cast_eq]
  after_results_simp
  simp only [w4_v62 W H] <;> rfl

set_option maxHeartbeats 2000000 in
include H in
theorem w6_v19 : w6 W (no_index (Proc.devRef .tc main_v19)) = res_main_v19 V0 := by
  unfold w6
  simp only [ops_c, TRef.binary, TRef.unary, TRef.ternary, TRef.toBuf, TRef.ofBuf, cast_eq]
  after_results_simp
  simp only [w5_v19 W H] <;> rfl

set_option maxHeartbeats 2000000 in
include H in
theorem w6_v21 : w6 W (no_index (Proc.devRef .tc main_v21)) = res_main_v21 V0 := by
  unfold w6
  simp only [ops_c, TRef.binary, TRef.unary, TRef.ternary, TRef.toBuf, TRef.ofBuf, cast_eq]
  after_results_simp
  simp only [w5_v21 W H] <;> rfl

set_option maxHeartbeats 2000000 in
include H in
theorem w6_v74 : w6 W (no_index (Proc.devRef .tc main_v74)) = shapeCast S2048x512 (broadcastInDim S16x128x8x64 ![0, 1, 2, 3] bcast_S16x128x8x1_S16x128x8x64_0_1_2_3 (transpose S16x128x8x1 [0, 2, 1, 3] (addf (broadcastInDim S16x8x128x1 ![0, 1, 2] bcast_S16x8x128_S16x8x128x1_0_1_2 (res_main_v63 V0)) (Host.log (broadcastInDim S16x8x128x1 ![0, 1, 2] bcast_S16x8x128_S16x8x128x1_0_1_2 (Host.reduceAdd (Host.exp (subf (res_main_v62 V0) (broadcastInDim S16x8x128x641 ![0, 1, 2, 3] bcast_S16x8x128x1_S16x8x128x641_0_1_2_3 (broadcastInDim S16x8x128x1 ![0, 1, 2] bcast_S16x8x128_S16x8x128x1_0_1_2 (res_main_v63 V0))))) (constant S_ .f32 0x00000000#32) reducesTo_S16x8x128x641_S16x8x128_d3 h_S_)))) transposes_S16x8x128x1_S16x128x8x1_0_2_1_3)) shapeCasts_S16x128x8x64_S2048x512 := by
  unfold w6
  simp only [ops_c, TRef.binary, TRef.unary, TRef.ternary, TRef.toBuf, TRef.ofBuf, cast_eq]
  after_results_simp
  simp only [w5_v74 W H] <;> rfl

set_option maxHeartbeats 2000000 in
include H in
theorem w6_v85 : w6 W (no_index (Proc.devRef .tc main_v85)) = res_main_v87 V0 := by
  unfold w6
  simp only [ops_c, TRef.binary, TRef.unary, TRef.ternary, TRef.toBuf, TRef.ofBuf, cast_eq]
  after_results_simp
  simp only [w5_v62 W H] <;> rfl

set_option maxHeartbeats 2000000 in
include H in
theorem w7_v74 : w7 W (no_index (Proc.devRef .tc main_v74)) = shapeCast S2048x512 (broadcastInDim S16x128x8x64 ![0, 1, 2, 3] bcast_S16x128x8x1_S16x128x8x64_0_1_2_3 (transpose S16x128x8x1 [0, 2, 1, 3] (addf (broadcastInDim S16x8x128x1 ![0, 1, 2] bcast_S16x8x128_S16x8x128x1_0_1_2 (res_main_v63 V0)) (Host.log (broadcastInDim S16x8x128x1 ![0, 1, 2] bcast_S16x8x128_S16x8x128x1_0_1_2 (Host.reduceAdd (Host.exp (subf (res_main_v62 V0) (broadcastInDim S16x8x128x641 ![0, 1, 2, 3] bcast_S16x8x128x1_S16x8x128x641_0_1_2_3 (broadcastInDim S16x8x128x1 ![0, 1, 2] bcast_S16x8x128_S16x8x128x1_0_1_2 (res_main_v63 V0))))) (constant S_ .f32 0x00000000#32) reducesTo_S16x8x128x641_S16x8x128_d3 h_S_)))) transposes_S16x8x128x1_S16x128x8x1_0_2_1_3)) shapeCasts_S16x128x8x64_S2048x512 := by
  unfold w7
  simp only [ops_d, TRef.binary, TRef.unary, TRef.ternary, TRef.toBuf, TRef.ofBuf, cast_eq]
  after_results_simp
  simp only [w6_v74 W H] <;> rfl

set_option maxHeartbeats 2000000 in
include H in
theorem w7_v94 : w7 W (no_index (Proc.devRef .tc main_v94)) = truncf .bf16 (shapeCast S2048x512 (addf (transpose S16x128x8x64 [0, 3, 1, 2] (Host.dotGeneral (φ₁ := .f32) (φ₂ := .f32) dot_S16x384x8x64_S16x8x128x384_S16x8x64x128_1_3_3_2_02_01 none (res_main_v19 V0) (extractStridedSlice S16x8x128x384 ![0, 0, 0, 0] (res_main_v87 V0) slices_S16x8x128x641_S16x8x128x384_0_0_0_0)) transposes_S16x8x64x128_S16x128x8x64_0_3_1_2) (transpose S16x128x8x64 [2, 3, 0, 1] (Host.dotGeneral (φ₁ := .f32) (φ₂ := .f32) dot_S256x8x64_S16x8x128x256_S8x64x16x128_0_3_2_02_1_1 none (res_main_v21 V0) (extractStridedSlice S16x8x128x256 ![0, 0, 0, 384] (res_main_v87 V0) slices_S16x8x128x641_S16x8x128x256_0_0_0_384)) transposes_S8x64x16x128_S16x128x8x64_2_3_0_1)) shapeCasts_S16x128x8x64_S2048x512) bitsLt_bf16_f32 := by
  unfold w7
  simp only [ops_d, TRef.binary, TRef.unary, TRef.ternary, TRef.toBuf, TRef.ofBuf, cast_eq]
  after_results_simp
  simp only [w6_v19 W H, w6_v21 W H, w6_v85 W H] <;> rfl
-- ==== Proof.AttnHostAt.lean ====
/- Hand-written: the attention's output and log-sum-exp, as the launch finds them, brought to the real mathematics. -/
module

public import proofs.«01_k».proof.Proof.AttnHost

set_option maxRecDepth 16384

@[expose] public noncomputable section

open Idealize.ShloMosaic Idealize.ShloMosaic.TcCoe Idealize.SL.Sem Idealize.ShloMosaic.StableHlo
open scoped BigOperators

namespace Cert.Attn.Host
open Cert.KernelIdeal Cert.KernelIdeal.Gen
open Cert.ReferenceIdeal.Value (res_main_v12 res_main_v19 res_main_v20 res_main_v21 res_main_v22 res_main_v57_1 res_main_v62 res_main_v63 res_main_v83 res_main_v85 res_main_v87)

/-- The log-sum-exp spread over a head's lanes, at an index. -/
theorem lse_read (x : FVec Ideal S16x8x128x641 .f32) (m : FVec Ideal S16x8x128 .f32) (t : Fin 2048) (l : Fin 512) :
    (shapeCast S2048x512 (broadcastInDim S16x128x8x64 ![0, 1, 2, 3] bcast_S16x128x8x1_S16x128x8x64_0_1_2_3 (transpose S16x128x8x1 [0, 2, 1, 3] (addf (broadcastInDim S16x8x128x1 ![0, 1, 2] bcast_S16x8x128_S16x8x128x1_0_1_2 m) (Host.log (broadcastInDim S16x8x128x1 ![0, 1, 2] bcast_S16x8x128_S16x8x128x1_0_1_2 (Host.reduceAdd (Host.exp (subf x (broadcastInDim S16x8x128x641 ![0, 1, 2, 3] bcast_S16x8x128x1_S16x8x128x641_0_1_2_3 (broadcastInDim S16x8x128x1 ![0, 1, 2] bcast_S16x8x128_S16x8x128x1_0_1_2 m)))) (constant S_ .f32 0x00000000#32) reducesTo_S16x8x128x641_S16x8x128_d3 h_S_)))) transposes_S16x8x128x1_S16x128x8x1_0_2_1_3)) shapeCasts_S16x128x8x64_S2048x512 : FVec Ideal S2048x512 .f32) (ix2 t l)
      = m (ix3 (rowB t) (colH l) (rowR t)) + Ideal.log (∑ c : Fin 641, Ideal.exp (x (ix4 (rowB t) (colH l) (rowR t) c) - m (ix3 (rowB t) (colH l) (rowR t)))) := by
  pointwise

/-- The same, of a row of logits and its maximum. -/
theorem lse_val {Q : Fin 2048 → Fin 512 → ℝ} {K : Fin 2304 → Fin 512 → ℝ} {s : Fin 8 → ℝ} {μ : ℝ}
    (x : FVec Ideal S16x8x128x641 .f32) (m : FVec Ideal S16x8x128 .f32) (t : Fin 2048) (l : Fin 512)
    (hx : ∀ c, x (ix4 (rowB t) (colH l) (rowR t) c) = rowL Q K s (rowB t) (colH l) (rowR t) c)
    (hm : m (ix3 (rowB t) (colH l) (rowR t)) = (μ : EReal)) :
    (shapeCast S2048x512 (broadcastInDim S16x128x8x64 ![0, 1, 2, 3] bcast_S16x128x8x1_S16x128x8x64_0_1_2_3 (transpose S16x128x8x1 [0, 2, 1, 3] (addf (broadcastInDim S16x8x128x1 ![0, 1, 2] bcast_S16x8x128_S16x8x128x1_0_1_2 m) (Host.log (broadcastInDim S16x8x128x1 ![0, 1, 2] bcast_S16x8x128_S16x8x128x1_0_1_2 (Host.reduceAdd (Host.exp (subf x (broadcastInDim S16x8x128x641 ![0, 1, 2, 3] bcast_S16x8x128x1_S16x8x128x641_0_1_2_3 (broadcastInDim S16x8x128x1 ![0, 1, 2] bcast_S16x8x128_S16x8x128x1_0_1_2 m)))) (constant S_ .f32 0x00000000#32) reducesTo_S16x8x128x641_S16x8x128_d3 h_S_)))) transposes_S16x8x128x1_S16x128x8x1_0_2_1_3)) shapeCasts_S16x128x8x64_S2048x512 : FVec Ideal S2048x512 .f32) (ix2 t l)
      = ((Real.log (Spec.W Q K s (rowB t) (colH l) (rowR t)) : ℝ) : EReal) := by
  refine (lse_read x m t l).trans ?_
  simp only [hx, hm]
  rw [rowZ_eq]
  exact rowLse_eq (rowB t) (colH l) (rowR t)

/-- The output, at an index. -/
theorem y_read (p : FVec Ideal S16x8x128x641 .f32) (vw : FVec Ideal S16x384x8x64 .f32) (vc : FVec Ideal S256x8x64 .f32) (t : Fin 2048) (l : Fin 512) :
    (truncf .bf16 (shapeCast S2048x512 (addf (transpose S16x128x8x64 [0, 3, 1, 2] (Host.dotGeneral (φ₁ := .f32) (φ₂ := .f32) dot_S16x384x8x64_S16x8x128x384_S16x8x64x128_1_3_3_2_02_01 none vw (extractStridedSlice S16x8x128x384 ![0, 0, 0, 0] p slices_S16x8x128x641_S16x8x128x384_0_0_0_0)) transposes_S16x8x64x128_S16x128x8x64_0_3_1_2) (transpose S16x128x8x64 [2, 3, 0, 1] (Host.dotGeneral (φ₁ := .f32) (φ₂ := .f32) dot_S256x8x64_S16x8x128x256_S8x64x16x128_0_3_2_02_1_1 none vc (extractStridedSlice S16x8x128x256 ![0, 0, 0, 384] p slices_S16x8x128x641_S16x8x128x256_0_0_0_384)) transposes_S8x64x16x128_S16x128x8x64_2_3_0_1)) shapeCasts_S16x128x8x64_S2048x512) bitsLt_bf16_f32 : FVec Ideal S2048x512 .bf16) (ix2 t l)
      = ∑ c : Fin 384, vw (ix4 (rowB t) c (colH l) (colD l)) * p (ix4 (rowB t) (colH l) (rowR t) ⟨c.val, by omega⟩)
        + ∑ c : Fin 256, vc (ix3 c (colH l) (colD l)) * p (ix4 (rowB t) (colH l) (rowR t) ⟨384 + c.val, by omega⟩) := by
  pointwise

variable {W : Valuation τ sig (Elt Ideal)} {V0 : Valuation Cert.ReferenceIdeal.τ Cert.ReferenceIdeal.sig (Elt Ideal)}
variable {Q G : Fin 2048 → Fin 512 → ℝ} {K V : Fin 2304 → Fin 512 → ℝ} {s : Fin 8 → ℝ}
variable (H : Same W V0) (HA : Ref.Args V0 Q G K V s)
include H HA

/-- The log-sum-exp that the launch finds. -/
theorem lse_at (t : Fin 2048) (l : Fin 512) :
    (w7 W (Proc.devRef .tc main_v74) : FVec Ideal S2048x512 .f32) (ix2 t l)
      = ((Real.log (Spec.W Q K s (rowB t) (colH l) (rowR t)) : ℝ) : EReal) := by
  obtain ⟨μ, hμ⟩ := rowM_real (Q := Q) (K := K) (s := s) (rowB t) (colH l) (rowR t)
  refine (congrFun (w7_v74 W H) (ix2 t l)).trans ?_
  exact lse_val (res_main_v62 V0) (res_main_v63 V0) t l (fun c => Ref.s_at HA (rowB t) (colH l) (rowR t) c)
    ((Ref.m_at HA (rowB t) (colH l) (rowR t)).trans hμ)

/-- The output that the launch finds. -/
theorem y_at (t : Fin 2048) (l : Fin 512) :
    (w7 W (Proc.devRef .tc main_v94) : FVec Ideal S2048x512 .bf16) (ix2 t l)
      = ((Spec.Y Q K V s (rowB t) (colH l) (rowR t) (colD l) : ℝ) : EReal) := by
  refine (congrFun (w7_v94 W H) (ix2 t l)).trans ((y_read (res_main_v87 V0) (res_main_v19 V0) (res_main_v21 V0) t l).trans ?_)
  unfold Spec.Y
  rw [Reals.coe_sum, sum640]
  refine congrArg₂ (· + ·) (Finset.sum_congr rfl fun c _ => ?_) (Finset.sum_congr rfl fun c _ => ?_)
  · have hp := Ref.p_at HA (rowB t) (colH l) (rowR t) ⟨c.val, by omega⟩
    refine (congrArg₂ (fun (u v : EReal) => u * v) (Ref.bandv_at HA (rowB t) c (colH l) (colD l)) hp).trans ?_
    rw [← EReal.coe_mul]
    refine congrArg _ ?_
    by_cases hv : Valid (rowB t).val (rowR t).val c.val
    · rw [Ref.bandOf_valid V (rowB t) (rowR t) c _ hv, mul_comm]
    · rw [P_zero (rowB t) (colH l) (rowR t) ⟨c.val, by omega⟩ hv, zero_mul, mul_zero]
  · have hp := Ref.p_at HA (rowB t) (colH l) (rowR t) ⟨384 + c.val, by omega⟩
    refine (congrArg₂ (fun (u v : EReal) => u * v) (Ref.ctxv_at HA c (colH l) (colD l)) hp).trans ?_
    rw [← EReal.coe_mul, mul_comm, Ref.key_ctx (rowB t) ⟨384 + c.val, by omega⟩ (by simp)]
    simp only [Nat.add_sub_cancel_left]

end Cert.Attn.Host
-- ==== Proof.AttnBlocks.lean ====
/- Hand-written: the blocks that the attention gradient's launch reads at a grid point, in the real numbers. -/
module

public import proofs.«01_k».proof.Proof.AttnGroup
public import proofs.«01_k».proof.Proof.AttnHostAt
public import proofs.«01_k».proof.Proof.AttnFrameIdeal
public import Idealize.ShloMosaic.Lib.Pipeline.ValueKit

set_option maxRecDepth 16384

@[expose] public noncomputable section

open Idealize.ShloMosaic Idealize.ShloMosaic.TcCoe Idealize.SL.Sem
open Idealize.ShloMosaic.Pipeline (Dat)
open scoped BigOperators

namespace Cert.Attn.Host
open Cert.KernelIdeal Cert.KernelIdeal.Gen

/-- Every fixed window's block at every grid point. -/
theorem idx : ∀ t : Fin cfg0.N, win0_0.index t = ![0]
    ∧ win0_5.index t = ![0, 0]
    ∧ win0_9.index t = ![0, 0]
    ∧ win0_10.index t = ![t.val, 0]
    ∧ win0_11.index t = ![t.val, 0]
    ∧ win0_12.index t = ![t.val, 0]
    ∧ win0_13.index t = ![t.val, 0]
    ∧ win0_14.index t = ![t.val, 0, 0]
    ∧ win0_15.index t = ![t.val, 0, 0]
    ∧ win0_16.index t = ![0, 0]
    ∧ win0_17.index t = ![0, 0]
    ∧ win0_18.index t = ![0, 0] :=
  (by decide +kernel : ∀ t : Fin grid0.N, _)

/-- The query's and the neighbouring keys' and values' blocks at every grid point. -/
theorem idx_near : ∀ t : Fin cfg0.N, win0_1.index t = ![t.val + 2, 0]
    ∧ win0_2.index t = ![min (t.val - 1) 15 + 2, 0]
    ∧ win0_3.index t = ![min t.val 15 + 2, 0]
    ∧ win0_4.index t = ![min (t.val + 1) 15 + 2, 0]
    ∧ win0_6.index t = ![min (t.val - 1) 15 + 2, 0]
    ∧ win0_7.index t = ![min t.val 15 + 2, 0]
    ∧ win0_8.index t = ![min (t.val + 1) 15 + 2, 0] :=
  (by decide +kernel : ∀ t : Fin grid0.N, _)

variable {m : (ℓ : Loc nD τ sig) → Buf (Elt Ideal) ℓ} {c : Dev nD} {t : Fin cfg0.N}

theorem t_lt (t : Fin cfg0.N) : t.val < 16 := lt_of_lt_of_eq t.isLt N_0

theorem read1 (r : Fin 128) (l : Fin 512) : (iblk m c 1 t : Vec Ideal S128x512 .bf16) (ix2 r l)
    = (m (c, Proc.devRef .tc main_arg0) : FVec Ideal S2304x512 .bf16) (ix2 ⟨(t.val + 2) * 128 + r.val, by have := t_lt t; omega⟩ l) := by
  obtain ⟨e0, e5, e9, e10, e11, e12, e13, e14, e15, e16, e17, e18⟩ := idx t
  obtain ⟨e1, e2, e3, e4, e6, e7, e8⟩ := idx_near t
  blk_simp [iblk]
  rw [V_main_arg0]
  blk_ext [e1]

theorem read2 (r : Fin 128) (l : Fin 512) : (iblk m c 2 t : Vec Ideal S128x512 .bf16) (ix2 r l)
    = (m (c, Proc.devRef .tc main_arg1) : FVec Ideal S2304x512 .bf16) (ix2 ⟨(min (t.val - 1) 15 + 2) * 128 + r.val, by have := t_lt t; omega⟩ l) := by
  obtain ⟨e0, e5, e9, e10, e11, e12, e13, e14, e15, e16, e17, e18⟩ := idx t
  obtain ⟨e1, e2, e3, e4, e6, e7, e8⟩ := idx_near t
  blk_simp [iblk]
  rw [V_main_arg1]
  blk_ext [e2]

theorem read3 (r : Fin 128) (l : Fin 512) : (iblk m c 3 t : Vec Ideal S128x512 .bf16) (ix2 r l)
    = (m (c, Proc.devRef .tc main_arg1) : FVec Ideal S2304x512 .bf16) (ix2 ⟨(min t.val 15 + 2) * 128 + r.val, by have := t_lt t; omega⟩ l) := by
  obtain ⟨e0, e5, e9, e10, e11, e12, e13, e14, e15, e16, e17, e18⟩ := idx t
  obtain ⟨e1, e2, e3, e4, e6, e7, e8⟩ := idx_near t
  blk_simp [iblk]
  rw [V_main_arg1]
  blk_ext [e3]

theorem read4 (r : Fin 128) (l : Fin 512) : (iblk m c 4 t : Vec Ideal S128x512 .bf16) (ix2 r l)
    = (m (c, Proc.devRef .tc main_arg1) : FVec Ideal S2304x512 .bf16) (ix2 ⟨(min (t.val + 1) 15 + 2) * 128 + r.val, by have := t_lt t; omega⟩ l) := by
  obtain ⟨e0, e5, e9, e10, e11, e12, e13, e14, e15, e16, e17, e18⟩ := idx t
  obtain ⟨e1, e2, e3, e4, e6, e7, e8⟩ := idx_near t
  blk_simp [iblk]
  rw [V_main_arg1]
  blk_ext [e4]

theorem read6 (r : Fin 128) (l : Fin 512) : (iblk m c 6 t : Vec Ideal S128x512 .bf16) (ix2 r l)
    = (m (c, Proc.devRef .tc main_arg2) : FVec Ideal S2304x512 .bf16) (ix2 ⟨(min (t.val - 1) 15 + 2) * 128 + r.val, by have := t_lt t; omega⟩ l) := by
  obtain ⟨e0, e5, e9, e10, e11, e12, e13, e14, e15, e16, e17, e18⟩ := idx t
  obtain ⟨e1, e2, e3, e4, e6, e7, e8⟩ := idx_near t
  blk_simp [iblk]
  rw [V_main_arg2]
  blk_ext [e6]

theorem read7 (r : Fin 128) (l : Fin 512) : (iblk m c 7 t : Vec Ideal S128x512 .bf16) (ix2 r l)
    = (m (c, Proc.devRef .tc main_arg2) : FVec Ideal S2304x512 .bf16) (ix2 ⟨(min t.val 15 + 2) * 128 + r.val, by have := t_lt t; omega⟩ l) := by
  obtain ⟨e0, e5, e9, e10, e11, e12, e13, e14, e15, e16, e17, e18⟩ := idx t
  obtain ⟨e1, e2, e3, e4, e6, e7, e8⟩ := idx_near t
  blk_simp [iblk]
  rw [V_main_arg2]
  blk_ext [e7]

theorem read8 (r : Fin 128) (l : Fin 512) : (iblk m c 8 t : Vec Ideal S128x512 .bf16) (ix2 r l)
    = (m (c, Proc.devRef .tc main_arg2) : FVec Ideal S2304x512 .bf16) (ix2 ⟨(min (t.val + 1) 15 + 2) * 128 + r.val, by have := t_lt t; omega⟩ l) := by
  obtain ⟨e0, e5, e9, e10, e11, e12, e13, e14, e15, e16, e17, e18⟩ := idx t
  obtain ⟨e1, e2, e3, e4, e6, e7, e8⟩ := idx_near t
  blk_simp [iblk]
  rw [V_main_arg2]
  blk_ext [e8]

theorem read12 (r : Fin 128) (l : Fin 512) : (iblk m c 12 t : Vec Ideal S128x512 .f32) (ix2 r l)
    = (m (c, Proc.devRef .tc main_arg4) : FVec Ideal S2048x512 .f32) (ix2 ⟨(t.val) * 128 + r.val, by have := t_lt t; omega⟩ l) := by
  obtain ⟨e0, e5, e9, e10, e11, e12, e13, e14, e15, e16, e17, e18⟩ := idx t
  obtain ⟨e1, e2, e3, e4, e6, e7, e8⟩ := idx_near t
  blk_simp [iblk]
  rw [V_main_arg4]
  blk_ext [e12]

theorem read5 (r : Fin 256) (l : Fin 512) : (iblk m c 5 t : Vec Ideal S256x512 .bf16) (ix2 r l)
    = (m (c, Proc.devRef .tc main_arg1) : FVec Ideal S2304x512 .bf16) (ix2 ⟨r.val, by omega⟩ l) := by
  obtain ⟨e0, e5, e9, e10, e11, e12, e13, e14, e15, e16, e17, e18⟩ := idx t
  blk_simp [iblk]
  rw [V_main_arg1]
  blk_ext [e5]

theorem read9 (r : Fin 256) (l : Fin 512) : (iblk m c 9 t : Vec Ideal S256x512 .bf16) (ix2 r l)
    = (m (c, Proc.devRef .tc main_arg2) : FVec Ideal S2304x512 .bf16) (ix2 ⟨r.val, by omega⟩ l) := by
  obtain ⟨e0, e5, e9, e10, e11, e12, e13, e14, e15, e16, e17, e18⟩ := idx t
  blk_simp [iblk]
  rw [V_main_arg2]
  blk_ext [e9]

theorem read0 (h : Fin 8) : (iblk m c 0 t : Vec Ideal S8 .f32) (ix1 h)
    = (m (c, Proc.devRef .tc main_arg3) : FVec Ideal S8 .f32) (ix1 h) := by
  obtain ⟨e0, e5, e9, e10, e11, e12, e13, e14, e15, e16, e17, e18⟩ := idx t
  blk_simp [iblk]
  rw [V_main_arg3]
  blk_ext [e0]

theorem place10 (U : (b : Ref sig .tc) → Buf (Elt Ideal) ((c : Thread nD τ).loc b)) (r : Fin 128) (l : Fin 512) :
    (((cfg0.win 10).blk t).view.read (Elt Ideal) (U (Pipeline.arrRef spec0 10)) : Vec Ideal S128x512 .bf16) (ix2 r l)
    = (U main_v94 : FVec Ideal S2048x512 .bf16) (ix2 ⟨t.val * 128 + r.val, by have := t_lt t; omega⟩ l) := by
  obtain ⟨e0, e5, e9, e10, e11, e12, e13, e14, e15, e16, e17, e18⟩ := idx t
  blk_simp
  blk_ext [e10]

theorem read10 (r : Fin 128) (l : Fin 512) : (iblk m c 10 t : Vec Ideal S128x512 .bf16) (ix2 r l)
    = (w7 (fun b => m (c, b)) (Proc.devRef .tc main_v94) : FVec Ideal S2048x512 .bf16) (ix2 ⟨t.val * 128 + r.val, by have := t_lt t; omega⟩ l) :=
  (place10 (V m c) r l).trans (congrFun (V_eq m c main_v94) _)

theorem place11 (U : (b : Ref sig .tc) → Buf (Elt Ideal) ((c : Thread nD τ).loc b)) (r : Fin 128) (l : Fin 512) :
    (((cfg0.win 11).blk t).view.read (Elt Ideal) (U (Pipeline.arrRef spec0 11)) : Vec Ideal S128x512 .f32) (ix2 r l)
    = (U main_v74 : FVec Ideal S2048x512 .f32) (ix2 ⟨t.val * 128 + r.val, by have := t_lt t; omega⟩ l) := by
  obtain ⟨e0, e5, e9, e10, e11, e12, e13, e14, e15, e16, e17, e18⟩ := idx t
  blk_simp
  blk_ext [e11]

theorem read11 (r : Fin 128) (l : Fin 512) : (iblk m c 11 t : Vec Ideal S128x512 .f32) (ix2 r l)
    = (w7 (fun b => m (c, b)) (Proc.devRef .tc main_v74) : FVec Ideal S2048x512 .f32) (ix2 ⟨t.val * 128 + r.val, by have := t_lt t; omega⟩ l) :=
  (place11 (V m c) r l).trans (congrFun (V_eq m c main_v74) _)

/-- The grid point's block of queries. -/
abbrev blkOf (t : Fin cfg0.N) : Fin 16 := ⟨t.val, t_lt t⟩

variable {V0 : Valuation Cert.ReferenceIdeal.τ Cert.ReferenceIdeal.sig (Elt Ideal)}
variable {Q G : Fin 2048 → Fin 512 → ℝ} {K V : Fin 2304 → Fin 512 → ℝ} {s : Fin 8 → ℝ}
variable (H : Same (fun b => m (c, b)) V0) (HA : Ref.Args V0 Q G K V s)
  (H4 : (m (c, Proc.devRef .tc main_arg4) : FVec Ideal S2048x512 .f32) = V0 (Proc.devRef .tc Cert.ReferenceIdeal.main_arg4))
include H HA H4

theorem blk_real : Blk Q G K V s (blkOf t) (iblk m c 1 t) (iblk m c 12 t) (iblk m c 10 t) (iblk m c 11 t) where
  q_at r l := by
    rw [read1, show (m (c, Proc.devRef .tc main_arg0) : FVec Ideal S2304x512 .bf16) = _ from H.a0]
    refine Eq.trans ?_ (HA.q_eq (pos (blkOf t) r) l)
    congr 2; apply Fin.ext; dsimp only; omega
  d_at r l := by
    rw [read12, H4]
    exact HA.g_eq (pos (blkOf t) r) l
  y_at r l := by
    rw [read10]
    refine (y_at H HA _ l).trans ?_
    congr 2 <;> apply Fin.ext <;> dsimp only <;> omega
  l_at r l := by
    rw [read11]
    refine (lse_at H HA _ l).trans ?_
    congr 3 <;> apply Fin.ext <;> dsimp only <;> omega

theorem win_keys : Win K (blkOf t) (iblk m c 2 t) (iblk m c 3 t) (iblk m c 4 t) (iblk m c 5 t) where
  p0 r l := by
    rw [read2, show (m (c, Proc.devRef .tc main_arg1) : FVec Ideal S2304x512 .bf16) = _ from H.a1]
    refine Eq.trans ?_ (HA.k_eq _ l)
    congr 2; apply Fin.ext; unfold key; rw [dif_pos (by dsimp only; omega)]; dsimp only; omega
  p1 r l := by
    rw [read3, show (m (c, Proc.devRef .tc main_arg1) : FVec Ideal S2304x512 .bf16) = _ from H.a1]
    refine Eq.trans ?_ (HA.k_eq _ l)
    congr 2; apply Fin.ext; unfold key; rw [dif_pos (by dsimp only; omega)]; dsimp only; omega
  p2 r l := by
    rw [read4, show (m (c, Proc.devRef .tc main_arg1) : FVec Ideal S2304x512 .bf16) = _ from H.a1]
    refine Eq.trans ?_ (HA.k_eq _ l)
    congr 2; apply Fin.ext; unfold key; rw [dif_pos (by dsimp only; omega)]; dsimp only; omega
  p3 r l := by
    rw [read5, show (m (c, Proc.devRef .tc main_arg1) : FVec Ideal S2304x512 .bf16) = _ from H.a1]
    refine Eq.trans ?_ (HA.k_eq _ l)
    congr 2; apply Fin.ext; unfold key; rw [dif_neg (by dsimp only; omega)]; dsimp only; omega

theorem win_values : Win V (blkOf t) (iblk m c 6 t) (iblk m c 7 t) (iblk m c 8 t) (iblk m c 9 t) where
  p0 r l := by
    rw [read6, show (m (c, Proc.devRef .tc main_arg2) : FVec Ideal S2304x512 .bf16) = _ from H.a2]
    refine Eq.trans ?_ (HA.v_eq _ l)
    congr 2; apply Fin.ext; unfold key; rw [dif_pos (by dsimp only; omega)]; dsimp only; omega
  p1 r l := by
    rw [read7, show (m (c, Proc.devRef .tc main_arg2) : FVec Ideal S2304x512 .bf16) = _ from H.a2]
    refine Eq.trans ?_ (HA.v_eq _ l)
    congr 2; apply Fin.ext; unfold key; rw [dif_pos (by dsimp only; omega)]; dsimp only; omega
  p2 r l := by
    rw [read8, show (m (c, Proc.devRef .tc main_arg2) : FVec Ideal S2304x512 .bf16) = _ from H.a2]
    refine Eq.trans ?_ (HA.v_eq _ l)
    congr 2; apply Fin.ext; unfold key; rw [dif_pos (by dsimp only; omega)]; dsimp only; omega
  p3 r l := by
    rw [read9, show (m (c, Proc.devRef .tc main_arg2) : FVec Ideal S2304x512 .bf16) = _ from H.a2]
    refine Eq.trans ?_ (HA.v_eq _ l)
    congr 2; apply Fin.ext; unfold key; rw [dif_neg (by dsimp only; omega)]; dsimp only; omega

end Cert.Attn.Host
-- ==== Proof.AttnPt0.lean ====
/- Hand-written: small facts for the attention gradient's points. -/
module

public import proofs.«01_k».proof.Proof.AttnValueIdeal
public import proofs.«01_k».proof.Proof.AttnGroup
public import Idealize.ShloMosaic.Lib.Pipeline.ValueKit
public import Idealize.ShloMosaic.Lib.Pipeline.ReadBack

set_option maxRecDepth 16384

@[expose] public noncomputable section

open Idealize.ShloMosaic Idealize.ShloMosaic.TcCoe Idealize.SL.Sem
open Idealize.ShloMosaic.Pipeline (Dat)
open scoped BigOperators

namespace Cert.Attn
open Cert.KernelIdeal Cert.KernelIdeal.Gen
variable {m : (ℓ : Loc nD τ sig) → Buf (Elt Ideal) ℓ} {c : Dev nD} {t : Fin cfg0.N}
variable {Q G : Fin 2048 → Fin 512 → ℝ} {K V : Fin 2304 → Fin 512 → ℝ} {s : Fin 8 → ℝ} {b : Fin 16}
  (HB : Blk Q G K V s b (iblk m c 1 t) (iblk m c 12 t) (iblk m c 10 t) (iblk m c 11 t))
  (HK : Win K b (iblk m c 2 t) (iblk m c 3 t) (iblk m c 4 t) (iblk m c 5 t))
  (HV : Win V b (iblk m c 6 t) (iblk m c 7 t) (iblk m c 8 t) (iblk m c 9 t))
  (hb : (grid0.coords t 0).val = b.val)
  (HS : ∀ h : Fin 8, (iblk m c 0 t : Vec Ideal S8 .f32) (ix1 h) = ((s h : ℝ) : EReal))

theorem fk1 (a b c : Vec Ideal S128x256 .bf16) (e : Vec Ideal S256x256 .bf16) : k0_pay57 (F := Ideal) a b c e = k0_pay10 a b c e := rfl
theorem fv0 (a b c : Vec Ideal S128x256 .bf16) (e : Vec Ideal S256x256 .bf16) : k0_pay11 (F := Ideal) a b c e = k0_pay10 a b c e := rfl
theorem fv1 (a b c : Vec Ideal S128x256 .bf16) (e : Vec Ideal S256x256 .bf16) : k0_pay58 (F := Ideal) a b c e = k0_pay10 a b c e := rfl

/-- A list of stores is decided by its newest ones where they cover. -/
theorem canon_drop {S : Shape} {e : EltTy} {Val : EltTy → Type} [∀ e, Nonempty (Val e)] (L' : List (View.Piece Val S e)) :
    ∀ (L : List (View.Piece Val S e)) (y : S.Idx) (_ : ∃ p ∈ L, y ∈ p.1.set), View.canon (L ++ L') y = View.canon L y
  | [], y, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L' L y ?_
      obtain ⟨q, hq, hyq⟩ := hy
      rcases List.mem_cons.mp hq with rfl | hq'
      · exact absurd hyq hm
      · exact ⟨q, hq', hyq⟩
end Cert.Attn
-- ==== Proof.AttnPtA.lean ====
/- Hand-written: the query's and the bands' gradients that one point of the launch stores. -/
module

public import proofs.«01_k».proof.Proof.AttnValueIdeal
public import proofs.«01_k».proof.Proof.AttnPt0
public import Idealize.ShloMosaic.Lib.Pipeline.ValueKit
public import Idealize.ShloMosaic.Lib.Pipeline.ReadBack

set_option maxRecDepth 16384

@[expose] public noncomputable section

open Idealize.ShloMosaic Idealize.ShloMosaic.TcCoe Idealize.SL.Sem
open Idealize.ShloMosaic.Pipeline (Dat)
open scoped BigOperators

namespace Cert.Attn
open Cert.KernelIdeal Cert.KernelIdeal.Gen
variable {m : (ℓ : Loc nD τ sig) → Buf (Elt Ideal) ℓ} {c : Dev nD} {t : Fin cfg0.N}
variable {Q G : Fin 2048 → Fin 512 → ℝ} {K V : Fin 2304 → Fin 512 → ℝ} {s : Fin 8 → ℝ} {b : Fin 16}
  (HB : Blk Q G K V s b (iblk m c 1 t) (iblk m c 12 t) (iblk m c 10 t) (iblk m c 11 t))
  (HK : Win K b (iblk m c 2 t) (iblk m c 3 t) (iblk m c 4 t) (iblk m c 5 t))
  (HV : Win V b (iblk m c 6 t) (iblk m c 7 t) (iblk m c 8 t) (iblk m c 9 t))
  (hb : (grid0.coords t 0).val = b.val)
  (HS : ∀ h : Fin 8, (iblk m c 0 t : Vec Ideal S8 .f32) (ix1 h) = ((s h : ℝ) : EReal))

include HB HK HV hb in
set_option maxHeartbeats 1000000 in
/-- The query's gradient after a point of the launch (the first point). -/
theorem pt_13_A (h0 : t.val % 16 = 0) (y0 : Fin 128) (y1 : Fin 512) :
    (out0_A_13 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (ms0_8 t) (hs0_8 t) (ms0_9 t) (hs0_9 t) (ms0_10 t) (hs0_10 t) (ms0_11 t) (hs0_11 t)
      (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t)
      ((hcond0_0 t).mpr h0)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 y0 y1)
      = ((Spec.dq Q G K V s b (colH y1) y0 (colD y1) : ℝ) : EReal) := by
  frame_out
  simp only [fk1, fv0, fv1, ds_eq0, ds_eq1, p_eq1, dq_eq1]
  refine (pay3_at _ _ y0 y1).trans ?_
  by_cases h : y1.val < 256
  · rw [dif_pos h]
    obtain ⟨l, rfl⟩ : ∃ l, y1 = gcol 0 l := ⟨⟨y1.val, h⟩, by apply Fin.ext; show y1.val = 0 * 256 + y1.val; omega⟩
    refine (congrArg _ (congrArg (ix2 y0) (Fin.ext (by show 0 * 256 + l.val = l.val; omega) : _ = l))).trans ?_
    refine (grp0 HB hb (cat_win HK ?_ ?_ ?_ ?_) (cat_win HV ?_ ?_ ?_ ?_)).dq y0 l
    all_goals (intro r l; pointwise; exact congrArg _ (congrArg (ix2 r) (col0 l)))
  · rw [dif_neg h]
    obtain ⟨l, rfl⟩ : ∃ l, y1 = gcol 1 l := ⟨⟨y1.val - 256, by omega⟩, by apply Fin.ext; show y1.val = 1 * 256 + (y1.val - 256); omega⟩
    refine (congrArg _ (congrArg (ix2 y0) (Fin.ext (by show 1 * 256 + l.val - 256 = l.val; omega) : _ = l))).trans ?_
    refine (grp1 HB hb (cat_win HK ?_ ?_ ?_ ?_) (cat_win HV ?_ ?_ ?_ ?_)).dq y0 l
    all_goals (intro r l; pointwise; exact congrArg _ (congrArg (ix2 r) (col1 l)))

include HB HK HV hb in
set_option maxHeartbeats 1000000 in
/-- The query's gradient after a point of the launch (a later point). -/
theorem pt_13_B (h0 : ¬t.val % 16 = 0) (a16 a17 : Vec Ideal S256x512 .f32) (a18 : Vec Ideal S8x128 .f32) (y0 : Fin 128) (y1 : Fin 512) :
    (out0_B_13 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (ms0_8 t) (hs0_8 t) (ms0_9 t) (hs0_9 t) (ms0_10 t) (hs0_10 t) (ms0_11 t) (hs0_11 t)
      (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t)
      (fun h => h0 ((hcond0_0 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a16 a17 a18) (ix2 y0 y1)
      = ((Spec.dq Q G K V s b (colH y1) y0 (colD y1) : ℝ) : EReal) := by
  frame_out
  simp only [fk1, fv0, fv1, ds_eq0, ds_eq1, p_eq1, dq_eq1]
  refine (pay3_at _ _ y0 y1).trans ?_
  by_cases h : y1.val < 256
  · rw [dif_pos h]
    obtain ⟨l, rfl⟩ : ∃ l, y1 = gcol 0 l := ⟨⟨y1.val, h⟩, by apply Fin.ext; show y1.val = 0 * 256 + y1.val; omega⟩
    refine (congrArg _ (congrArg (ix2 y0) (Fin.ext (by show 0 * 256 + l.val = l.val; omega) : _ = l))).trans ?_
    refine (grp0 HB hb (cat_win HK ?_ ?_ ?_ ?_) (cat_win HV ?_ ?_ ?_ ?_)).dq y0 l
    all_goals (intro r l; pointwise; exact congrArg _ (congrArg (ix2 r) (col0 l)))
  · rw [dif_neg h]
    obtain ⟨l, rfl⟩ : ∃ l, y1 = gcol 1 l := ⟨⟨y1.val - 256, by omega⟩, by apply Fin.ext; show y1.val = 1 * 256 + (y1.val - 256); omega⟩
    refine (congrArg _ (congrArg (ix2 y0) (Fin.ext (by show 1 * 256 + l.val - 256 = l.val; omega) : _ = l))).trans ?_
    refine (grp1 HB hb (cat_win HK ?_ ?_ ?_ ?_) (cat_win HV ?_ ?_ ?_ ?_)).dq y0 l
    all_goals (intro r l; pointwise; exact congrArg _ (congrArg (ix2 r) (col1 l)))

include HB HK HV hb in
set_option maxHeartbeats 1000000 in
/-- The band keys' gradient after a point of the launch (the first point). -/
theorem pt_14_A (h0 : t.val % 16 = 0) (y0 : Fin 1) (y1 : Fin 384) (y2 : Fin 512) :
    (out0_A_14 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (ms0_8 t) (hs0_8 t) (ms0_9 t) (hs0_9 t) (ms0_10 t) (hs0_10 t) (ms0_11 t) (hs0_11 t)
      (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t)
      ((hcond0_0 t).mpr h0)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix3 y0 y1 y2)
      = ((Spec.dk Q G K V s b (colH y2) ⟨y1.val, by omega⟩ (colD y2) : ℝ) : EReal) := by
  frame_out
  simp only [fk1, fv0, fv1, ds_eq0, ds_eq1, p_eq1, dq_eq1]
  canon_tiles x h
  · idx_vars x
    obtain rfl : x0 = 0 := Subsingleton.elim _ _
    have h1' : y1 = x1 := Fin.ext h1
    subst h1'
    obtain rfl : y2 = gcol 1 x2 := Fin.ext (by have h2' : y2.val = 256 + x2.val := (by simpa using h2); show y2.val = 1 * 256 + x2.val; omega)
    refine (pay100_at _ _ y1 x2).trans ?_
    refine ((grp1 HB hb (cat_win HK ?_ ?_ ?_ ?_) (cat_win HV ?_ ?_ ?_ ?_)).dk _ _).trans rfl
    all_goals (intro r l; pointwise; exact congrArg _ (congrArg (ix2 r) (col1 l)))
  · idx_vars x
    obtain rfl : x0 = 0 := Subsingleton.elim _ _
    have h1' : y1 = x1 := Fin.ext h1
    subst h1'
    obtain rfl : y2 = gcol 0 x2 := Fin.ext (by have h2' : y2.val = 0 + x2.val := (by simpa using h2); show y2.val = 0 * 256 + x2.val; omega)
    refine (pay53_at _ _ y1 x2).trans ?_
    refine ((grp0 HB hb (cat_win HK ?_ ?_ ?_ ?_) (cat_win HV ?_ ?_ ?_ ?_)).dk _ _).trans rfl
    all_goals (intro r l; pointwise; exact congrArg _ (congrArg (ix2 r) (col0 l)))

include HB HK HV hb in
set_option maxHeartbeats 1000000 in
/-- The band keys' gradient after a point of the launch (a later point). -/
theorem pt_14_B (h0 : ¬t.val % 16 = 0) (a16 a17 : Vec Ideal S256x512 .f32) (a18 : Vec Ideal S8x128 .f32) (y0 : Fin 1) (y1 : Fin 384) (y2 : Fin 512) :
    (out0_B_14 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (ms0_8 t) (hs0_8 t) (ms0_9 t) (hs0_9 t) (ms0_10 t) (hs0_10 t) (ms0_11 t) (hs0_11 t)
      (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t)
      (fun h => h0 ((hcond0_0 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a16 a17 a18) (ix3 y0 y1 y2)
      = ((Spec.dk Q G K V s b (colH y2) ⟨y1.val, by omega⟩ (colD y2) : ℝ) : EReal) := by
  frame_out
  simp only [fk1, fv0, fv1, ds_eq0, ds_eq1, p_eq1, dq_eq1]
  canon_tiles x h
  · idx_vars x
    obtain rfl : x0 = 0 := Subsingleton.elim _ _
    have h1' : y1 = x1 := Fin.ext h1
    subst h1'
    obtain rfl : y2 = gcol 1 x2 := Fin.ext (by have h2' : y2.val = 256 + x2.val := (by simpa using h2); show y2.val = 1 * 256 + x2.val; omega)
    refine (pay100_at _ _ y1 x2).trans ?_
    refine ((grp1 HB hb (cat_win HK ?_ ?_ ?_ ?_) (cat_win HV ?_ ?_ ?_ ?_)).dk _ _).trans rfl
    all_goals (intro r l; pointwise; exact congrArg _ (congrArg (ix2 r) (col1 l)))
  · idx_vars x
    obtain rfl : x0 = 0 := Subsingleton.elim _ _
    have h1' : y1 = x1 := Fin.ext h1
    subst h1'
    obtain rfl : y2 = gcol 0 x2 := Fin.ext (by have h2' : y2.val = 0 + x2.val := (by simpa using h2); show y2.val = 0 * 256 + x2.val; omega)
    refine (pay53_at _ _ y1 x2).trans ?_
    refine ((grp0 HB hb (cat_win HK ?_ ?_ ?_ ?_) (cat_win HV ?_ ?_ ?_ ?_)).dk _ _).trans rfl
    all_goals (intro r l; pointwise; exact congrArg _ (congrArg (ix2 r) (col0 l)))

include HB HK HV hb in
set_option maxHeartbeats 1000000 in
/-- The band values' gradient after a point of the launch (the first point). -/
theorem pt_15_A (h0 : t.val % 16 = 0) (y0 : Fin 1) (y1 : Fin 384) (y2 : Fin 512) :
    (out0_A_15 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (ms0_8 t) (hs0_8 t) (ms0_9 t) (hs0_9 t) (ms0_10 t) (hs0_10 t) (ms0_11 t) (hs0_11 t)
      (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t)
      ((hcond0_0 t).mpr h0)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix3 y0 y1 y2)
      = ((Spec.dv Q G K s b (colH y2) ⟨y1.val, by omega⟩ (colD y2) : ℝ) : EReal) := by
  frame_out
  simp only [fk1, fv0, fv1, ds_eq0, ds_eq1, p_eq1, dq_eq1]
  canon_tiles x h
  · idx_vars x
    obtain rfl : x0 = 0 := Subsingleton.elim _ _
    have h1' : y1 = x1 := Fin.ext h1
    subst h1'
    obtain rfl : y2 = gcol 1 x2 := Fin.ext (by have h2' : y2.val = 256 + x2.val := (by simpa using h2); show y2.val = 1 * 256 + x2.val; omega)
    refine (pay101_at _ _ y1 x2).trans ?_
    refine ((grp1 HB hb (cat_win HK ?_ ?_ ?_ ?_) (VV := fun j => ((V (key b (j 0)) (gcol 1 (j 1)) : ℝ) : EReal)) (fun _ _ => rfl)).dv _ _).trans rfl
    all_goals (intro r l; pointwise; exact congrArg _ (congrArg (ix2 r) (col1 l)))
  · idx_vars x
    obtain rfl : x0 = 0 := Subsingleton.elim _ _
    have h1' : y1 = x1 := Fin.ext h1
    subst h1'
    obtain rfl : y2 = gcol 0 x2 := Fin.ext (by have h2' : y2.val = 0 + x2.val := (by simpa using h2); show y2.val = 0 * 256 + x2.val; omega)
    refine (pay54_at _ _ y1 x2).trans ?_
    refine ((grp0 HB hb (cat_win HK ?_ ?_ ?_ ?_) (VV := fun j => ((V (key b (j 0)) (gcol 0 (j 1)) : ℝ) : EReal)) (fun _ _ => rfl)).dv _ _).trans rfl
    all_goals (intro r l; pointwise; exact congrArg _ (congrArg (ix2 r) (col0 l)))

include HB HK HV hb in
set_option maxHeartbeats 1000000 in
/-- The band values' gradient after a point of the launch (a later point). -/
theorem pt_15_B (h0 : ¬t.val % 16 = 0) (a16 a17 : Vec Ideal S256x512 .f32) (a18 : Vec Ideal S8x128 .f32) (y0 : Fin 1) (y1 : Fin 384) (y2 : Fin 512) :
    (out0_B_15 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (ms0_8 t) (hs0_8 t) (ms0_9 t) (hs0_9 t) (ms0_10 t) (hs0_10 t) (ms0_11 t) (hs0_11 t)
      (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t)
      (fun h => h0 ((hcond0_0 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a16 a17 a18) (ix3 y0 y1 y2)
      = ((Spec.dv Q G K s b (colH y2) ⟨y1.val, by omega⟩ (colD y2) : ℝ) : EReal) := by
  frame_out
  simp only [fk1, fv0, fv1, ds_eq0, ds_eq1, p_eq1, dq_eq1]
  canon_tiles x h
  · idx_vars x
    obtain rfl : x0 = 0 := Subsingleton.elim _ _
    have h1' : y1 = x1 := Fin.ext h1
    subst h1'
    obtain rfl : y2 = gcol 1 x2 := Fin.ext (by have h2' : y2.val = 256 + x2.val := (by simpa using h2); show y2.val = 1 * 256 + x2.val; omega)
    refine (pay101_at _ _ y1 x2).trans ?_
    refine ((grp1 HB hb (cat_win HK ?_ ?_ ?_ ?_) (VV := fun j => ((V (key b (j 0)) (gcol 1 (j 1)) : ℝ) : EReal)) (fun _ _ => rfl)).dv _ _).trans rfl
    all_goals (intro r l; pointwise; exact congrArg _ (congrArg (ix2 r) (col1 l)))
  · idx_vars x
    obtain rfl : x0 = 0 := Subsingleton.elim _ _
    have h1' : y1 = x1 := Fin.ext h1
    subst h1'
    obtain rfl : y2 = gcol 0 x2 := Fin.ext (by have h2' : y2.val = 0 + x2.val := (by simpa using h2); show y2.val = 0 * 256 + x2.val; omega)
    refine (pay54_at _ _ y1 x2).trans ?_
    refine ((grp0 HB hb (cat_win HK ?_ ?_ ?_ ?_) (VV := fun j => ((V (key b (j 0)) (gcol 0 (j 1)) : ℝ) : EReal)) (fun _ _ => rfl)).dv _ _).trans rfl
    all_goals (intro r l; pointwise; exact congrArg _ (congrArg (ix2 r) (col0 l)))

end Cert.Attn
-- ==== Proof.AttnPtB.lean ====
/- Hand-written: what one point of the launch adds to the context's gradients. -/
module

public import proofs.«01_k».proof.Proof.AttnValueIdeal
public import proofs.«01_k».proof.Proof.AttnPt0
public import Idealize.ShloMosaic.Lib.Pipeline.ValueKit
public import Idealize.ShloMosaic.Lib.Pipeline.ReadBack

set_option maxRecDepth 16384

@[expose] public noncomputable section

open Idealize.ShloMosaic Idealize.ShloMosaic.TcCoe Idealize.SL.Sem
open Idealize.ShloMosaic.Pipeline (Dat)
open scoped BigOperators

namespace Cert.Attn
open Cert.KernelIdeal Cert.KernelIdeal.Gen
variable {m : (ℓ : Loc nD τ sig) → Buf (Elt Ideal) ℓ} {c : Dev nD} {t : Fin cfg0.N}
variable {Q G : Fin 2048 → Fin 512 → ℝ} {K V : Fin 2304 → Fin 512 → ℝ} {s : Fin 8 → ℝ} {b : Fin 16}
  (HB : Blk Q G K V s b (iblk m c 1 t) (iblk m c 12 t) (iblk m c 10 t) (iblk m c 11 t))
  (HK : Win K b (iblk m c 2 t) (iblk m c 3 t) (iblk m c 4 t) (iblk m c 5 t))
  (HV : Win V b (iblk m c 6 t) (iblk m c 7 t) (iblk m c 8 t) (iblk m c 9 t))
  (hb : (grid0.coords t 0).val = b.val)
  (HS : ∀ h : Fin 8, (iblk m c 0 t : Vec Ideal S8 .f32) (ix1 h) = ((s h : ℝ) : EReal))

include HB HK HV hb in
set_option maxHeartbeats 1000000 in
/-- The context keys' gradient after a point of the launch (the first point). -/
theorem pt_16_A (h0 : t.val % 16 = 0) (y0 : Fin 256) (y1 : Fin 512) :
    (out0_A_16 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (ms0_8 t) (hs0_8 t) (ms0_9 t) (hs0_9 t) (ms0_10 t) (hs0_10 t) (ms0_11 t) (hs0_11 t)
      (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t)
      ((hcond0_0 t).mpr h0)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 y0 y1)
      = (0 : EReal) + ((Spec.dk Q G K V s b (colH y1) ⟨384 + y0.val, by omega⟩ (colD y1) : ℝ) : EReal) := by
  frame_out
  simp (disch := decide) only [↓ View.readCov_skip, ↓ View.readCov_fill]
  simp only [fk1, fv0, fv1, ds_eq0, ds_eq1, p_eq1, dq_eq1]
  refine (canon_drop [_] [_, _] (ix2 y0 y1) (View.cover_of_tiled_head _ _ _ rfl _)).trans ?_
  canon_tiles x h
  · idx_vars x
    have h0' : y0 = x0 := Fin.ext (by simpa using h0)
    subst h0'
    obtain rfl : y1 = gcol 1 x1 := Fin.ext (by have h2' : y1.val = 256 + x1.val := (by simpa using h1); show y1.val = 1 * 256 + x1.val; omega)
    refine (pay102_at _ _ _ y0 x1).trans ?_
    refine congrArg₂ (fun (u v : EReal) => u + v) ?_ ((grp1 HB hb (cat_win HK ?_ ?_ ?_ ?_) (cat_win HV ?_ ?_ ?_ ?_)).dk _ _)
    · pointwise [k0_pay4]
    all_goals (intro r l; pointwise; exact congrArg _ (congrArg (ix2 r) (col1 l)))
  · idx_vars x
    have h0' : y0 = x0 := Fin.ext (by simpa using h0)
    subst h0'
    obtain rfl : y1 = gcol 0 x1 := Fin.ext (by have h2' : y1.val = 0 + x1.val := (by simpa using h1); show y1.val = 0 * 256 + x1.val; omega)
    refine (pay55_at _ _ _ y0 x1).trans ?_
    refine congrArg₂ (fun (u v : EReal) => u + v) ?_ ((grp0 HB hb (cat_win HK ?_ ?_ ?_ ?_) (cat_win HV ?_ ?_ ?_ ?_)).dk _ _)
    · pointwise [k0_pay4]
    all_goals (intro r l; pointwise; exact congrArg _ (congrArg (ix2 r) (col0 l)))

include HB HK HV hb in
set_option maxHeartbeats 1000000 in
/-- The context keys' gradient after a point of the launch (a later point). -/
theorem pt_16_B (h0 : ¬t.val % 16 = 0) (a16 a17 : Vec Ideal S256x512 .f32) (a18 : Vec Ideal S8x128 .f32) (y0 : Fin 256) (y1 : Fin 512) :
    (out0_B_16 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (ms0_8 t) (hs0_8 t) (ms0_9 t) (hs0_9 t) (ms0_10 t) (hs0_10 t) (ms0_11 t) (hs0_11 t)
      (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t)
      (fun h => h0 ((hcond0_0 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a16 a17 a18) (ix2 y0 y1)
      = (a16 (ix2 y0 y1) : EReal) + ((Spec.dk Q G K V s b (colH y1) ⟨384 + y0.val, by omega⟩ (colD y1) : ℝ) : EReal) := by
  frame_out
  simp only [fk1, fv0, fv1, ds_eq0, ds_eq1, p_eq1, dq_eq1]
  canon_tiles x h
  · idx_vars x
    have h0' : y0 = x0 := Fin.ext (by simpa using h0)
    subst h0'
    obtain rfl : y1 = gcol 1 x1 := Fin.ext (by have h2' : y1.val = 256 + x1.val := (by simpa using h1); show y1.val = 1 * 256 + x1.val; omega)
    refine (pay102_at _ _ _ y0 x1).trans ?_
    refine congrArg₂ (fun (u v : EReal) => u + v) ?_ ((grp1 HB hb (cat_win HK ?_ ?_ ?_ ?_) (cat_win HV ?_ ?_ ?_ ?_)).dk _ _)
    · pointwise; exact congrArg _ (congrArg (ix2 y0) (col1 x1))
    all_goals (intro r l; pointwise; exact congrArg _ (congrArg (ix2 r) (col1 l)))
  · idx_vars x
    have h0' : y0 = x0 := Fin.ext (by simpa using h0)
    subst h0'
    obtain rfl : y1 = gcol 0 x1 := Fin.ext (by have h2' : y1.val = 0 + x1.val := (by simpa using h1); show y1.val = 0 * 256 + x1.val; omega)
    refine (pay55_at _ _ _ y0 x1).trans ?_
    refine congrArg₂ (fun (u v : EReal) => u + v) ?_ ((grp0 HB hb (cat_win HK ?_ ?_ ?_ ?_) (cat_win HV ?_ ?_ ?_ ?_)).dk _ _)
    · pointwise; exact congrArg _ (congrArg (ix2 y0) (col0 x1))
    all_goals (intro r l; pointwise; exact congrArg _ (congrArg (ix2 r) (col0 l)))

include HB HK HV hb in
set_option maxHeartbeats 1000000 in
/-- The context values' gradient after a point of the launch (the first point). -/
theorem pt_17_A (h0 : t.val % 16 = 0) (y0 : Fin 256) (y1 : Fin 512) :
    (out0_A_17 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (ms0_8 t) (hs0_8 t) (ms0_9 t) (hs0_9 t) (ms0_10 t) (hs0_10 t) (ms0_11 t) (hs0_11 t)
      (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t)
      ((hcond0_0 t).mpr h0)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 y0 y1)
      = (0 : EReal) + ((Spec.dv Q G K s b (colH y1) ⟨384 + y0.val, by omega⟩ (colD y1) : ℝ) : EReal) := by
  frame_out
  simp (disch := decide) only [↓ View.readCov_skip, ↓ View.readCov_fill]
  simp only [fk1, fv0, fv1, ds_eq0, ds_eq1, p_eq1, dq_eq1]
  refine (canon_drop [_] [_, _] (ix2 y0 y1) (View.cover_of_tiled_head _ _ _ rfl _)).trans ?_
  canon_tiles x h
  · idx_vars x
    have h0' : y0 = x0 := Fin.ext (by simpa using h0)
    subst h0'
    obtain rfl : y1 = gcol 1 x1 := Fin.ext (by have h2' : y1.val = 256 + x1.val := (by simpa using h1); show y1.val = 1 * 256 + x1.val; omega)
    refine (pay2_at _ _ _ y0 x1).trans ?_
    refine congrArg₂ (fun (u v : EReal) => u + v) ?_ ((grp1 HB hb (cat_win HK ?_ ?_ ?_ ?_) (VV := fun j => ((V (key b (j 0)) (gcol 1 (j 1)) : ℝ) : EReal)) (fun _ _ => rfl)).dv _ _)
    · pointwise [k0_pay5]
    all_goals (intro r l; pointwise; exact congrArg _ (congrArg (ix2 r) (col1 l)))
  · idx_vars x
    have h0' : y0 = x0 := Fin.ext (by simpa using h0)
    subst h0'
    obtain rfl : y1 = gcol 0 x1 := Fin.ext (by have h2' : y1.val = 0 + x1.val := (by simpa using h1); show y1.val = 0 * 256 + x1.val; omega)
    refine (pay56_at _ _ _ y0 x1).trans ?_
    refine congrArg₂ (fun (u v : EReal) => u + v) ?_ ((grp0 HB hb (cat_win HK ?_ ?_ ?_ ?_) (VV := fun j => ((V (key b (j 0)) (gcol 0 (j 1)) : ℝ) : EReal)) (fun _ _ => rfl)).dv _ _)
    · pointwise [k0_pay5]
    all_goals (intro r l; pointwise; exact congrArg _ (congrArg (ix2 r) (col0 l)))

include HB HK HV hb in
set_option maxHeartbeats 1000000 in
/-- The context values' gradient after a point of the launch (a later point). -/
theorem pt_17_B (h0 : ¬t.val % 16 = 0) (a16 a17 : Vec Ideal S256x512 .f32) (a18 : Vec Ideal S8x128 .f32) (y0 : Fin 256) (y1 : Fin 512) :
    (out0_B_17 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (ms0_8 t) (hs0_8 t) (ms0_9 t) (hs0_9 t) (ms0_10 t) (hs0_10 t) (ms0_11 t) (hs0_11 t)
      (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t)
      (fun h => h0 ((hcond0_0 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a16 a17 a18) (ix2 y0 y1)
      = (a17 (ix2 y0 y1) : EReal) + ((Spec.dv Q G K s b (colH y1) ⟨384 + y0.val, by omega⟩ (colD y1) : ℝ) : EReal) := by
  frame_out
  simp only [fk1, fv0, fv1, ds_eq0, ds_eq1, p_eq1, dq_eq1]
  canon_tiles x h
  · idx_vars x
    have h0' : y0 = x0 := Fin.ext (by simpa using h0)
    subst h0'
    obtain rfl : y1 = gcol 1 x1 := Fin.ext (by have h2' : y1.val = 256 + x1.val := (by simpa using h1); show y1.val = 1 * 256 + x1.val; omega)
    refine (pay2_at _ _ _ y0 x1).trans ?_
    refine congrArg₂ (fun (u v : EReal) => u + v) ?_ ((grp1 HB hb (cat_win HK ?_ ?_ ?_ ?_) (VV := fun j => ((V (key b (j 0)) (gcol 1 (j 1)) : ℝ) : EReal)) (fun _ _ => rfl)).dv _ _)
    · pointwise; exact congrArg _ (congrArg (ix2 y0) (col1 x1))
    all_goals (intro r l; pointwise; exact congrArg _ (congrArg (ix2 r) (col1 l)))
  · idx_vars x
    have h0' : y0 = x0 := Fin.ext (by simpa using h0)
    subst h0'
    obtain rfl : y1 = gcol 0 x1 := Fin.ext (by have h2' : y1.val = 0 + x1.val := (by simpa using h1); show y1.val = 0 * 256 + x1.val; omega)
    refine (pay56_at _ _ _ y0 x1).trans ?_
    refine congrArg₂ (fun (u v : EReal) => u + v) ?_ ((grp0 HB hb (cat_win HK ?_ ?_ ?_ ?_) (VV := fun j => ((V (key b (j 0)) (gcol 0 (j 1)) : ℝ) : EReal)) (fun _ _ => rfl)).dv _ _)
    · pointwise; exact congrArg _ (congrArg (ix2 y0) (col0 x1))
    all_goals (intro r l; pointwise; exact congrArg _ (congrArg (ix2 r) (col0 l)))

end Cert.Attn
-- ==== Proof.AttnPtC.lean ====
/- Hand-written: what one point of the launch adds to the sinks' gradient. -/
module

public import proofs.«01_k».proof.Proof.AttnValueIdeal
public import proofs.«01_k».proof.Proof.AttnPt0
public import Idealize.ShloMosaic.Lib.Pipeline.ValueKit
public import Idealize.ShloMosaic.Lib.Pipeline.ReadBack

set_option maxRecDepth 16384

@[expose] public noncomputable section

open Idealize.ShloMosaic Idealize.ShloMosaic.TcCoe Idealize.SL.Sem
open Idealize.ShloMosaic.Pipeline (Dat)
open scoped BigOperators

namespace Cert.Attn
open Cert.KernelIdeal Cert.KernelIdeal.Gen
variable {m : (ℓ : Loc nD τ sig) → Buf (Elt Ideal) ℓ} {c : Dev nD} {t : Fin cfg0.N}
variable {Q G : Fin 2048 → Fin 512 → ℝ} {K V : Fin 2304 → Fin 512 → ℝ} {s : Fin 8 → ℝ} {b : Fin 16}
  (HB : Blk Q G K V s b (iblk m c 1 t) (iblk m c 12 t) (iblk m c 10 t) (iblk m c 11 t))
  (HK : Win K b (iblk m c 2 t) (iblk m c 3 t) (iblk m c 4 t) (iblk m c 5 t))
  (HV : Win V b (iblk m c 6 t) (iblk m c 7 t) (iblk m c 8 t) (iblk m c 9 t))
  (hb : (grid0.coords t 0).val = b.val)
  (HS : ∀ h : Fin 8, (iblk m c 0 t : Vec Ideal S8 .f32) (ix1 h) = ((s h : ℝ) : EReal))

include HB HK HV hb HS in
set_option maxHeartbeats 2000000 in
/-- The sinks' gradient after a point of the launch (the first point). -/
theorem pt_18_A (h0 : t.val % 16 = 0) (y0 : Fin 8) (y1 : Fin 128) :
    (out0_A_18 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (ms0_8 t) (hs0_8 t) (ms0_9 t) (hs0_9 t) (ms0_10 t) (hs0_10 t) (ms0_11 t) (hs0_11 t)
      (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t)
      ((hcond0_0 t).mpr h0)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 y0 y1)
      = (0 : EReal) + ((Spec.dt Q G K V s b y0 : ℝ) : EReal) := by
  frame_out
  simp (disch := decide) only [↓ View.readCov_skip, ↓ View.readCov_fill]
  refine (canon_drop [_] [_, _, _, _, _, _, _, _] (ix2 y0 y1) (View.cover_of_tiled_head _ _ _ rfl _)).trans ?_
  canon_tiles x h
  · idx_vars x
    obtain rfl : x0 = 0 := Subsingleton.elim _ _
    obtain rfl : y0 = hd 1 3 := Fin.ext (by have h0' : y0.val = 7 := (by simpa using h0); show y0.val = 1 * 4 + 3; omega)
    have h1' : y1 = x1 := Fin.ext (by simpa using h1)
    subst h1'
    refine (sink_row7 _ _ _ _ _ _ _ y1).trans ?_
    refine congrArg₂ (fun (u v : EReal) => u + v) ?_ ((grp1 HB hb (KK := fun j => ((K (key b (j 0)) (gcol 1 (j 1)) : ℝ) : EReal)) (fun _ _ => rfl) (VV := fun j => ((V (key b (j 0)) (gcol 1 (j 1)) : ℝ) : EReal)) (fun _ _ => rfl)).dt _ _ _ _ ?_ 3)
    · pointwise [k0_pay6]
    · intro j
      fin_cases j
      · exact Eq.trans (by pointwise; exact congrArg (fun r => (iblk m c 0 t : Vec Ideal S8 .f32) (ix1 r)) (Fin.ext rfl : (4 : Fin 8) = hd 1 0)) (HS (hd 1 0))
      · exact Eq.trans (by pointwise; exact congrArg (fun r => (iblk m c 0 t : Vec Ideal S8 .f32) (ix1 r)) (Fin.ext rfl : (5 : Fin 8) = hd 1 1)) (HS (hd 1 1))
      · exact Eq.trans (by pointwise; exact congrArg (fun r => (iblk m c 0 t : Vec Ideal S8 .f32) (ix1 r)) (Fin.ext rfl : (6 : Fin 8) = hd 1 2)) (HS (hd 1 2))
      · exact Eq.trans (by pointwise; exact congrArg (fun r => (iblk m c 0 t : Vec Ideal S8 .f32) (ix1 r)) (Fin.ext rfl : (7 : Fin 8) = hd 1 3)) (HS (hd 1 3))
  · idx_vars x
    obtain rfl : x0 = 0 := Subsingleton.elim _ _
    obtain rfl : y0 = hd 1 2 := Fin.ext (by have h0' : y0.val = 6 := (by simpa using h0); show y0.val = 1 * 4 + 2; omega)
    have h1' : y1 = x1 := Fin.ext (by simpa using h1)
    subst h1'
    refine (sink_row6 _ _ _ _ _ _ _ y1).trans ?_
    refine congrArg₂ (fun (u v : EReal) => u + v) ?_ ((grp1 HB hb (KK := fun j => ((K (key b (j 0)) (gcol 1 (j 1)) : ℝ) : EReal)) (fun _ _ => rfl) (VV := fun j => ((V (key b (j 0)) (gcol 1 (j 1)) : ℝ) : EReal)) (fun _ _ => rfl)).dt _ _ _ _ ?_ 2)
    · pointwise [k0_pay6]
    · intro j
      fin_cases j
      · exact Eq.trans (by pointwise; exact congrArg (fun r => (iblk m c 0 t : Vec Ideal S8 .f32) (ix1 r)) (Fin.ext rfl : (4 : Fin 8) = hd 1 0)) (HS (hd 1 0))
      · exact Eq.trans (by pointwise; exact congrArg (fun r => (iblk m c 0 t : Vec Ideal S8 .f32) (ix1 r)) (Fin.ext rfl : (5 : Fin 8) = hd 1 1)) (HS (hd 1 1))
      · exact Eq.trans (by pointwise; exact congrArg (fun r => (iblk m c 0 t : Vec Ideal S8 .f32) (ix1 r)) (Fin.ext rfl : (6 : Fin 8) = hd 1 2)) (HS (hd 1 2))
      · exact Eq.trans (by pointwise; exact congrArg (fun r => (iblk m c 0 t : Vec Ideal S8 .f32) (ix1 r)) (Fin.ext rfl : (7 : Fin 8) = hd 1 3)) (HS (hd 1 3))
  · idx_vars x
    obtain rfl : x0 = 0 := Subsingleton.elim _ _
    obtain rfl : y0 = hd 1 1 := Fin.ext (by have h0' : y0.val = 5 := (by simpa using h0); show y0.val = 1 * 4 + 1; omega)
    have h1' : y1 = x1 := Fin.ext (by simpa using h1)
    subst h1'
    refine (sink_row5 _ _ _ _ _ _ _ y1).trans ?_
    refine congrArg₂ (fun (u v : EReal) => u + v) ?_ ((grp1 HB hb (KK := fun j => ((K (key b (j 0)) (gcol 1 (j 1)) : ℝ) : EReal)) (fun _ _ => rfl) (VV := fun j => ((V (key b (j 0)) (gcol 1 (j 1)) : ℝ) : EReal)) (fun _ _ => rfl)).dt _ _ _ _ ?_ 1)
    · pointwise [k0_pay6]
    · intro j
      fin_cases j
      · exact Eq.trans (by pointwise; exact congrArg (fun r => (iblk m c 0 t : Vec Ideal S8 .f32) (ix1 r)) (Fin.ext rfl : (4 : Fin 8) = hd 1 0)) (HS (hd 1 0))
      · exact Eq.trans (by pointwise; exact congrArg (fun r => (iblk m c 0 t : Vec Ideal S8 .f32) (ix1 r)) (Fin.ext rfl : (5 : Fin 8) = hd 1 1)) (HS (hd 1 1))
      · exact Eq.trans (by pointwise; exact congrArg (fun r => (iblk m c 0 t : Vec Ideal S8 .f32) (ix1 r)) (Fin.ext rfl : (6 : Fin 8) = hd 1 2)) (HS (hd 1 2))
      · exact Eq.trans (by pointwise; exact congrArg (fun r => (iblk m c 0 t : Vec Ideal S8 .f32) (ix1 r)) (Fin.ext rfl : (7 : Fin 8) = hd 1 3)) (HS (hd 1 3))
  · idx_vars x
    obtain rfl : x0 = 0 := Subsingleton.elim _ _
    obtain rfl : y0 = hd 1 0 := Fin.ext (by have h0' : y0.val = 4 := (by simpa using h0); show y0.val = 1 * 4 + 0; omega)
    have h1' : y1 = x1 := Fin.ext (by simpa using h1)
    subst h1'
    refine (sink_row4 _ _ _ _ _ _ _ y1).trans ?_
    refine congrArg₂ (fun (u v : EReal) => u + v) ?_ ((grp1 HB hb (KK := fun j => ((K (key b (j 0)) (gcol 1 (j 1)) : ℝ) : EReal)) (fun _ _ => rfl) (VV := fun j => ((V (key b (j 0)) (gcol 1 (j 1)) : ℝ) : EReal)) (fun _ _ => rfl)).dt _ _ _ _ ?_ 0)
    · pointwise [k0_pay6]
    · intro j
      fin_cases j
      · exact Eq.trans (by pointwise; exact congrArg (fun r => (iblk m c 0 t : Vec Ideal S8 .f32) (ix1 r)) (Fin.ext rfl : (4 : Fin 8) = hd 1 0)) (HS (hd 1 0))
      · exact Eq.trans (by pointwise; exact congrArg (fun r => (iblk m c 0 t : Vec Ideal S8 .f32) (ix1 r)) (Fin.ext rfl : (5 : Fin 8) = hd 1 1)) (HS (hd 1 1))
      · exact Eq.trans (by pointwise; exact congrArg (fun r => (iblk m c 0 t : Vec Ideal S8 .f32) (ix1 r)) (Fin.ext rfl : (6 : Fin 8) = hd 1 2)) (HS (hd 1 2))
      · exact Eq.trans (by pointwise; exact congrArg (fun r => (iblk m c 0 t : Vec Ideal S8 .f32) (ix1 r)) (Fin.ext rfl : (7 : Fin 8) = hd 1 3)) (HS (hd 1 3))
  · idx_vars x
    obtain rfl : x0 = 0 := Subsingleton.elim _ _
    obtain rfl : y0 = hd 0 3 := Fin.ext (by have h0' : y0.val = 3 := (by simpa using h0); show y0.val = 0 * 4 + 3; omega)
    have h1' : y1 = x1 := Fin.ext (by simpa using h1)
    subst h1'
    refine (sink_row3 _ _ _ _ _ _ _ _ _ _ _ _ y1).trans ?_
    refine congrArg₂ (fun (u v : EReal) => u + v) ?_ ((grp0 HB hb (KK := fun j => ((K (key b (j 0)) (gcol 0 (j 1)) : ℝ) : EReal)) (fun _ _ => rfl) (VV := fun j => ((V (key b (j 0)) (gcol 0 (j 1)) : ℝ) : EReal)) (fun _ _ => rfl)).dt _ _ _ _ ?_ 3)
    · pointwise [k0_pay6]
    · intro j
      fin_cases j
      · exact Eq.trans (by pointwise; exact congrArg (fun r => (iblk m c 0 t : Vec Ideal S8 .f32) (ix1 r)) (Fin.ext rfl : (0 : Fin 8) = hd 0 0)) (HS (hd 0 0))
      · exact Eq.trans (by pointwise; exact congrArg (fun r => (iblk m c 0 t : Vec Ideal S8 .f32) (ix1 r)) (Fin.ext rfl : (1 : Fin 8) = hd 0 1)) (HS (hd 0 1))
      · exact Eq.trans (by pointwise; exact congrArg (fun r => (iblk m c 0 t : Vec Ideal S8 .f32) (ix1 r)) (Fin.ext rfl : (2 : Fin 8) = hd 0 2)) (HS (hd 0 2))
      · exact Eq.trans (by pointwise; exact congrArg (fun r => (iblk m c 0 t : Vec Ideal S8 .f32) (ix1 r)) (Fin.ext rfl : (3 : Fin 8) = hd 0 3)) (HS (hd 0 3))
  · idx_vars x
    obtain rfl : x0 = 0 := Subsingleton.elim _ _
    obtain rfl : y0 = hd 0 2 := Fin.ext (by have h0' : y0.val = 2 := (by simpa using h0); show y0.val = 0 * 4 + 2; omega)
    have h1' : y1 = x1 := Fin.ext (by simpa using h1)
    subst h1'
    refine (sink_row2 _ _ _ _ _ _ _ _ _ _ _ _ y1).trans ?_
    refine congrArg₂ (fun (u v : EReal) => u + v) ?_ ((grp0 HB hb (KK := fun j => ((K (key b (j 0)) (gcol 0 (j 1)) : ℝ) : EReal)) (fun _ _ => rfl) (VV := fun j => ((V (key b (j 0)) (gcol 0 (j 1)) : ℝ) : EReal)) (fun _ _ => rfl)).dt _ _ _ _ ?_ 2)
    · pointwise [k0_pay6]
    · intro j
      fin_cases j
      · exact Eq.trans (by pointwise; exact congrArg (fun r => (iblk m c 0 t : Vec Ideal S8 .f32) (ix1 r)) (Fin.ext rfl : (0 : Fin 8) = hd 0 0)) (HS (hd 0 0))
      · exact Eq.trans (by pointwise; exact congrArg (fun r => (iblk m c 0 t : Vec Ideal S8 .f32) (ix1 r)) (Fin.ext rfl : (1 : Fin 8) = hd 0 1)) (HS (hd 0 1))
      · exact Eq.trans (by pointwise; exact congrArg (fun r => (iblk m c 0 t : Vec Ideal S8 .f32) (ix1 r)) (Fin.ext rfl : (2 : Fin 8) = hd 0 2)) (HS (hd 0 2))
      · exact Eq.trans (by pointwise; exact congrArg (fun r => (iblk m c 0 t : Vec Ideal S8 .f32) (ix1 r)) (Fin.ext rfl : (3 : Fin 8) = hd 0 3)) (HS (hd 0 3))
  · idx_vars x
    obtain rfl : x0 = 0 := Subsingleton.elim _ _
    obtain rfl : y0 = hd 0 1 := Fin.ext (by have h0' : y0.val = 1 := (by simpa using h0); show y0.val = 0 * 4 + 1; omega)
    have h1' : y1 = x1 := Fin.ext (by simpa using h1)
    subst h1'
    refine (sink_row1 _ _ _ _ _ _ _ _ _ _ _ _ y1).trans ?_
    refine congrArg₂ (fun (u v : EReal) => u + v) ?_ ((grp0 HB hb (KK := fun j => ((K (key b (j 0)) (gcol 0 (j 1)) : ℝ) : EReal)) (fun _ _ => rfl) (VV := fun j => ((V (key b (j 0)) (gcol 0 (j 1)) : ℝ) : EReal)) (fun _ _ => rfl)).dt _ _ _ _ ?_ 1)
    · pointwise [k0_pay6]
    · intro j
      fin_cases j
      · exact Eq.trans (by pointwise; exact congrArg (fun r => (iblk m c 0 t : Vec Ideal S8 .f32) (ix1 r)) (Fin.ext rfl : (0 : Fin 8) = hd 0 0)) (HS (hd 0 0))
      · exact Eq.trans (by pointwise; exact congrArg (fun r => (iblk m c 0 t : Vec Ideal S8 .f32) (ix1 r)) (Fin.ext rfl : (1 : Fin 8) = hd 0 1)) (HS (hd 0 1))
      · exact Eq.trans (by pointwise; exact congrArg (fun r => (iblk m c 0 t : Vec Ideal S8 .f32) (ix1 r)) (Fin.ext rfl : (2 : Fin 8) = hd 0 2)) (HS (hd 0 2))
      · exact Eq.trans (by pointwise; exact congrArg (fun r => (iblk m c 0 t : Vec Ideal S8 .f32) (ix1 r)) (Fin.ext rfl : (3 : Fin 8) = hd 0 3)) (HS (hd 0 3))
  · idx_vars x
    obtain rfl : x0 = 0 := Subsingleton.elim _ _
    obtain rfl : y0 = hd 0 0 := Fin.ext (by have h0' : y0.val = 0 := (by simpa using h0); show y0.val = 0 * 4 + 0; omega)
    have h1' : y1 = x1 := Fin.ext (by simpa using h1)
    subst h1'
    refine (sink_row0 _ _ _ _ _ _ _ _ _ _ _ _ y1).trans ?_
    refine congrArg₂ (fun (u v : EReal) => u + v) ?_ ((grp0 HB hb (KK := fun j => ((K (key b (j 0)) (gcol 0 (j 1)) : ℝ) : EReal)) (fun _ _ => rfl) (VV := fun j => ((V (key b (j 0)) (gcol 0 (j 1)) : ℝ) : EReal)) (fun _ _ => rfl)).dt _ _ _ _ ?_ 0)
    · pointwise [k0_pay6]
    · intro j
      fin_cases j
      · exact Eq.trans (by pointwise; exact congrArg (fun r => (iblk m c 0 t : Vec Ideal S8 .f32) (ix1 r)) (Fin.ext rfl : (0 : Fin 8) = hd 0 0)) (HS (hd 0 0))
      · exact Eq.trans (by pointwise; exact congrArg (fun r => (iblk m c 0 t : Vec Ideal S8 .f32) (ix1 r)) (Fin.ext rfl : (1 : Fin 8) = hd 0 1)) (HS (hd 0 1))
      · exact Eq.trans (by pointwise; exact congrArg (fun r => (iblk m c 0 t : Vec Ideal S8 .f32) (ix1 r)) (Fin.ext rfl : (2 : Fin 8) = hd 0 2)) (HS (hd 0 2))
      · exact Eq.trans (by pointwise; exact congrArg (fun r => (iblk m c 0 t : Vec Ideal S8 .f32) (ix1 r)) (Fin.ext rfl : (3 : Fin 8) = hd 0 3)) (HS (hd 0 3))

include HB HK HV hb HS in
set_option maxHeartbeats 2000000 in
/-- The sinks' gradient after a point of the launch (a later point). -/
theorem pt_18_B (h0 : ¬t.val % 16 = 0) (a16 a17 : Vec Ideal S256x512 .f32) (a18 : Vec Ideal S8x128 .f32) (y0 : Fin 8) (y1 : Fin 128) :
    (out0_B_18 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (ms0_8 t) (hs0_8 t) (ms0_9 t) (hs0_9 t) (ms0_10 t) (hs0_10 t) (ms0_11 t) (hs0_11 t)
      (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t)
      (fun h => h0 ((hcond0_0 t).mp h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a16 a17 a18) (ix2 y0 y1)
      = (a18 (ix2 y0 y1) : EReal) + ((Spec.dt Q G K V s b y0 : ℝ) : EReal) := by
  frame_out
  canon_tiles x h
  · idx_vars x
    obtain rfl : x0 = 0 := Subsingleton.elim _ _
    obtain rfl : y0 = hd 1 3 := Fin.ext (by have h0' : y0.val = 7 := (by simpa using h0); show y0.val = 1 * 4 + 3; omega)
    have h1' : y1 = x1 := Fin.ext (by simpa using h1)
    subst h1'
    refine (sink_row7 _ _ _ _ _ _ _ y1).trans ?_
    refine congrArg₂ (fun (u v : EReal) => u + v) ?_ ((grp1 HB hb (KK := fun j => ((K (key b (j 0)) (gcol 1 (j 1)) : ℝ) : EReal)) (fun _ _ => rfl) (VV := fun j => ((V (key b (j 0)) (gcol 1 (j 1)) : ℝ) : EReal)) (fun _ _ => rfl)).dt _ _ _ _ ?_ 3)
    · pointwise; exact congrArg (fun r => a18 (ix2 r y1)) (Fin.ext rfl : (7 : Fin 8) = hd 1 3)
    · intro j
      fin_cases j
      · exact Eq.trans (by pointwise; exact congrArg (fun r => (iblk m c 0 t : Vec Ideal S8 .f32) (ix1 r)) (Fin.ext rfl : (4 : Fin 8) = hd 1 0)) (HS (hd 1 0))
      · exact Eq.trans (by pointwise; exact congrArg (fun r => (iblk m c 0 t : Vec Ideal S8 .f32) (ix1 r)) (Fin.ext rfl : (5 : Fin 8) = hd 1 1)) (HS (hd 1 1))
      · exact Eq.trans (by pointwise; exact congrArg (fun r => (iblk m c 0 t : Vec Ideal S8 .f32) (ix1 r)) (Fin.ext rfl : (6 : Fin 8) = hd 1 2)) (HS (hd 1 2))
      · exact Eq.trans (by pointwise; exact congrArg (fun r => (iblk m c 0 t : Vec Ideal S8 .f32) (ix1 r)) (Fin.ext rfl : (7 : Fin 8) = hd 1 3)) (HS (hd 1 3))
  · idx_vars x
    obtain rfl : x0 = 0 := Subsingleton.elim _ _
    obtain rfl : y0 = hd 1 2 := Fin.ext (by have h0' : y0.val = 6 := (by simpa using h0); show y0.val = 1 * 4 + 2; omega)
    have h1' : y1 = x1 := Fin.ext (by simpa using h1)
    subst h1'
    refine (sink_row6 _ _ _ _ _ _ _ y1).trans ?_
    refine congrArg₂ (fun (u v : EReal) => u + v) ?_ ((grp1 HB hb (KK := fun j => ((K (key b (j 0)) (gcol 1 (j 1)) : ℝ) : EReal)) (fun _ _ => rfl) (VV := fun j => ((V (key b (j 0)) (gcol 1 (j 1)) : ℝ) : EReal)) (fun _ _ => rfl)).dt _ _ _ _ ?_ 2)
    · pointwise; exact congrArg (fun r => a18 (ix2 r y1)) (Fin.ext rfl : (6 : Fin 8) = hd 1 2)
    · intro j
      fin_cases j
      · exact Eq.trans (by pointwise; exact congrArg (fun r => (iblk m c 0 t : Vec Ideal S8 .f32) (ix1 r)) (Fin.ext rfl : (4 : Fin 8) = hd 1 0)) (HS (hd 1 0))
      · exact Eq.trans (by pointwise; exact congrArg (fun r => (iblk m c 0 t : Vec Ideal S8 .f32) (ix1 r)) (Fin.ext rfl : (5 : Fin 8) = hd 1 1)) (HS (hd 1 1))
      · exact Eq.trans (by pointwise; exact congrArg (fun r => (iblk m c 0 t : Vec Ideal S8 .f32) (ix1 r)) (Fin.ext rfl : (6 : Fin 8) = hd 1 2)) (HS (hd 1 2))
      · exact Eq.trans (by pointwise; exact congrArg (fun r => (iblk m c 0 t : Vec Ideal S8 .f32) (ix1 r)) (Fin.ext rfl : (7 : Fin 8) = hd 1 3)) (HS (hd 1 3))
  · idx_vars x
    obtain rfl : x0 = 0 := Subsingleton.elim _ _
    obtain rfl : y0 = hd 1 1 := Fin.ext (by have h0' : y0.val = 5 := (by simpa using h0); show y0.val = 1 * 4 + 1; omega)
    have h1' : y1 = x1 := Fin.ext (by simpa using h1)
    subst h1'
    refine (sink_row5 _ _ _ _ _ _ _ y1).trans ?_
    refine congrArg₂ (fun (u v : EReal) => u + v) ?_ ((grp1 HB hb (KK := fun j => ((K (key b (j 0)) (gcol 1 (j 1)) : ℝ) : EReal)) (fun _ _ => rfl) (VV := fun j => ((V (key b (j 0)) (gcol 1 (j 1)) : ℝ) : EReal)) (fun _ _ => rfl)).dt _ _ _ _ ?_ 1)
    · pointwise; exact congrArg (fun r => a18 (ix2 r y1)) (Fin.ext rfl : (5 : Fin 8) = hd 1 1)
    · intro j
      fin_cases j
      · exact Eq.trans (by pointwise; exact congrArg (fun r => (iblk m c 0 t : Vec Ideal S8 .f32) (ix1 r)) (Fin.ext rfl : (4 : Fin 8) = hd 1 0)) (HS (hd 1 0))
      · exact Eq.trans (by pointwise; exact congrArg (fun r => (iblk m c 0 t : Vec Ideal S8 .f32) (ix1 r)) (Fin.ext rfl : (5 : Fin 8) = hd 1 1)) (HS (hd 1 1))
      · exact Eq.trans (by pointwise; exact congrArg (fun r => (iblk m c 0 t : Vec Ideal S8 .f32) (ix1 r)) (Fin.ext rfl : (6 : Fin 8) = hd 1 2)) (HS (hd 1 2))
      · exact Eq.trans (by pointwise; exact congrArg (fun r => (iblk m c 0 t : Vec Ideal S8 .f32) (ix1 r)) (Fin.ext rfl : (7 : Fin 8) = hd 1 3)) (HS (hd 1 3))
  · idx_vars x
    obtain rfl : x0 = 0 := Subsingleton.elim _ _
    obtain rfl : y0 = hd 1 0 := Fin.ext (by have h0' : y0.val = 4 := (by simpa using h0); show y0.val = 1 * 4 + 0; omega)
    have h1' : y1 = x1 := Fin.ext (by simpa using h1)
    subst h1'
    refine (sink_row4 _ _ _ _ _ _ _ y1).trans ?_
    refine congrArg₂ (fun (u v : EReal) => u + v) ?_ ((grp1 HB hb (KK := fun j => ((K (key b (j 0)) (gcol 1 (j 1)) : ℝ) : EReal)) (fun _ _ => rfl) (VV := fun j => ((V (key b (j 0)) (gcol 1 (j 1)) : ℝ) : EReal)) (fun _ _ => rfl)).dt _ _ _ _ ?_ 0)
    · pointwise; exact congrArg (fun r => a18 (ix2 r y1)) (Fin.ext rfl : (4 : Fin 8) = hd 1 0)
    · intro j
      fin_cases j
      · exact Eq.trans (by pointwise; exact congrArg (fun r => (iblk m c 0 t : Vec Ideal S8 .f32) (ix1 r)) (Fin.ext rfl : (4 : Fin 8) = hd 1 0)) (HS (hd 1 0))
      · exact Eq.trans (by pointwise; exact congrArg (fun r => (iblk m c 0 t : Vec Ideal S8 .f32) (ix1 r)) (Fin.ext rfl : (5 : Fin 8) = hd 1 1)) (HS (hd 1 1))
      · exact Eq.trans (by pointwise; exact congrArg (fun r => (iblk m c 0 t : Vec Ideal S8 .f32) (ix1 r)) (Fin.ext rfl : (6 : Fin 8) = hd 1 2)) (HS (hd 1 2))
      · exact Eq.trans (by pointwise; exact congrArg (fun r => (iblk m c 0 t : Vec Ideal S8 .f32) (ix1 r)) (Fin.ext rfl : (7 : Fin 8) = hd 1 3)) (HS (hd 1 3))
  · idx_vars x
    obtain rfl : x0 = 0 := Subsingleton.elim _ _
    obtain rfl : y0 = hd 0 3 := Fin.ext (by have h0' : y0.val = 3 := (by simpa using h0); show y0.val = 0 * 4 + 3; omega)
    have h1' : y1 = x1 := Fin.ext (by simpa using h1)
    subst h1'
    refine (sink_row3 _ _ _ _ _ _ _ _ _ _ _ _ y1).trans ?_
    refine congrArg₂ (fun (u v : EReal) => u + v) ?_ ((grp0 HB hb (KK := fun j => ((K (key b (j 0)) (gcol 0 (j 1)) : ℝ) : EReal)) (fun _ _ => rfl) (VV := fun j => ((V (key b (j 0)) (gcol 0 (j 1)) : ℝ) : EReal)) (fun _ _ => rfl)).dt _ _ _ _ ?_ 3)
    · pointwise; exact congrArg (fun r => a18 (ix2 r y1)) (Fin.ext rfl : (3 : Fin 8) = hd 0 3)
    · intro j
      fin_cases j
      · exact Eq.trans (by pointwise; exact congrArg (fun r => (iblk m c 0 t : Vec Ideal S8 .f32) (ix1 r)) (Fin.ext rfl : (0 : Fin 8) = hd 0 0)) (HS (hd 0 0))
      · exact Eq.trans (by pointwise; exact congrArg (fun r => (iblk m c 0 t : Vec Ideal S8 .f32) (ix1 r)) (Fin.ext rfl : (1 : Fin 8) = hd 0 1)) (HS (hd 0 1))
      · exact Eq.trans (by pointwise; exact congrArg (fun r => (iblk m c 0 t : Vec Ideal S8 .f32) (ix1 r)) (Fin.ext rfl : (2 : Fin 8) = hd 0 2)) (HS (hd 0 2))
      · exact Eq.trans (by pointwise; exact congrArg (fun r => (iblk m c 0 t : Vec Ideal S8 .f32) (ix1 r)) (Fin.ext rfl : (3 : Fin 8) = hd 0 3)) (HS (hd 0 3))
  · idx_vars x
    obtain rfl : x0 = 0 := Subsingleton.elim _ _
    obtain rfl : y0 = hd 0 2 := Fin.ext (by have h0' : y0.val = 2 := (by simpa using h0); show y0.val = 0 * 4 + 2; omega)
    have h1' : y1 = x1 := Fin.ext (by simpa using h1)
    subst h1'
    refine (sink_row2 _ _ _ _ _ _ _ _ _ _ _ _ y1).trans ?_
    refine congrArg₂ (fun (u v : EReal) => u + v) ?_ ((grp0 HB hb (KK := fun j => ((K (key b (j 0)) (gcol 0 (j 1)) : ℝ) : EReal)) (fun _ _ => rfl) (VV := fun j => ((V (key b (j 0)) (gcol 0 (j 1)) : ℝ) : EReal)) (fun _ _ => rfl)).dt _ _ _ _ ?_ 2)
    · pointwise; exact congrArg (fun r => a18 (ix2 r y1)) (Fin.ext rfl : (2 : Fin 8) = hd 0 2)
    · intro j
      fin_cases j
      · exact Eq.trans (by pointwise; exact congrArg (fun r => (iblk m c 0 t : Vec Ideal S8 .f32) (ix1 r)) (Fin.ext rfl : (0 : Fin 8) = hd 0 0)) (HS (hd 0 0))
      · exact Eq.trans (by pointwise; exact congrArg (fun r => (iblk m c 0 t : Vec Ideal S8 .f32) (ix1 r)) (Fin.ext rfl : (1 : Fin 8) = hd 0 1)) (HS (hd 0 1))
      · exact Eq.trans (by pointwise; exact congrArg (fun r => (iblk m c 0 t : Vec Ideal S8 .f32) (ix1 r)) (Fin.ext rfl : (2 : Fin 8) = hd 0 2)) (HS (hd 0 2))
      · exact Eq.trans (by pointwise; exact congrArg (fun r => (iblk m c 0 t : Vec Ideal S8 .f32) (ix1 r)) (Fin.ext rfl : (3 : Fin 8) = hd 0 3)) (HS (hd 0 3))
  · idx_vars x
    obtain rfl : x0 = 0 := Subsingleton.elim _ _
    obtain rfl : y0 = hd 0 1 := Fin.ext (by have h0' : y0.val = 1 := (by simpa using h0); show y0.val = 0 * 4 + 1; omega)
    have h1' : y1 = x1 := Fin.ext (by simpa using h1)
    subst h1'
    refine (sink_row1 _ _ _ _ _ _ _ _ _ _ _ _ y1).trans ?_
    refine congrArg₂ (fun (u v : EReal) => u + v) ?_ ((grp0 HB hb (KK := fun j => ((K (key b (j 0)) (gcol 0 (j 1)) : ℝ) : EReal)) (fun _ _ => rfl) (VV := fun j => ((V (key b (j 0)) (gcol 0 (j 1)) : ℝ) : EReal)) (fun _ _ => rfl)).dt _ _ _ _ ?_ 1)
    · pointwise; exact congrArg (fun r => a18 (ix2 r y1)) (Fin.ext rfl : (1 : Fin 8) = hd 0 1)
    · intro j
      fin_cases j
      · exact Eq.trans (by pointwise; exact congrArg (fun r => (iblk m c 0 t : Vec Ideal S8 .f32) (ix1 r)) (Fin.ext rfl : (0 : Fin 8) = hd 0 0)) (HS (hd 0 0))
      · exact Eq.trans (by pointwise; exact congrArg (fun r => (iblk m c 0 t : Vec Ideal S8 .f32) (ix1 r)) (Fin.ext rfl : (1 : Fin 8) = hd 0 1)) (HS (hd 0 1))
      · exact Eq.trans (by pointwise; exact congrArg (fun r => (iblk m c 0 t : Vec Ideal S8 .f32) (ix1 r)) (Fin.ext rfl : (2 : Fin 8) = hd 0 2)) (HS (hd 0 2))
      · exact Eq.trans (by pointwise; exact congrArg (fun r => (iblk m c 0 t : Vec Ideal S8 .f32) (ix1 r)) (Fin.ext rfl : (3 : Fin 8) = hd 0 3)) (HS (hd 0 3))
  · idx_vars x
    obtain rfl : x0 = 0 := Subsingleton.elim _ _
    obtain rfl : y0 = hd 0 0 := Fin.ext (by have h0' : y0.val = 0 := (by simpa using h0); show y0.val = 0 * 4 + 0; omega)
    have h1' : y1 = x1 := Fin.ext (by simpa using h1)
    subst h1'
    refine (sink_row0 _ _ _ _ _ _ _ _ _ _ _ _ y1).trans ?_
    refine congrArg₂ (fun (u v : EReal) => u + v) ?_ ((grp0 HB hb (KK := fun j => ((K (key b (j 0)) (gcol 0 (j 1)) : ℝ) : EReal)) (fun _ _ => rfl) (VV := fun j => ((V (key b (j 0)) (gcol 0 (j 1)) : ℝ) : EReal)) (fun _ _ => rfl)).dt _ _ _ _ ?_ 0)
    · pointwise; exact congrArg (fun r => a18 (ix2 r y1)) (Fin.ext rfl : (0 : Fin 8) = hd 0 0)
    · intro j
      fin_cases j
      · exact Eq.trans (by pointwise; exact congrArg (fun r => (iblk m c 0 t : Vec Ideal S8 .f32) (ix1 r)) (Fin.ext rfl : (0 : Fin 8) = hd 0 0)) (HS (hd 0 0))
      · exact Eq.trans (by pointwise; exact congrArg (fun r => (iblk m c 0 t : Vec Ideal S8 .f32) (ix1 r)) (Fin.ext rfl : (1 : Fin 8) = hd 0 1)) (HS (hd 0 1))
      · exact Eq.trans (by pointwise; exact congrArg (fun r => (iblk m c 0 t : Vec Ideal S8 .f32) (ix1 r)) (Fin.ext rfl : (2 : Fin 8) = hd 0 2)) (HS (hd 0 2))
      · exact Eq.trans (by pointwise; exact congrArg (fun r => (iblk m c 0 t : Vec Ideal S8 .f32) (ix1 r)) (Fin.ext rfl : (3 : Fin 8) = hd 0 3)) (HS (hd 0 3))

end Cert.Attn
-- ==== Proof.AttnFinal.lean ====
/- Hand-written: the six results of the attention gradient's launch in closed form. -/
module

public import proofs.«01_k».proof.Proof.AttnBlocks
public import proofs.«01_k».proof.Proof.AttnPtA
public import proofs.«01_k».proof.Proof.AttnPtB
public import proofs.«01_k».proof.Proof.AttnPtC

set_option maxRecDepth 16384

@[expose] public noncomputable section

open Idealize.ShloMosaic Idealize.ShloMosaic.TcCoe Idealize.SL.Sem
open Idealize.ShloMosaic.Pipeline (Dat)
open scoped BigOperators

namespace Cert.Attn
open Cert.KernelIdeal Cert.KernelIdeal.Gen Cert.Attn.Host

/-- The grid's one coordinate is the point's number. -/
theorem coord : ∀ t : Fin cfg0.N, (grid0.coords t 0).val = t.val :=
  (by decide +kernel : ∀ t : Fin grid0.N, _)

/-- A sum over the launch's points is a sum over the query's blocks. -/
theorem sum_points (f : Fin 16 → ℝ) : ∑ p : Fin cfg0.N, ((f (blkOf p) : ℝ) : EReal) = ((∑ b, f b : ℝ) : EReal) := by
  rw [Reals.coe_sum]
  exact Fintype.sum_equiv (finCongr N_0) _ _ fun p => rfl

variable (Q G : Fin 2048 → Fin 512 → ℝ) (K V : Fin 2304 → Fin 512 → ℝ) (s : Fin 8 → ℝ)

/-- The query's gradient. -/
def R13 : FVec Ideal S2048x512 .f32 := fun j => ((Spec.dq Q G K V s (rowB (j 0)) (colH (j 1)) (rowR (j 0)) (colD (j 1)) : ℝ) : EReal)
/-- The band keys' gradient. -/
def R14 : FVec Ideal S16x384x512 .f32 := fun j => ((Spec.dk Q G K V s (j 0) (colH (j 2)) ⟨(j 1).val, lt_trans (j 1).isLt (by decide)⟩ (colD (j 2)) : ℝ) : EReal)
/-- The band values' gradient. -/
def R15 : FVec Ideal S16x384x512 .f32 := fun j => ((Spec.dv Q G K s (j 0) (colH (j 2)) ⟨(j 1).val, lt_trans (j 1).isLt (by decide)⟩ (colD (j 2)) : ℝ) : EReal)
/-- The context keys' gradient. -/
def R16 : FVec Ideal S256x512 .f32 := fun j => ((∑ b, Spec.dk Q G K V s b (colH (j 1)) ⟨384 + (j 0).val, Nat.add_lt_add_left (j 0).isLt 384⟩ (colD (j 1)) : ℝ) : EReal)
/-- The context values' gradient. -/
def R17 : FVec Ideal S256x512 .f32 := fun j => ((∑ b, Spec.dv Q G K s b (colH (j 1)) ⟨384 + (j 0).val, Nat.add_lt_add_left (j 0).isLt 384⟩ (colD (j 1)) : ℝ) : EReal)
/-- The sinks' gradient, repeated along the lanes. -/
def R18 : FVec Ideal S8x128 .f32 := fun j => ((∑ b, Spec.dt Q G K V s b (j 0) : ℝ) : EReal)

variable {Q G K V s} {m : (ℓ : Loc nD τ sig) → Buf (Elt Ideal) ℓ} {c : Dev nD}
  (HB : ∀ t, Blk Q G K V s (blkOf t) (iblk m c 1 t) (iblk m c 12 t) (iblk m c 10 t) (iblk m c 11 t))
  (HK : ∀ t, Win K (blkOf t) (iblk m c 2 t) (iblk m c 3 t) (iblk m c 4 t) (iblk m c 5 t))
  (HV : ∀ t, Win V (blkOf t) (iblk m c 6 t) (iblk m c 7 t) (iblk m c 8 t) (iblk m c 9 t))
  (HS : ∀ t, ∀ h : Fin 8, (iblk m c 0 t : Vec Ideal S8 .f32) (ix1 h) = ((s h : ℝ) : EReal))

include HB HK HV in
set_option maxHeartbeats 1000000 in
/-- What the launch leaves in the query's gradient. -/
theorem final_13 : (dats m 0 c).arrAt 13 cfg0.N = R13 Q G K V s := by
  refine (dats m 0 c).arrAt_eq_of_covers 13 _ (by decide +kernel) fun t hf y => ?_
  obtain ⟨e0, e5, e9, e10, e11, e12, e13, e14, e15, e16, e17, e18⟩ := idx t
  have ht := t_lt t
  idx_vars y
  blk_simp
  rw [after0_13]
  have key : (R13 Q G K V s) (ix2 ⟨t.val * 128 + y0.val, by omega⟩ y1) = ((Spec.dq Q G K V s (blkOf t) (colH y1) y0 (colD y1) : ℝ) : EReal) := by
    have e1 : rowB ⟨t.val * 128 + y0.val, by omega⟩ = blkOf t := Fin.ext (by show (t.val * 128 + y0.val) / 128 = t.val; omega)
    have e2 : rowR ⟨t.val * 128 + y0.val, by omega⟩ = y0 := Fin.ext (by show (t.val * 128 + y0.val) % 128 = y0.val; omega)
    show ((Spec.dq Q G K V s (rowB ⟨t.val * 128 + y0.val, by omega⟩) (colH y1) (rowR ⟨t.val * 128 + y0.val, by omega⟩) (colD y1) : ℝ) : EReal) = _
    rw [e1, e2]
  by_cases h : t.val % 16 = 0
  · rw [outsAt0_A m c t h]; dsimp only
    refine (pt_13_A (HB t) (HK t) (HV t) (coord t) h y0 y1).trans (key.symm.trans ?_)
    blk_ext [e13]
  · rw [outsAt0_B m c t h]; dsimp only
    refine (pt_13_B (HB t) (HK t) (HV t) (coord t) h _ _ _ y0 y1).trans (key.symm.trans ?_)
    blk_ext [e13]

include HB HK HV in
set_option maxHeartbeats 1000000 in
/-- What the launch leaves in the band keys' gradient. -/
theorem final_14 : (dats m 0 c).arrAt 14 cfg0.N = R14 Q G K V s := by
  refine (dats m 0 c).arrAt_eq_of_covers 14 _ (by decide +kernel) fun t hf y => ?_
  obtain ⟨e0, e5, e9, e10, e11, e12, e13, e14, e15, e16, e17, e18⟩ := idx t
  have ht := t_lt t
  idx_vars y
  blk_simp
  rw [after0_14]
  have key : (R14 Q G K V s) (ix3 ⟨t.val, ht⟩ y1 y2) = ((Spec.dk Q G K V s (blkOf t) (colH y2) ⟨y1.val, by omega⟩ (colD y2) : ℝ) : EReal) := rfl
  by_cases h : t.val % 16 = 0
  · rw [outsAt0_A m c t h]; dsimp only
    refine (pt_14_A (HB t) (HK t) (HV t) (coord t) h y0 y1 y2).trans (key.symm.trans ?_)
    blk_ext [e14]
  · rw [outsAt0_B m c t h]; dsimp only
    refine (pt_14_B (HB t) (HK t) (HV t) (coord t) h _ _ _ y0 y1 y2).trans (key.symm.trans ?_)
    blk_ext [e14]

include HB HK HV in
set_option maxHeartbeats 1000000 in
/-- What the launch leaves in the band values' gradient. -/
theorem final_15 : (dats m 0 c).arrAt 15 cfg0.N = R15 Q G K s := by
  refine (dats m 0 c).arrAt_eq_of_covers 15 _ (by decide +kernel) fun t hf y => ?_
  obtain ⟨e0, e5, e9, e10, e11, e12, e13, e14, e15, e16, e17, e18⟩ := idx t
  have ht := t_lt t
  idx_vars y
  blk_simp
  rw [after0_15]
  have key : (R15 Q G K s) (ix3 ⟨t.val, ht⟩ y1 y2) = ((Spec.dv Q G K s (blkOf t) (colH y2) ⟨y1.val, by omega⟩ (colD y2) : ℝ) : EReal) := rfl
  by_cases h : t.val % 16 = 0
  · rw [outsAt0_A m c t h]; dsimp only
    refine (pt_15_A (HB t) (HK t) (HV t) (coord t) h y0 y1 y2).trans (key.symm.trans ?_)
    blk_ext [e15]
  · rw [outsAt0_B m c t h]; dsimp only
    refine (pt_15_B (HB t) (HK t) (HV t) (coord t) h _ _ _ y0 y1 y2).trans (key.symm.trans ?_)
    blk_ext [e15]

include HB HK HV in
set_option maxHeartbeats 1000000 in
/-- What the launch leaves in the context keys' gradient. -/
theorem final_16 : (dats m 0 c).arrAt 16 cfg0.N = R16 Q G K V s := by
  refine (dats m 0 c).arrAt_eq_of_after_last 16 t0_15 (by decide +kernel) _ fun j => ?_
  idx_vars j
  blk_simp
  rw [after0_16, Pipeline.eq_sum_fin_of_reset_step_apply_last (fun n h => (outsAt0 m c n h).2.2.2.1) 16 (fun _ => (0 : EReal))
    (fun p (j : S256x512.Idx) => ((Spec.dk Q G K V s (blkOf p) (colH (j 1)) ⟨384 + (j 0).val, Nat.add_lt_add_left (j 0).isLt 384⟩ (colD (j 1)) : ℝ) : EReal))
    (fun t h j => by
      idx_vars j
      rw [outsAt0_A m c t h]; dsimp only
      exact pt_16_A (HB t) (HK t) (HV t) (coord t) h j0 j1)
    (fun t h j => by
      idx_vars j
      rw [outsAt0_B m c t h]; dsimp only
      exact pt_16_B (HB t) (HK t) (HV t) (coord t) h _ _ _ j0 j1)
    (le_of_eq N_0) t0_15 rfl _, zero_add]
  refine (sum_points fun b => Spec.dk Q G K V s b (colH j1) ⟨384 + j0.val, Nat.add_lt_add_left j0.isLt 384⟩ (colD j1)).trans ?_
  rfl

include HB HK HV in
set_option maxHeartbeats 1000000 in
/-- What the launch leaves in the context values' gradient. -/
theorem final_17 : (dats m 0 c).arrAt 17 cfg0.N = R17 Q G K s := by
  refine (dats m 0 c).arrAt_eq_of_after_last 17 t0_15 (by decide +kernel) _ fun j => ?_
  idx_vars j
  blk_simp
  rw [after0_17, Pipeline.eq_sum_fin_of_reset_step_apply_last (fun n h => (outsAt0 m c n h).2.2.2.2.1) 16 (fun _ => (0 : EReal))
    (fun p (j : S256x512.Idx) => ((Spec.dv Q G K s (blkOf p) (colH (j 1)) ⟨384 + (j 0).val, Nat.add_lt_add_left (j 0).isLt 384⟩ (colD (j 1)) : ℝ) : EReal))
    (fun t h j => by
      idx_vars j
      rw [outsAt0_A m c t h]; dsimp only
      exact pt_17_A (HB t) (HK t) (HV t) (coord t) h j0 j1)
    (fun t h j => by
      idx_vars j
      rw [outsAt0_B m c t h]; dsimp only
      exact pt_17_B (HB t) (HK t) (HV t) (coord t) h _ _ _ j0 j1)
    (le_of_eq N_0) t0_15 rfl _, zero_add]
  refine (sum_points fun b => Spec.dv Q G K s b (colH j1) ⟨384 + j0.val, Nat.add_lt_add_left j0.isLt 384⟩ (colD j1)).trans ?_
  rfl

include HB HK HV HS in
set_option maxHeartbeats 1000000 in
/-- What the launch leaves in the sinks' gradient. -/
theorem final_18 : (dats m 0 c).arrAt 18 cfg0.N = R18 Q G K V s := by
  refine (dats m 0 c).arrAt_eq_of_after_last 18 t0_15 (by decide +kernel) _ fun j => ?_
  idx_vars j
  blk_simp
  rw [after0_18, Pipeline.eq_sum_fin_of_reset_step_apply_last (fun n h => (outsAt0 m c n h).2.2.2.2.2) 16 (fun _ => (0 : EReal))
    (fun p (j : S8x128.Idx) => ((Spec.dt Q G K V s (blkOf p) (j 0) : ℝ) : EReal))
    (fun t h j => by
      idx_vars j
      rw [outsAt0_A m c t h]; dsimp only
      exact pt_18_A (HB t) (HK t) (HV t) (coord t) (HS t) h j0 j1)
    (fun t h j => by
      idx_vars j
      rw [outsAt0_B m c t h]; dsimp only
      exact pt_18_B (HB t) (HK t) (HV t) (coord t) (HS t) h _ _ _ j0 j1)
    (le_of_eq N_0) t0_15 rfl _, zero_add]
  refine (sum_points fun b => Spec.dt Q G K V s b j0).trans ?_
  rfl

end Cert.Attn
-- ==== Proof.AttnPre.lean ====
/- Hand-written: the side conditions of the attention program's precondition. -/
module

public import proofs.«01_k».proof.Pre_finite
public import Idealize.ShloMosaic.Lib.Decide
public import Idealize.ShloMosaic.Lib.Exec

@[expose] public section

namespace Cert.Attn.Pre

open Idealize.ShloMosaic Idealize.SL.Sem Cert.Pre_finite

/-- The shape relations that the precondition's operations take. -/
instance facts : Cert.Pre_finite.Facts where
  bitsLt_bf16_f32 := by decide
  bcast_S_S2304x512 := by decide
  bcast_S_S8 := by decide
  bcast_S_S2048x512 := by decide

end Cert.Attn.Pre
-- ==== Proof.AttnClaim.lean ====
/- Hand-written: the value claim of the attention gradient from the closed forms of its two programs' results. -/
module

public import proofs.«01_k».proof.Defs
public import proofs.«01_k».proof.Proof.AttnFinal
public import proofs.«01_k».proof.Proof.AttnRef3
public import proofs.«01_k».proof.Proof.AttnPre
public import Idealize.ShloMosaic.Lib.Claim

set_option maxRecDepth 16384

@[expose] public noncomputable section

open Idealize.ShloMosaic Idealize.ShloMosaic.TcCoe Idealize.SL.Sem
open scoped BigOperators

namespace Cert.Attn

/-- The five arguments of the kernel's program hold real numbers. -/
structure Real5 (m : (ℓ : Loc KernelIdeal.nD KernelIdeal.τ KernelIdeal.sig) → Buf (Elt Ideal) ℓ) (c : Dev KernelIdeal.nD) : Prop where
  q : ∀ i, ∃ r : ℝ, (m (c, Proc.devRef .tc KernelIdeal.main_arg0) : FVec Ideal KernelIdeal.S2304x512 .bf16) i = (r : EReal)
  k : ∀ i, ∃ r : ℝ, (m (c, Proc.devRef .tc KernelIdeal.main_arg1) : FVec Ideal KernelIdeal.S2304x512 .bf16) i = (r : EReal)
  v : ∀ i, ∃ r : ℝ, (m (c, Proc.devRef .tc KernelIdeal.main_arg2) : FVec Ideal KernelIdeal.S2304x512 .bf16) i = (r : EReal)
  s : ∀ i, ∃ r : ℝ, (m (c, Proc.devRef .tc KernelIdeal.main_arg3) : FVec Ideal KernelIdeal.S8 .f32) i = (r : EReal)
  g : ∀ i, ∃ r : ℝ, (m (c, Proc.devRef .tc KernelIdeal.main_arg4) : FVec Ideal KernelIdeal.S2048x512 .f32) i = (r : EReal)

/-- The precondition says that the five arguments hold real numbers. -/
theorem real5_of_pre (m : (ℓ : Loc KernelIdeal.nD KernelIdeal.τ KernelIdeal.sig) → Buf (Elt Ideal) ℓ)
    (h : Cert.Pre_KernelIdeal_finite (hPre_finite := Cert.Attn.Pre.facts) m) (c : Dev KernelIdeal.nD) :
    Real5 m c := by
  obtain ⟨h0, h1, h2, h3, h4⟩ := h c
  refine ⟨fun i => ?_, fun i => ?_, fun i => ?_, fun i => ?_, fun i => ?_⟩
  · have h0 := congrFun h0 i
    pointwise [Cert.Pre_finite.fn] at h0
    exact Reals.real_of_bit h0
  · have h1 := congrFun h1 i
    pointwise [Cert.Pre_finite.fn] at h1
    exact Reals.real_of_bit h1
  · have h2 := congrFun h2 i
    pointwise [Cert.Pre_finite.fn] at h2
    exact Reals.real_of_bit h2
  · have h3 := congrFun h3 i
    pointwise [Cert.Pre_finite.fn] at h3
    exact Reals.real_of_bit h3
  · have h4 := congrFun h4 i
    pointwise [Cert.Pre_finite.fn] at h4
    exact Reals.real_of_bit h4

/-- Real arguments, and the reference's buffers before its operations: the real arrays that both programs read. -/
theorem args_of_real {m : (ℓ : Loc KernelIdeal.nD KernelIdeal.τ KernelIdeal.sig) → Buf (Elt Ideal) ℓ} {c : Dev KernelIdeal.nD}
    {V0 : Valuation ReferenceIdeal.τ ReferenceIdeal.sig (Elt Ideal)} (h : Real5 m c) (H : Host.Same (fun b => m (c, b)) V0)
    (H4 : (m (c, Proc.devRef .tc KernelIdeal.main_arg4) : FVec Ideal KernelIdeal.S2048x512 .f32) = V0 (Proc.devRef .tc ReferenceIdeal.main_arg4)) :
    ∃ (Q G : Fin 2048 → Fin 512 → ℝ) (K V : Fin 2304 → Fin 512 → ℝ) (s : Fin 8 → ℝ), Ref.Args V0 Q G K V s := by
  obtain ⟨hq, hk, hv, hs, hg⟩ := h
  choose q hq using hq
  choose k hk using hk
  choose v hv using hv
  choose s hs using hs
  choose g hg using hg
  exact ⟨fun t l => q (ix2 (⟨256 + t.val, by omega⟩ : Fin 2304) l), fun t l => g (ix2 t l), fun t l => k (ix2 t l), fun t l => v (ix2 t l), fun h => s (ix1 h),
    ⟨fun t l => (congrFun H.a0.symm _).trans (hq _), fun t l => (congrFun H.a1.symm _).trans (hk _), fun t l => (congrFun H.a2.symm _).trans (hv _),
      fun h => (congrFun H.a3.symm _).trans (hs _), fun t l => (congrFun H4.symm _).trans (hg _)⟩⟩

section
variable {m : (ℓ : Loc KernelIdeal.nD KernelIdeal.τ KernelIdeal.sig) → Buf (Elt Ideal) ℓ} {c : Dev KernelIdeal.nD}
  {V0 : Valuation ReferenceIdeal.τ ReferenceIdeal.sig (Elt Ideal)} {Q G : Fin 2048 → Fin 512 → ℝ} {K V : Fin 2304 → Fin 512 → ℝ} {s : Fin 8 → ℝ}
  (HA : Ref.Args V0 Q G K V s) (H : Host.Same (fun b => m (c, b)) V0)
include HA H

/-- The sinks' block at every grid point. -/
theorem sinks_real (t : Fin KernelIdeal.cfg0.N) (h : Fin 8) :
    (KernelIdeal.Gen.iblk m c 0 t : Vec Ideal KernelIdeal.S8 .f32) (ix1 h) = ((s h : ℝ) : EReal) := by
  rw [Host.read0]
  exact (congrFun H.a3 _).trans (HA.s_eq h)
end

/-- Of real arguments that agree, the kernel's six result arrays in closed form, over the real arrays that the reference reads. -/
theorem results {m : (ℓ : Loc KernelIdeal.nD KernelIdeal.τ KernelIdeal.sig) → Buf (Elt Ideal) ℓ} {c : Dev KernelIdeal.nD}
    {V0 : Valuation ReferenceIdeal.τ ReferenceIdeal.sig (Elt Ideal)} (h : Real5 m c) (H : Host.Same (fun b => m (c, b)) V0)
    (H4 : (m (c, Proc.devRef .tc KernelIdeal.main_arg4) : FVec Ideal KernelIdeal.S2048x512 .f32) = V0 (Proc.devRef .tc ReferenceIdeal.main_arg4)) :
    ∃ (Q G : Fin 2048 → Fin 512 → ℝ) (K V : Fin 2304 → Fin 512 → ℝ) (s : Fin 8 → ℝ), Ref.Args V0 Q G K V s
      ∧ (KernelIdeal.Gen.dats m 0 c).arrAt 13 KernelIdeal.cfg0.N = R13 Q G K V s
      ∧ (KernelIdeal.Gen.dats m 0 c).arrAt 14 KernelIdeal.cfg0.N = R14 Q G K V s
      ∧ (KernelIdeal.Gen.dats m 0 c).arrAt 15 KernelIdeal.cfg0.N = R15 Q G K s
      ∧ (KernelIdeal.Gen.dats m 0 c).arrAt 16 KernelIdeal.cfg0.N = R16 Q G K V s
      ∧ (KernelIdeal.Gen.dats m 0 c).arrAt 17 KernelIdeal.cfg0.N = R17 Q G K s
      ∧ (KernelIdeal.Gen.dats m 0 c).arrAt 18 KernelIdeal.cfg0.N = R18 Q G K V s := by
  obtain ⟨Q, G, K, V, s, HA⟩ := args_of_real h H H4
  have hb := fun t => Host.blk_real (t := t) H HA H4
  have hk := fun t => Host.win_keys (t := t) H HA H4
  have hv := fun t => Host.win_values (t := t) H HA H4
  exact ⟨Q, G, K, V, s, HA, final_13 hb hk hv, final_14 hb hk hv, final_15 hb hk hv, final_16 hb hk hv, final_17 hb hk hv,
    final_18 hb hk hv (sinks_real HA H)⟩

set_option maxHeartbeats 4000000 in
/-- The kernel's six gradients are the reference's. -/
theorem algebraic : Cert.algebraic_KernelIdeal_ReferenceIdeal_pre_finite
    (hKernelIdeal := Cert.KernelIdeal.Gen.facts) (hReferenceIdeal := Cert.ReferenceIdeal.Gen.facts)
    (hPre_finite := Cert.Attn.Pre.facts) := by
  pair_intro
  · run_from Cert.KernelIdeal.Value.run_blocks m g
  · run_from Cert.ReferenceIdeal.Value.run m' g'
    all_goals
      obtain ⟨a0, a1, a2, a3, a4⟩ := hagree c
      obtain ⟨Q, G, K, V, s, HA, r13, r14, r15, r16, r17, r18⟩ := results (V0 := StableHlo.launchContents m' c)
        (real5_of_pre m hpre c) ⟨a0.symm, a1.symm, a2.symm, a3.symm⟩ a4.symm
    · refine Eq.trans ?_ r13.symm
      funext j; idx_vars j
      exact Ref.dq_at HA j0 j1
    · refine Eq.trans ?_ r14.symm
      funext j; idx_vars j
      exact Ref.dkw_at HA j0 j1 j2
    · refine Eq.trans ?_ r15.symm
      funext j; idx_vars j
      exact Ref.dvw_at HA j0 j1 j2
    · refine Eq.trans ?_ r16.symm
      funext j; idx_vars j
      exact Ref.dkc_at HA j0 j1
    · refine Eq.trans ?_ r17.symm
      funext j; idx_vars j
      exact Ref.dvc_at HA j0 j1
    · refine Eq.trans ?_ r18.symm
      funext j; idx_vars j
      exact Ref.dsk_at HA j0 j1

end Cert.Attn

end
-- ==== Proof.FfnDz.lean ====
/- Hand-written: the value of `ffn_dz`, the gradient of the gated feed-forward product, against the plain gradient. -/
module

public import proofs.«01_k».proof.Proof.Reals
public import proofs.«01_k».proof.Proof.Gen.Kernel2Ideal.Value
public import proofs.«01_k».proof.Proof.Gen.Reference2Ideal.Run
public import proofs.«01_k».proof.Pre_finite2
public import Idealize.ShloMosaic.Lib.Pipeline.ValueKit

set_option maxRecDepth 16384

@[expose] public noncomputable section

open Idealize.ShloMosaic Idealize.ShloMosaic.TcCoe Idealize.SL.Sem
open Idealize.ShloMosaic.Pipeline (Dat)
open scoped BigOperators

namespace Cert.FfnDz

section Reference
open Cert.Reference2Ideal Cert.Reference2Ideal.Gen

/-- The reference's first result (the gradient of the gate's left argument) over its four arguments. -/
def refA (dy : FVec Ideal S2048x1024 .bf16) (w : FVec Ideal S2816x1024 .bf16) (a b : FVec Ideal S2048x2816 .bf16) :
    FVec Ideal S4x2048x704 .bf16 :=
  truncf .bf16 (transpose S4x2048x704 [1, 0, 2] (shapeCast _ (addf (mulf (mulf (Host.dotGeneral dot_S2048x1024_S2816x1024_S2048x2816_1_1_0_0_n_n none (extf .f32 dy bitsLt_bf16_f32) (extf .f32 w bitsLt_bf16_f32)) (extf .f32 b bitsLt_bf16_f32)) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (extf .f32 a bitsLt_bf16_f32)))))) (mulf (mulf (extf .f32 a bitsLt_bf16_f32) (mulf (Host.dotGeneral dot_S2048x1024_S2816x1024_S2048x2816_1_1_0_0_n_n none (extf .f32 dy bitsLt_bf16_f32) (extf .f32 w bitsLt_bf16_f32)) (extf .f32 b bitsLt_bf16_f32))) (mulf (Host.divf (broadcastInDim S2048x2816 ![] bcast_S_S2048x2816 (constant S_ .f32 0x3F800000#32)) (addf (broadcastInDim S2048x2816 ![] bcast_S_S2048x2816 (constant S_ .f32 0x3F800000#32)) (Host.exp (Host.negf (extf .f32 a bitsLt_bf16_f32))))) (subf (broadcastInDim S2048x2816 ![] bcast_S_S2048x2816 (constant S_ .f32 0x3F800000#32)) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (extf .f32 a bitsLt_bf16_f32))))))))) shapeCasts_S2048x2816_S2048x4x704) transposes_S2048x4x704_S4x2048x704_1_0_2) bitsLt_bf16_f32

/-- The reference's second result (the gradient of the gate's right argument) over its four arguments. -/
def refB (dy : FVec Ideal S2048x1024 .bf16) (w : FVec Ideal S2816x1024 .bf16) (a b : FVec Ideal S2048x2816 .bf16) :
    FVec Ideal S4x2048x704 .bf16 :=
  truncf .bf16 (transpose S4x2048x704 [1, 0, 2] (shapeCast _ (mulf (mulf (extf .f32 a bitsLt_bf16_f32) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (extf .f32 a bitsLt_bf16_f32)))))) (Host.dotGeneral dot_S2048x1024_S2816x1024_S2048x2816_1_1_0_0_n_n none (extf .f32 dy bitsLt_bf16_f32) (extf .f32 w bitsLt_bf16_f32))) shapeCasts_S2048x2816_S2048x4x704) transposes_S2048x4x704_S4x2048x704_1_0_2) bitsLt_bf16_f32

end Reference

/-- The product rule of `a ↦ a · logistic a` times `b`, in the two spellings, at real numbers. -/
theorem gate_rule (z a b : ℝ) :
    (z : EReal) * b * Ideal.div 1 (1 + Ideal.exp (-(a : EReal)))
        + (a : EReal) * ((z : EReal) * b)
          * (Ideal.div 1 (1 + Ideal.exp (-(a : EReal))) * (1 - Ideal.div 1 (1 + Ideal.exp (-(a : EReal)))))
      = (z : EReal) * b * (Ideal.div 1 (1 + Ideal.exp (0 - (a : EReal)))
          * (1 + (a : EReal) * (1 - Ideal.div 1 (1 + Ideal.exp (0 - (a : EReal)))))) := by
  rw [zero_sub, Reals.sig_coe]
  norm_cast
  ring

section Reading
open Cert.Reference2Ideal Cert.Reference2Ideal.Gen

variable (dy : FVec Ideal S2048x1024 .bf16) (w : FVec Ideal S2816x1024 .bf16) (a b : FVec Ideal S2048x2816 .bf16)

/-- The reference's first result at an index, in the kernel's spelling of the gate's derivative. -/
theorem refA_at (hy : ∀ i, ∃ r : ℝ, dy i = (r : EReal)) (hw : ∀ i, ∃ r : ℝ, w i = (r : EReal))
    (ha : ∀ i, ∃ r : ℝ, a i = (r : EReal)) (hb : ∀ i, ∃ r : ℝ, b i = (r : EReal))
    (q : Fin 4) (r : Fin 2048) (l : Fin 704) :
    refA dy w a b (ix3 q r l) =
      (∑ x, dy (ix2 r x) * w (ix2 (⟨q.val * 704 + l.val, by omega⟩ : Fin 2816) x)) * b (ix2 r (⟨q.val * 704 + l.val, by omega⟩ : Fin 2816))
        * (Ideal.div 1 (1 + Ideal.exp (0 - a (ix2 r (⟨q.val * 704 + l.val, by omega⟩ : Fin 2816))))
          * (1 + a (ix2 r (⟨q.val * 704 + l.val, by omega⟩ : Fin 2816)) * (1 - Ideal.div 1 (1 + Ideal.exp (0 - a (ix2 r (⟨q.val * 704 + l.val, by omega⟩ : Fin 2816))))))) := by
  pointwise [refA]
  obtain ⟨a', ha'⟩ := ha (ix2 r ⟨q.val * 704 + l.val, by omega⟩)
  obtain ⟨b', hb'⟩ := hb (ix2 r ⟨q.val * 704 + l.val, by omega⟩)
  obtain ⟨z, hz⟩ : ∃ z : ℝ, ∑ x, dy (ix2 r x) * w (ix2 (⟨q.val * 704 + l.val, by omega⟩ : Fin 2816) x) = (z : EReal) := by
    refine ⟨∑ x, (dy (ix2 r x)).toReal * (w (ix2 (⟨q.val * 704 + l.val, by omega⟩ : Fin 2816) x)).toReal, ?_⟩
    rw [Reals.coe_sum]
    refine Finset.sum_congr rfl fun x _ => ?_
    rw [EReal.coe_mul]
    exact congrArg₂ (· * ·) (Reals.coe_toReal (hy _)) (Reals.coe_toReal (hw _))
  rw [ha', hb', hz]
  exact gate_rule z a' b'

/-- The reference's second result at an index. -/
theorem refB_at (q : Fin 4) (r : Fin 2048) (l : Fin 704) :
    refB dy w a b (ix3 q r l) =
      (∑ x, dy (ix2 r x) * w (ix2 (⟨q.val * 704 + l.val, by omega⟩ : Fin 2816) x))
        * (a (ix2 r (⟨q.val * 704 + l.val, by omega⟩ : Fin 2816)) * Ideal.div 1 (1 + Ideal.exp (0 - a (ix2 r (⟨q.val * 704 + l.val, by omega⟩ : Fin 2816))))) := by
  pointwise [refB]
  rw [zero_sub, mul_comm]

end Reading

section Kernel
open Cert.Kernel2Ideal Cert.Kernel2Ideal.Gen

variable (m : (ℓ : Loc nD τ sig) → Buf (Elt Ideal) ℓ)

/-- Every window's block index at every grid point. -/
theorem idx_val : ∀ t : Fin cfg0.N, win0_0.index t = ![t.val / 4, 0]
    ∧ win0_1.index t = ![t.val % 4, 0, 0]
    ∧ win0_2.index t = ![t.val % 4, t.val / 4, 0]
    ∧ win0_3.index t = ![t.val % 4, t.val / 4, 0]
    ∧ win0_4.index t = ![t.val % 4, t.val / 4, 0]
    ∧ win0_5.index t = ![t.val % 4, t.val / 4, 0]
    ∧ t.val / 4 < 2 :=
  (by decide +kernel : ∀ t : Fin grid0.N, _)

/-- The arguments hold real numbers. -/
def Real4 (c : Dev nD) : Prop :=
  (∀ i, ∃ r : ℝ, (m ((c : Thread nD τ).loc main_arg0) : FVec Ideal S2048x1024 .bf16) i = (r : EReal))
  ∧ (∀ i, ∃ r : ℝ, (m ((c : Thread nD τ).loc main_arg1) : FVec Ideal S2816x1024 .bf16) i = (r : EReal))
  ∧ (∀ i, ∃ r : ℝ, (m ((c : Thread nD τ).loc main_arg2) : FVec Ideal S2048x2816 .bf16) i = (r : EReal))
  ∧ (∀ i, ∃ r : ℝ, (m ((c : Thread nD τ).loc main_arg3) : FVec Ideal S2048x2816 .bf16) i = (r : EReal))

set_option maxHeartbeats 1600000 in
/-- What a grid point stores of the first result is the reference there. -/
theorem point_4 (c : Dev nD) (h : Real4 m c) (t : Fin cfg0.N) (y) :
    k0_pay5 (iblk m c 0 t) (iblk m c 1 t) (iblk m c 2 t) (iblk m c 3 t) y
      = refA (m ((c : Thread nD τ).loc main_arg0)) (m ((c : Thread nD τ).loc main_arg1)) (m ((c : Thread nD τ).loc
        main_arg2)) (m ((c : Thread nD τ).loc main_arg3)) (((cfg0.win 4).blk t).view.emb y) := by
  have hlt := (idx_val t).2.2.2.2.2.2
  idx_vars y
  have he : ((cfg0.win 4).blk t).view.emb (ix3 y0 y1 y2)
      = ix3 (⟨t.val % 4, by omega⟩ : Fin 4) (⟨t.val / 4 * 1024 + y1.val, by omega⟩ : Fin 2048) y2 := by
    blk_ext [idx_val t]
  rw [he]
  refine Eq.trans ?_ (refA_at _ _ _ _ h.1 h.2.1 h.2.2.1 h.2.2.2 _ _ _).symm
  pointwise [k0_pay5, k0_pay2, k0_pay3, k0_pay4]
  blk_point [iblk, V, idx_val t]

/-- The first result after the run. -/
theorem final_4 (c : Dev nD) (h : Real4 m c) : (dats m 0 c).arrAt 4 (cfgs 0).N = refA (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c h t y

set_option maxHeartbeats 1600000 in
/-- What a grid point stores of the second result is the reference there. -/
theorem point_5 (c : Dev nD) (t : Fin cfg0.N) (y) :
    k0_pay1 (k0_pay6 (iblk m c 0 t) (iblk m c 1 t) (iblk m c 2 t)) y
      = refB (m ((c : Thread nD τ).loc main_arg0)) (m ((c : Thread nD τ).loc main_arg1)) (m ((c : Thread nD τ).loc
        main_arg2)) (m ((c : Thread nD τ).loc main_arg3)) (((cfg0.win 5).blk t).view.emb y) := by
  have hlt := (idx_val t).2.2.2.2.2.2
  idx_vars y
  have he : ((cfg0.win 5).blk t).view.emb (ix3 y0 y1 y2)
      = ix3 (⟨t.val % 4, by omega⟩ : Fin 4) (⟨t.val / 4 * 1024 + y1.val, by omega⟩ : Fin 2048) y2 := by
    blk_ext [idx_val t]
  rw [he]
  refine Eq.trans ?_ (refB_at _ _ _ _ _ _ _).symm
  pointwise [k0_pay1, k0_pay6, k0_pay2, k0_pay3, k0_pay4]
  blk_point [iblk, V, idx_val t]

/-- The second result after the run. -/
theorem final_5 (c : Dev nD) : (dats m 0 c).arrAt 5 (cfgs 0).N = refB (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point_5 m c t y

end Kernel

end Cert.FfnDz

end
-- ==== Proof.FfnDzClaim.lean ====
/- Hand-written: the value claim of `ffn_dz` from the values of its two result arrays. -/
module

public import proofs.«01_k».proof.Defs
public import proofs.«01_k».proof.Proof.FfnDz
public import proofs.«01_k».proof.Proof.Gen.Pre_finite2
public import Idealize.ShloMosaic.Lib.Claim

set_option maxRecDepth 16384

@[expose] public section

open Idealize.ShloMosaic Idealize.ShloMosaic.TcCoe Idealize.SL.Sem

namespace Cert.FfnDz

/-- The precondition says that the four arguments hold real numbers. -/
theorem real4_of_pre (m : (ℓ : Loc Kernel2Ideal.nD Kernel2Ideal.τ Kernel2Ideal.sig) → Buf (Elt Ideal) ℓ)
    (h : Cert.Pre_Kernel2Ideal_finite2 (hPre_finite2 := Cert.Pre_finite2.Gen.facts) m) (c : Dev Kernel2Ideal.nD) :
    Real4 m c := by
  obtain ⟨h0, h1, h2, h3⟩ := h c
  refine ⟨fun i => ?_, fun i => ?_, fun i => ?_, fun i => ?_⟩
  · have h0 := congrFun h0 i
    pointwise [Cert.Pre_finite2.fn] at h0
    exact Reals.real_of_bit h0
  · have h1 := congrFun h1 i
    pointwise [Cert.Pre_finite2.fn] at h1
    exact Reals.real_of_bit h1
  · have h2 := congrFun h2 i
    pointwise [Cert.Pre_finite2.fn] at h2
    exact Reals.real_of_bit h2
  · have h3 := congrFun h3 i
    pointwise [Cert.Pre_finite2.fn] at h3
    exact Reals.real_of_bit h3

/-- The kernel's two gradients are the reference's. -/
theorem algebraic : Cert.algebraic_Kernel2Ideal_Reference2Ideal_pre_finite2
    (hKernel2Ideal := Cert.Kernel2Ideal.Gen.facts) (hReference2Ideal := Cert.Reference2Ideal.Gen.facts)
    (hPre_finite2 := Cert.Pre_finite2.Gen.facts) := by
  pair_intro
  · run_from Cert.Kernel2Ideal.Value.run_blocks m g
  · run_from Cert.Reference2Ideal.Value.run m' g'
    · exact (final_4 m c (real4_of_pre m hpre c)).symm
    · exact (final_5 m c).symm

/-- The reference's program runs and leaves its arguments and every semaphore as they were. -/
theorem frame_reference : Cert.quiescent_Reference2Ideal (hReference2Ideal := Cert.Reference2Ideal.Gen.facts) :=
  fun m ρ _ => (θ_run Cert.Reference2Ideal.defs _ _).mono (fun r h => ⟨fun c => (h c).2.2,
      sem_eq_zero_of_no_sems (by decide) r.2⟩) (Cert.Reference2Ideal.Value.run (F := Ideal) m ρ)

end Cert.FfnDz

end
-- ==== Proof.FfnGdn.lean ====
/- Hand-written: the value of `ffn_gdn`, the gradient of the down projection's weights, against the plain gradient. -/
module

public import proofs.«01_k».proof.Defs
public import proofs.«01_k».proof.Proof.Gen.Kernel3Ideal.Value
public import proofs.«01_k».proof.Proof.Gen.Reference3Ideal.Run
public import Idealize.ShloMosaic.Lib.Claim
public import Idealize.ShloMosaic.Lib.Pipeline.ValueKit

set_option maxRecDepth 16384

@[expose] public noncomputable section

open Idealize.ShloMosaic Idealize.ShloMosaic.TcCoe Idealize.SL.Sem
open Idealize.ShloMosaic.Pipeline (Dat)
open scoped BigOperators

namespace Cert.FfnGdn

section Reference
open Cert.Reference3Ideal Cert.Reference3Ideal.Gen

/-- The reference's result over its two arguments. -/
def ref (z : FVec Ideal S2048x2816 .bf16) (dy : FVec Ideal S2048x1024 .bf16) : FVec Ideal S4x704x1024 .bf16 :=
  truncf .bf16 (shapeCast _ (transpose S2816x1024 [1, 0] (Host.dotGeneral (φ₁ := .f32) (φ₂ := .f32) dot_S2048x1024_S2048x2816_S1024x2816_0_0_1_1_n_n none (extf .f32 dy bitsLt_bf16_f32) (extf .f32 z bitsLt_bf16_f32)) transposes_S1024x2816_S2816x1024_1_0) shapeCasts_S2816x1024_S4x704x1024) bitsLt_bf16_f32

/-- The reference's result at an index: the product over the rows. -/
theorem ref_at (z : FVec Ideal S2048x2816 .bf16) (dy : FVec Ideal S2048x1024 .bf16) (q : Fin 4) (r : Fin 704)
    (l : Fin 1024) :
    ref z dy (ix3 q r l) = ∑ x, z (ix2 x (⟨q.val * 704 + r.val, by omega⟩ : Fin 2816)) * dy (ix2 x l) := by
  pointwise [ref]
  exact Finset.sum_congr rfl fun x _ => mul_comm _ _

end Reference

section Kernel
open Cert.Kernel3Ideal Cert.Kernel3Ideal.Gen

variable (m : (ℓ : Loc nD τ sig) → Buf (Elt Ideal) ℓ)

/-- Every window's block index at every grid point. -/
theorem idx_val : ∀ t : Fin cfg0.N, win0_0.index t = ![t.val, 0, 0]
    ∧ win0_1.index t = ![0, 0]
    ∧ win0_2.index t = ![t.val, 0, 0]
    ∧ t.val < 4 :=
  (by decide +kernel : ∀ t : Fin grid0.N, _)

set_option maxHeartbeats 1600000 in
/-- What a grid point stores is the reference there. -/
theorem point (c : Dev nD) (t : Fin cfg0.N) (y) :
    k0_pay3 (k0_pay2 (k0_pay1 (F := Ideal)) (iblk m c 0 t) (iblk m c 1 t)) y
      = ref (m ((c : Thread nD τ).loc main_arg0)) (m ((c : Thread nD τ).loc main_arg1))
          (((cfg0.win 2).blk t).view.emb y) := by
  have hlt := (idx_val t).2.2.2
  idx_vars y
  have he : ((cfg0.win 2).blk t).view.emb (ix3 y0 y1 y2) = ix3 (⟨t.val, hlt⟩ : Fin 4) y1 y2 := by
    blk_ext [idx_val t]
  rw [he]
  refine Eq.trans ?_ (ref_at _ _ _ _ _).symm
  pointwise [k0_pay1, k0_pay2, k0_pay3]
  blk_point [iblk, V, idx_val t]

/-- The result after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp; rw [after0_2]
  unfold outsAt0
  frame_out
  exact point m c t y

end Kernel

/-- The kernel's results are the reference's. -/
theorem algebraic : Cert.algebraic_Kernel3Ideal_Reference3Ideal
    (hKernel3Ideal := Cert.Kernel3Ideal.Gen.facts) (hReference3Ideal := Cert.Reference3Ideal.Gen.facts) := by
  pair_intro
  · run_from Cert.Kernel3Ideal.Value.run_blocks m g
  · run_from Cert.Reference3Ideal.Value.run m' g'
    exact (final m c).symm

/-- The reference's program runs and leaves its arguments and every semaphore as they were. -/
theorem frame_reference : Cert.quiescent_Reference3Ideal (hReference3Ideal := Cert.Reference3Ideal.Gen.facts) :=
  fun m ρ _ => (θ_run Cert.Reference3Ideal.defs _ _).mono (fun r h => ⟨fun c => (h c).2,
      sem_eq_zero_of_no_sems (by decide) r.2⟩) (Cert.Reference3Ideal.Value.run (F := Ideal) m ρ)

end Cert.FfnGdn

end
-- ==== Proof.FfnDh2.lean ====
/- Hand-written: the value of `ffn_dh2`, the gradient of the feed-forward block's input, against the plain gradient. -/
module

public import proofs.«01_k».proof.Defs
public import proofs.«01_k».proof.Proof.Gen.Kernel4Ideal.Value
public import proofs.«01_k».proof.Proof.Gen.Reference4Ideal.Run
public import Idealize.ShloMosaic.Lib.Claim
public import Idealize.ShloMosaic.Lib.Pipeline.ValueKit
public import Idealize.ShloMosaic.Lib.Pipeline.ReadBack

set_option maxRecDepth 16384

@[expose] public noncomputable section

open Idealize.ShloMosaic Idealize.ShloMosaic.TcCoe Idealize.SL.Sem
open Idealize.ShloMosaic.Pipeline (Dat)
open scoped BigOperators

namespace Cert.FfnDh2

section Reference
open Cert.Reference4Ideal Cert.Reference4Ideal.Gen

/-- The reference's result over its four arguments. -/
def ref (a b : FVec Ideal S2048x2816 .bf16) (wg wu : FVec Ideal S1024x2816 .bf16) : FVec Ideal S2048x1024 .f32 :=
  addf (Host.dotGeneral (φ₁ := .f32) (φ₂ := .f32) dot_S2048x2816_S1024x2816_S2048x1024_1_1_0_0_n_n none (extf .f32 b bitsLt_bf16_f32) (extf .f32 wu bitsLt_bf16_f32)) (Host.dotGeneral (φ₁ := .f32) (φ₂ := .f32) dot_S2048x2816_S1024x2816_S2048x1024_1_1_0_0_n_n none (extf .f32 a bitsLt_bf16_f32) (extf .f32 wg bitsLt_bf16_f32))

/-- The result at an index: both products over the hidden features, in four tiles of 704. -/
theorem ref_at (a b : FVec Ideal S2048x2816 .bf16) (wg wu : FVec Ideal S1024x2816 .bf16) (r : Fin 2048) (l : Fin 1024) :
    ref a b wg wu (ix2 r l)
      = ∑ s : Fin 4, (∑ k : Fin 704, a (ix2 r (⟨s.val * 704 + k.val, by omega⟩ : Fin 2816)) * wg (ix2 l (⟨s.val * 704 + k.val, by omega⟩ : Fin 2816))
          + ∑ k : Fin 704, b (ix2 r (⟨s.val * 704 + k.val, by omega⟩ : Fin 2816)) * wu (ix2 l (⟨s.val * 704 + k.val, by omega⟩ : Fin 2816))) := by
  pointwise [ref]
  rw [Finset.sum_add_distrib, add_comm]
  exact congrArg₂ (· + ·)
    (Fin.sum_univ_tiles 4 704 rfl fun x : Fin 2816 => a (ix2 r x) * wg (ix2 l x))
    (Fin.sum_univ_tiles 4 704 rfl fun x : Fin 2816 => b (ix2 r x) * wu (ix2 l x))

end Reference

section Kernel
open Cert.Kernel4Ideal Cert.Kernel4Ideal.Gen

variable (m : (ℓ : Loc nD τ sig) → Buf (Elt Ideal) ℓ)

/-- Every window's block index at every grid point. -/
theorem idx_val : ∀ t : Fin cfg0.N, win0_0.index t = ![t.val % 4, t.val / 4, 0]
    ∧ win0_1.index t = ![t.val % 4, t.val / 4, 0]
    ∧ win0_2.index t = ![t.val % 4, 0, 0]
    ∧ win0_3.index t = ![t.val % 4, 0, 0]
    ∧ win0_4.index t = ![t.val / 4, 0]
    ∧ t.val / 4 < 2 :=
  (by decide +kernel : ∀ t : Fin grid0.N, _)

/-- What a point adds to the accumulator: the two tiles' products. -/
def part (a b : FVec Ideal S1x1024x704 .bf16) (wg wu : FVec Ideal S1x704x1024 .bf16) (j : S1024x1024.Idx) : EReal :=
  ∑ k : Fin 704, a (ix3 (0 : Fin 1) (j 0) k) * wg (ix3 (0 : Fin 1) k (j 1))
    + ∑ k : Fin 704, b (ix3 (0 : Fin 1) (j 0) k) * wu (ix3 (0 : Fin 1) k (j 1))

/-- A step of the accumulator. -/
theorem step_at (acc : FVec Ideal S1024x1024 .f32) (a b : FVec Ideal S1x1024x704 .bf16)
    (wg wu : FVec Ideal S1x704x1024 .bf16) (j : S1024x1024.Idx) :
    k0_pay2 acc a wg b wu j = acc j + part a b wg wu j := by
  idx_vars j
  unfold part
  pointwise [k0_pay2]

/-- The accumulator starts at zero. -/
theorem zero_at (j : S1024x1024.Idx) : k0_pay1 (F := Ideal) j = 0 := by
  pointwise [k0_pay1]

/-- The stored block is the accumulator. -/
theorem store_at (acc : FVec Ideal S1024x1024 .f32) (j : S1024x1024.Idx) : k0_pay3 acc j = acc j := by
  pointwise [k0_pay3]

set_option maxHeartbeats 1600000 in
/-- Input 0's tile at a point. -/
theorem tile_0 (c : Dev nD) (t : Fin cfg0.N) (q : Fin 1) (x : Fin 1024) (k : Fin 704) :
    (iblk m c 0 t : FVec Ideal S1x1024x704 .bf16) (ix3 q x k) = (m ((c : Thread nD τ).loc main_arg0) : FVec Ideal S2048x2816 .bf16)
      (ix2 (⟨t.val / 4 * 1024 + x.val, by have := (idx_val t).2.2.2.2.2; omega⟩ : Fin 2048)
        (⟨t.val % 4 * 704 + k.val, by omega⟩ : Fin 2816)) := by
  have := (idx_val t).2.2.2.2.2
  blk_point [iblk, V, idx_val t]

set_option maxHeartbeats 1600000 in
/-- Input 1's tile at a point. -/
theorem tile_1 (c : Dev nD) (t : Fin cfg0.N) (q : Fin 1) (x : Fin 1024) (k : Fin 704) :
    (iblk m c 1 t : FVec Ideal S1x1024x704 .bf16) (ix3 q x k) = (m ((c : Thread nD τ).loc main_arg1) : FVec Ideal S2048x2816 .bf16)
      (ix2 (⟨t.val / 4 * 1024 + x.val, by have := (idx_val t).2.2.2.2.2; omega⟩ : Fin 2048)
        (⟨t.val % 4 * 704 + k.val, by omega⟩ : Fin 2816)) := by
  have := (idx_val t).2.2.2.2.2
  blk_point [iblk, V, idx_val t]

set_option maxHeartbeats 1600000 in
/-- Input 2's tile at a point. -/
theorem tile_2 (c : Dev nD) (t : Fin cfg0.N) (q : Fin 1) (k : Fin 704) (l : Fin 1024) :
    (iblk m c 2 t : FVec Ideal S1x704x1024 .bf16) (ix3 q k l) = (m ((c : Thread nD τ).loc main_arg2) : FVec Ideal S1024x2816 .bf16)
      (ix2 l (⟨t.val % 4 * 704 + k.val, by omega⟩ : Fin 2816)) := by
  blk_point [iblk, V, idx_val t]

set_option maxHeartbeats 1600000 in
/-- Input 3's tile at a point. -/
theorem tile_3 (c : Dev nD) (t : Fin cfg0.N) (q : Fin 1) (k : Fin 704) (l : Fin 1024) :
    (iblk m c 3 t : FVec Ideal S1x704x1024 .bf16) (ix3 q k l) = (m ((c : Thread nD τ).loc main_arg3) : FVec Ideal S1024x2816 .bf16)
      (ix2 l (⟨t.val % 4 * 704 + k.val, by omega⟩ : Fin 2816)) := by
  blk_point [iblk, V, idx_val t]

/-- After the last point of a run the accumulator is the sum of the run's parts. -/
theorem acc_eq (c : Dev nD) (t : Fin cfg0.N) (ht : t.val % 4 = 3) (j : S1024x1024.Idx) :
    (outsAt0 m c t.val t.isLt).2 j
      = 0 + ∑ s : Fin 4, part (iblk m c 0 ⟨4 * (t.val / 4) + s.val, Pipeline.run_point_lt_of_flush t ht s⟩)
          (iblk m c 1 ⟨4 * (t.val / 4) + s.val, Pipeline.run_point_lt_of_flush t ht s⟩)
          (iblk m c 2 ⟨4 * (t.val / 4) + s.val, Pipeline.run_point_lt_of_flush t ht s⟩)
          (iblk m c 3 ⟨4 * (t.val / 4) + s.val, Pipeline.run_point_lt_of_flush t ht s⟩) j := by
  rw [Pipeline.eq_sum_fin_of_reset_step_apply_of_flush (fun n h => (outsAt0 m c n h).2) 4 (fun _ => 0)
    (fun t j => part (iblk m c 0 t) (iblk m c 1 t) (iblk m c 2 t) (iblk m c 3 t) j)
    (fun t h j => by
      rw [outsAt0_A m c t h (by omega)]; frame_out; rw [step_at, zero_at])
    (fun t h j => by
      by_cases h3 : t.val % 4 = 3
      · rw [outsAt0_C m c t h h3]; frame_out; rw [step_at, Idealize.ShloMosaic.read_unread_whole]
      · rw [outsAt0_B m c t h h3]; frame_out; rw [step_at, Idealize.ShloMosaic.read_unread_whole]) t ht j]

/-- The block written back is the accumulator. -/
theorem out_eq (c : Dev nD) (t : Fin cfg0.N) (ht : t.val % 4 = 3) (j : S1024x1024.Idx) :
    (outsAt0 m c t.val t.isLt).1 j = (outsAt0 m c t.val t.isLt).2 j := by
  rw [outsAt0_C m c t (by omega) ht]
  frame_out
  rw [store_at]

/-- The result after the run. -/
theorem final (c : Dev nD) : (dats m 0 c).arrAt 4 (cfgs 0).N
    = ref (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have ht := (flush0_4 t).mp hf
  have hlt := (idx_val t).2.2.2.2.2
  blk_simp; rw [after0_4, out_eq m c t ht, acc_eq m c t ht, zero_add]
  idx_vars y
  have he : ((cfg0.win 4).blk t).view.emb (ix2 y0 y1)
      = ix2 (⟨t.val / 4 * 1024 + y0.val, by omega⟩ : Fin 2048) y1 := by
    blk_ext [idx_val t]
  refine Eq.trans ?_ (Eq.trans (ref_at _ _ _ _ _ _).symm (congrArg _ he.symm))
  refine Fin.sum_fin_congr fun s => ?_
  have e0 : (4 * (t.val / 4) + s.val) % 4 = s.val := by omega
  have e1 : (4 * (t.val / 4) + s.val) / 4 = t.val / 4 := by omega
  unfold part
  refine congrArg₂ (· + ·) (Finset.sum_congr rfl fun k _ => ?_) (Finset.sum_congr rfl fun k _ => ?_)
  · refine (congrArg₂ (fun x y : EReal => x * y) (tile_0 m c _ 0 y0 k) (tile_2 m c _ 0 k y1)).trans ?_
    refine congrArg₂ (fun x y : EReal => x * y) (congrArg _ (congrArg₂ ix2 (Fin.ext ?_) (Fin.ext ?_))) (congrArg _ (congrArg₂ ix2 rfl (Fin.ext ?_)))
    · show (4 * (t.val / 4) + s.val) / 4 * 1024 + y0.val = t.val / 4 * 1024 + y0.val; rw [e1]
    · show (4 * (t.val / 4) + s.val) % 4 * 704 + k.val = s.val * 704 + k.val; rw [e0]
    · show (4 * (t.val / 4) + s.val) % 4 * 704 + k.val = s.val * 704 + k.val; rw [e0]
  · refine (congrArg₂ (fun x y : EReal => x * y) (tile_1 m c _ 0 y0 k) (tile_3 m c _ 0 k y1)).trans ?_
    refine congrArg₂ (fun x y : EReal => x * y) (congrArg _ (congrArg₂ ix2 (Fin.ext ?_) (Fin.ext ?_))) (congrArg _ (congrArg₂ ix2 rfl (Fin.ext ?_)))
    · show (4 * (t.val / 4) + s.val) / 4 * 1024 + y0.val = t.val / 4 * 1024 + y0.val; rw [e1]
    · show (4 * (t.val / 4) + s.val) % 4 * 704 + k.val = s.val * 704 + k.val; rw [e0]
    · show (4 * (t.val / 4) + s.val) % 4 * 704 + k.val = s.val * 704 + k.val; rw [e0]

end Kernel

/-- The kernel's results are the reference's. -/
theorem algebraic : Cert.algebraic_Kernel4Ideal_Reference4Ideal
    (hKernel4Ideal := Cert.Kernel4Ideal.Gen.facts) (hReference4Ideal := Cert.Reference4Ideal.Gen.facts) := by
  pair_intro
  · run_from Cert.Kernel4Ideal.Value.run_blocks m g
  · run_from Cert.Reference4Ideal.Value.run m' g'
    exact (final m c).symm

/-- The reference's program runs and leaves its arguments and every semaphore as they were. -/
theorem frame_reference : Cert.quiescent_Reference4Ideal (hReference4Ideal := Cert.Reference4Ideal.Gen.facts) :=
  fun m ρ _ => (θ_run Cert.Reference4Ideal.defs _ _).mono (fun r h => ⟨fun c => (h c).2,
      sem_eq_zero_of_no_sems (by decide) r.2⟩) (Cert.Reference4Ideal.Value.run (F := Ideal) m ρ)

end Cert.FfnDh2

end
-- ==== Proof.FfnGgu.lean ====
/- Hand-written: the values of `ffn_ggu`, the gradients of the two up projections' weights, against the plain gradients. -/
module

public import proofs.«01_k».proof.Defs
public import proofs.«01_k».proof.Proof.Gen.Kernel5Ideal.Value
public import proofs.«01_k».proof.Proof.Gen.Reference5Ideal.Run
public import Idealize.ShloMosaic.Lib.Claim
public import Idealize.ShloMosaic.Lib.Pipeline.ValueKit
public import Idealize.ShloMosaic.Lib.Pipeline.ReadBack

set_option maxRecDepth 16384

@[expose] public noncomputable section

open Idealize.ShloMosaic Idealize.ShloMosaic.TcCoe Idealize.SL.Sem
open Idealize.ShloMosaic.Pipeline (Dat)
open scoped BigOperators

namespace Cert.FfnGgu

section Reference
open Cert.Reference5Ideal Cert.Reference5Ideal.Gen

/-- One of the reference's two results, the gradient of one up projection's weights. -/
def ref (h : FVec Ideal S2048x1024 .bf16) (a : FVec Ideal S2048x2816 .bf16) : FVec Ideal S4x704x1024 .bf16 :=
  truncf .bf16 (shapeCast _ (transpose S2816x1024 [1, 0] (transpose S1024x2816 [1, 0] (Host.dotGeneral (φ₁ := .f32) (φ₂ := .f32) dot_S2048x2816_S2048x1024_S2816x1024_0_0_1_1_n_n none (extf .f32 a bitsLt_bf16_f32) (extf .f32 h bitsLt_bf16_f32)) transposes_S2816x1024_S1024x2816_1_0) transposes_S1024x2816_S2816x1024_1_0) shapeCasts_S2816x1024_S4x704x1024) bitsLt_bf16_f32

/-- The result at an index: the product over the rows, in two tiles of 1024 rows. -/
theorem ref_at (h : FVec Ideal S2048x1024 .bf16) (a : FVec Ideal S2048x2816 .bf16) (q : Fin 4) (r : Fin 704)
    (l : Fin 1024) :
    ref h a (ix3 q r l)
      = ∑ s : Fin 2, ∑ x : Fin 1024, a (ix2 (⟨s.val * 1024 + x.val, by omega⟩ : Fin 2048) (⟨q.val * 704 + r.val, by omega⟩ : Fin 2816))
          * h (ix2 (⟨s.val * 1024 + x.val, by omega⟩ : Fin 2048) l) := by
  pointwise [ref]
  exact Fin.sum_univ_tiles 2 1024 rfl fun x : Fin 2048 =>
    a (ix2 x (⟨q.val * 704 + r.val, by omega⟩ : Fin 2816)) * h (ix2 x l)

end Reference

section Kernel
open Cert.Kernel5Ideal Cert.Kernel5Ideal.Gen

variable (m : (ℓ : Loc nD τ sig) → Buf (Elt Ideal) ℓ)

/-- Every window's block index at every grid point. -/
theorem idx_val : ∀ t : Fin cfg0.N, win0_0.index t = ![t.val % 2, 0]
    ∧ win0_1.index t = ![t.val / 2, t.val % 2, 0]
    ∧ win0_2.index t = ![t.val / 2, t.val % 2, 0]
    ∧ win0_3.index t = ![t.val / 2, 0, 0]
    ∧ win0_4.index t = ![t.val / 2, 0, 0]
    ∧ t.val / 2 < 4 :=
  (by decide +kernel : ∀ t : Fin grid0.N, _)

/-- Two accumulation steps from zero, at an index of the stored block. -/
theorem steps_a (h0 h1 : FVec Ideal S1024x1024 .bf16) (a0 a1 : FVec Ideal S1x1024x704 .bf16) (q : Fin 1) (r : Fin 704)
    (l : Fin 1024) :
    k0_pay5 (k0_pay3 h1 (k0_pay3 h0 (k0_pay1 (F := Ideal)) a0) a1) (ix3 q r l)
      = ∑ x, a0 (ix3 q x r) * h0 (ix2 x l) + ∑ x, a1 (ix3 q x r) * h1 (ix2 x l) := by
  obtain rfl : q = 0 := Subsingleton.elim _ _
  pointwise [k0_pay1, k0_pay3, k0_pay5]

/-- The same of the second accumulator. -/
theorem steps_b (h0 h1 : FVec Ideal S1024x1024 .bf16) (a0 a1 : FVec Ideal S1x1024x704 .bf16) (q : Fin 1) (r : Fin 704)
    (l : Fin 1024) :
    k0_pay6 (k0_pay4 h1 (k0_pay4 h0 (k0_pay2 (F := Ideal)) a0) a1) (ix3 q r l)
      = ∑ x, a0 (ix3 q x r) * h0 (ix2 x l) + ∑ x, a1 (ix3 q x r) * h1 (ix2 x l) := by
  obtain rfl : q = 0 := Subsingleton.elim _ _
  pointwise [k0_pay2, k0_pay4, k0_pay6]

/-- The point before. -/
def prev (t : Fin cfg0.N) : Fin cfg0.N := ⟨t.val - 1, Nat.lt_of_le_of_lt (Nat.sub_le _ _) t.isLt⟩

set_option maxHeartbeats 1600000 in
/-- The first input's tile at a point. -/
theorem tile_0 (c : Dev nD) (t : Fin cfg0.N) (x l : Fin 1024) :
    (iblk m c 0 t : FVec Ideal S1024x1024 .bf16) (ix2 x l) = (m ((c : Thread nD τ).loc main_arg0) : FVec Ideal S2048x1024 .bf16)
      (ix2 (⟨t.val % 2 * 1024 + x.val, by omega⟩ : Fin 2048) l) := by
  blk_point [iblk, V, idx_val t]

set_option maxHeartbeats 1600000 in
/-- The second input's tile at a point. -/
theorem tile_1 (c : Dev nD) (t : Fin cfg0.N) (q : Fin 1) (x : Fin 1024) (r : Fin 704) :
    (iblk m c 1 t : FVec Ideal S1x1024x704 .bf16) (ix3 q x r) = (m ((c : Thread nD τ).loc main_arg1) : FVec Ideal S2048x2816 .bf16)
      (ix2 (⟨t.val % 2 * 1024 + x.val, by omega⟩ : Fin 2048)
        (⟨t.val / 2 * 704 + r.val, by have := (idx_val t).2.2.2.2.2; omega⟩ : Fin 2816)) := by
  have := (idx_val t).2.2.2.2.2
  blk_point [iblk, V, idx_val t]

set_option maxHeartbeats 1600000 in
/-- The third input's tile at a point. -/
theorem tile_2 (c : Dev nD) (t : Fin cfg0.N) (q : Fin 1) (x : Fin 1024) (r : Fin 704) :
    (iblk m c 2 t : FVec Ideal S1x1024x704 .bf16) (ix3 q x r) = (m ((c : Thread nD τ).loc main_arg2) : FVec Ideal S2048x2816 .bf16)
      (ix2 (⟨t.val % 2 * 1024 + x.val, by omega⟩ : Fin 2048)
        (⟨t.val / 2 * 704 + r.val, by have := (idx_val t).2.2.2.2.2; omega⟩ : Fin 2816)) := by
  have := (idx_val t).2.2.2.2.2
  blk_point [iblk, V, idx_val t]

/-- What the second point of a run stores through window 3 is the reference there. -/
theorem point_3 (c : Dev nD) (t : Fin cfg0.N) (ht : t.val % 2 = 1) (y) :
    k0_pay5 (k0_pay3 (iblk m c 0 t) (k0_pay3 (iblk m c 0 (prev t)) (k0_pay1 (F := Ideal)) (iblk m c 1 (prev t))) (iblk m c 1 t)) y
      = ref (m ((c : Thread nD τ).loc main_arg0)) (m ((c : Thread nD τ).loc main_arg1))
          (((cfg0.win 3).blk t).view.emb y) := by
  have hlt := (idx_val t).2.2.2.2.2
  idx_vars y
  have he : ((cfg0.win 3).blk t).view.emb (ix3 y0 y1 y2) = ix3 (⟨t.val / 2, hlt⟩ : Fin 4) y1 y2 := by
    blk_ext [idx_val t]
  rw [he, steps_a, ref_at, Fin.sum_univ_two]
  have e0 : (prev t).val % 2 = 0 := by show (t.val - 1) % 2 = 0; omega
  have e1 : (prev t).val / 2 = t.val / 2 := by show (t.val - 1) / 2 = t.val / 2; omega
  refine congrArg₂ (· + ·) (Finset.sum_congr rfl fun x _ => ?_) (Finset.sum_congr rfl fun x _ => ?_)
  · rw [tile_0, tile_1]
    refine congrArg₂ (· * ·) (congrArg _ (congrArg₂ ix2 (Fin.ext ?_) (Fin.ext ?_))) (congrArg _ (congrArg₂ ix2 (Fin.ext ?_) rfl))
    · show (prev t).val % 2 * 1024 + x.val = 0 * 1024 + x.val; rw [e0]
    · show (prev t).val / 2 * 704 + y1.val = t.val / 2 * 704 + y1.val; rw [e1]
    · show (prev t).val % 2 * 1024 + x.val = 0 * 1024 + x.val; rw [e0]
  · rw [tile_0, tile_1]
    refine congrArg₂ (· * ·) (congrArg _ (congrArg₂ ix2 (Fin.ext ?_) rfl)) (congrArg _ (congrArg₂ ix2 (Fin.ext ?_) rfl))
    · show t.val % 2 * 1024 + x.val = 1 * 1024 + x.val; rw [ht]
    · show t.val % 2 * 1024 + x.val = 1 * 1024 + x.val; rw [ht]

/-- Window 3's array after the run. -/
theorem final_3 (c : Dev nD) : (dats m 0 c).arrAt 3 (cfgs 0).N
    = ref (m ((c : Thread nD τ).loc main_arg0)) (m ((c : Thread nD τ).loc main_arg1)) := by
  refine (dats m 0 c).arrAt_eq_of_covers 3 _ (by decide +kernel) fun t hf y => ?_
  have ht := (flush0_3 t).mp hf
  have hp : (prev t).val % 2 = 0 := by show (t.val - 1) % 2 = 0; omega
  blk_simp; rw [after0_3, outsAt0_B m c t (by omega) ht]
  frame_out
  have hs : (outsAt0 m c (t.val - 1) (Nat.lt_of_le_of_lt (Nat.sub_le _ _) t.isLt)).2.2.1
      = k0_pay3 (iblk m c 0 (prev t)) (k0_pay1 (F := Ideal)) (iblk m c 1 (prev t)) := by
    have hA := outsAt0_A m c (prev t) hp (by omega)
    show (outsAt0 m c (prev t).val (prev t).isLt).2.2.1 = _
    rw [hA]
    frame_out
  rw [Idealize.ShloMosaic.read_unread_whole, hs]
  exact point_3 m c t ht y

/-- What the second point of a run stores through window 4 is the reference there. -/
theorem point_4 (c : Dev nD) (t : Fin cfg0.N) (ht : t.val % 2 = 1) (y) :
    k0_pay6 (k0_pay4 (iblk m c 0 t) (k0_pay4 (iblk m c 0 (prev t)) (k0_pay2 (F := Ideal)) (iblk m c 2 (prev t))) (iblk m c 2 t)) y
      = ref (m ((c : Thread nD τ).loc main_arg0)) (m ((c : Thread nD τ).loc main_arg2))
          (((cfg0.win 4).blk t).view.emb y) := by
  have hlt := (idx_val t).2.2.2.2.2
  idx_vars y
  have he : ((cfg0.win 4).blk t).view.emb (ix3 y0 y1 y2) = ix3 (⟨t.val / 2, hlt⟩ : Fin 4) y1 y2 := by
    blk_ext [idx_val t]
  rw [he, steps_b, ref_at, Fin.sum_univ_two]
  have e0 : (prev t).val % 2 = 0 := by show (t.val - 1) % 2 = 0; omega
  have e1 : (prev t).val / 2 = t.val / 2 := by show (t.val - 1) / 2 = t.val / 2; omega
  refine congrArg₂ (· + ·) (Finset.sum_congr rfl fun x _ => ?_) (Finset.sum_congr rfl fun x _ => ?_)
  · rw [tile_0, tile_2]
    refine congrArg₂ (· * ·) (congrArg _ (congrArg₂ ix2 (Fin.ext ?_) (Fin.ext ?_))) (congrArg _ (congrArg₂ ix2 (Fin.ext ?_) rfl))
    · show (prev t).val % 2 * 1024 + x.val = 0 * 1024 + x.val; rw [e0]
    · show (prev t).val / 2 * 704 + y1.val = t.val / 2 * 704 + y1.val; rw [e1]
    · show (prev t).val % 2 * 1024 + x.val = 0 * 1024 + x.val; rw [e0]
  · rw [tile_0, tile_2]
    refine congrArg₂ (· * ·) (congrArg _ (congrArg₂ ix2 (Fin.ext ?_) rfl)) (congrArg _ (congrArg₂ ix2 (Fin.ext ?_) rfl))
    · show t.val % 2 * 1024 + x.val = 1 * 1024 + x.val; rw [ht]
    · show t.val % 2 * 1024 + x.val = 1 * 1024 + x.val; rw [ht]

/-- Window 4's array after the run. -/
theorem final_4 (c : Dev nD) : (dats m 0 c).arrAt 4 (cfgs 0).N
    = ref (m ((c : Thread nD τ).loc main_arg0)) (m ((c : Thread nD τ).loc main_arg2)) := by
  refine (dats m 0 c).arrAt_eq_of_covers 4 _ (by decide +kernel) fun t hf y => ?_
  have ht := (flush0_4 t).mp hf
  have hp : (prev t).val % 2 = 0 := by show (t.val - 1) % 2 = 0; omega
  blk_simp; rw [after0_4, outsAt0_B m c t (by omega) ht]
  frame_out
  have hs : (outsAt0 m c (t.val - 1) (Nat.lt_of_le_of_lt (Nat.sub_le _ _) t.isLt)).2.2.2
      = k0_pay4 (iblk m c 0 (prev t)) (k0_pay2 (F := Ideal)) (iblk m c 2 (prev t)) := by
    have hA := outsAt0_A m c (prev t) hp (by omega)
    show (outsAt0 m c (prev t).val (prev t).isLt).2.2.2 = _
    rw [hA]
    frame_out
  rw [Idealize.ShloMosaic.read_unread_whole, hs]
  exact point_4 m c t ht y

end Kernel

/-- The kernel's results are the reference's. -/
theorem algebraic : Cert.algebraic_Kernel5Ideal_Reference5Ideal
    (hKernel5Ideal := Cert.Kernel5Ideal.Gen.facts) (hReference5Ideal := Cert.Reference5Ideal.Gen.facts) := by
  pair_intro
  · run_from Cert.Kernel5Ideal.Value.run_blocks m g
  · run_from Cert.Reference5Ideal.Value.run m' g'
    · exact (final_3 m c).symm
    · exact (final_4 m c).symm

/-- The reference's program runs and leaves its arguments and every semaphore as they were. -/
theorem frame_reference : Cert.quiescent_Reference5Ideal (hReference5Ideal := Cert.Reference5Ideal.Gen.facts) :=
  fun m ρ _ => (θ_run Cert.Reference5Ideal.defs _ _).mono (fun r h => ⟨fun c => (h c).2.2,
      sem_eq_zero_of_no_sems (by decide) r.2⟩) (Cert.Reference5Ideal.Value.run (F := Ideal) m ρ)

end Cert.FfnGgu

end
-- ==== Proof.FfnUp.lean ====
/- Hand-written: the values of `ffn_up`, the two up projections and their gated product, against the plain forward. -/
module

public import proofs.«01_k».proof.Defs
public import proofs.«01_k».proof.Proof.Gen.Kernel6Ideal.Value
public import proofs.«01_k».proof.Proof.Gen.Reference6Ideal.Run
public import Idealize.ShloMosaic.Lib.Claim
public import Idealize.ShloMosaic.Lib.Pipeline.ValueKit

set_option maxRecDepth 16384

@[expose] public noncomputable section

open Idealize.ShloMosaic Idealize.ShloMosaic.TcCoe Idealize.SL.Sem
open Idealize.ShloMosaic.Pipeline (Dat)
open scoped BigOperators

namespace Cert.FfnUp

section Reference
open Cert.Reference6Ideal Cert.Reference6Ideal.Gen

variable (h : FVec Ideal S2048x1024 .bf16) (wg wu : FVec Ideal S1024x2816 .bf16)

/-- The reference's first result, the gate's left argument. -/
def refA : FVec Ideal S4x2048x704 .bf16 :=
  truncf .bf16 (transpose S4x2048x704 [1, 0, 2] (shapeCast _ (Host.dotGeneral (φ₁ := .f32) (φ₂ := .f32) dot_S2048x1024_S1024x2816_S2048x2816_1_0_0_1_n_n none (extf .f32 h bitsLt_bf16_f32) (extf .f32 wg bitsLt_bf16_f32)) shapeCasts_S2048x2816_S2048x4x704) transposes_S2048x4x704_S4x2048x704_1_0_2) bitsLt_bf16_f32

/-- The reference's second result, the gate's right argument. -/
def refB : FVec Ideal S4x2048x704 .bf16 :=
  truncf .bf16 (transpose S4x2048x704 [1, 0, 2] (shapeCast _ (Host.dotGeneral (φ₁ := .f32) (φ₂ := .f32) dot_S2048x1024_S1024x2816_S2048x2816_1_0_0_1_n_n none (extf .f32 h bitsLt_bf16_f32) (extf .f32 wu bitsLt_bf16_f32)) shapeCasts_S2048x2816_S2048x4x704) transposes_S2048x4x704_S4x2048x704_1_0_2) bitsLt_bf16_f32

/-- The reference's third result, the gated product. -/
def refZ : FVec Ideal S4x2048x704 .bf16 :=
  truncf .bf16 (transpose S4x2048x704 [1, 0, 2] (shapeCast _ (mulf (mulf (Host.dotGeneral (φ₁ := .f32) (φ₂ := .f32) dot_S2048x1024_S1024x2816_S2048x2816_1_0_0_1_n_n none (extf .f32 h bitsLt_bf16_f32) (extf .f32 wg bitsLt_bf16_f32)) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (Host.dotGeneral (φ₁ := .f32) (φ₂ := .f32) dot_S2048x1024_S1024x2816_S2048x2816_1_0_0_1_n_n none (extf .f32 h bitsLt_bf16_f32) (extf .f32 wg bitsLt_bf16_f32))))))) (Host.dotGeneral (φ₁ := .f32) (φ₂ := .f32) dot_S2048x1024_S1024x2816_S2048x2816_1_0_0_1_n_n none (extf .f32 h bitsLt_bf16_f32) (extf .f32 wu bitsLt_bf16_f32))) shapeCasts_S2048x2816_S2048x4x704) transposes_S2048x4x704_S4x2048x704_1_0_2) bitsLt_bf16_f32

/-- The first result at an index. -/
theorem refA_at (q : Fin 4) (r : Fin 2048) (l : Fin 704) :
    refA h wg (ix3 q r l) = ∑ x, h (ix2 r x) * wg (ix2 x (⟨q.val * 704 + l.val, by omega⟩ : Fin 2816)) := by
  pointwise [refA]

/-- The second result at an index. -/
theorem refB_at (q : Fin 4) (r : Fin 2048) (l : Fin 704) :
    refB h wu (ix3 q r l) = ∑ x, h (ix2 r x) * wu (ix2 x (⟨q.val * 704 + l.val, by omega⟩ : Fin 2816)) := by
  pointwise [refB]

/-- The third result at an index. -/
theorem refZ_at (q : Fin 4) (r : Fin 2048) (l : Fin 704) :
    refZ h wg wu (ix3 q r l) = (∑ x, h (ix2 r x) * wg (ix2 x (⟨q.val * 704 + l.val, by omega⟩ : Fin 2816)))
      * Ideal.div 1 (1 + Ideal.exp (0 - ∑ x, h (ix2 r x) * wg (ix2 x (⟨q.val * 704 + l.val, by omega⟩ : Fin 2816))))
      * ∑ x, h (ix2 r x) * wu (ix2 x (⟨q.val * 704 + l.val, by omega⟩ : Fin 2816)) := by
  pointwise [refZ]
  rw [zero_sub]

end Reference

section Kernel
open Cert.Kernel6Ideal Cert.Kernel6Ideal.Gen

variable (m : (ℓ : Loc nD τ sig) → Buf (Elt Ideal) ℓ)

/-- Every window's block index at every grid point. -/
theorem idx_val : ∀ t : Fin cfg0.N, win0_0.index t = ![t.val / 4, 0]
    ∧ win0_1.index t = ![t.val % 4, 0, 0]
    ∧ win0_2.index t = ![t.val % 4, 0, 0]
    ∧ win0_3.index t = ![t.val % 4, t.val / 4, 0]
    ∧ win0_4.index t = ![t.val % 4, t.val / 4, 0]
    ∧ win0_5.index t = ![t.val % 4, t.val / 4, 0]
    ∧ t.val / 4 < 2 :=
  (by decide +kernel : ∀ t : Fin grid0.N, _)

set_option maxHeartbeats 1600000 in
/-- What a grid point stores through window 3 is the reference there. -/
theorem point_3 (c : Dev nD) (t : Fin cfg0.N) (y) :
    k0_pay3 (iblk m c 0 t) (iblk m c 1 t) y
      = refA (m ((c : Thread nD τ).loc main_arg0)) (m ((c : Thread nD τ).loc main_arg1)) (((cfg0.win 3).blk t).view.emb y) := by
  have hlt := (idx_val t).2.2.2.2.2.2
  idx_vars y
  have he : ((cfg0.win 3).blk t).view.emb (ix3 y0 y1 y2)
      = ix3 (⟨t.val % 4, by omega⟩ : Fin 4) (⟨t.val / 4 * 1024 + y1.val, by omega⟩ : Fin 2048) y2 := by
    blk_ext [idx_val t]
  rw [he]
  refine Eq.trans ?_ (refA_at _ _ _ _ _).symm
  pointwise [k0_pay1, k0_pay2, k0_pay3]
  blk_point [iblk, V, idx_val t]

/-- Window 3's array after the run. -/
theorem final_3 (c : Dev nD) : (dats m 0 c).arrAt 3 (cfgs 0).N
    = refA (m ((c : Thread nD τ).loc main_arg0)) (m ((c : Thread nD τ).loc main_arg1)) := by
  refine (dats m 0 c).arrAt_eq_of_covers 3 _ (by decide +kernel) fun t hf y => ?_
  blk_simp; rw [after0_3]; frame_out
  exact point_3 m c t y

set_option maxHeartbeats 1600000 in
/-- What a grid point stores through window 4 is the reference there. -/
theorem point_4 (c : Dev nD) (t : Fin cfg0.N) (y) :
    k0_pay4 (iblk m c 0 t) (iblk m c 2 t) y
      = refB (m ((c : Thread nD τ).loc main_arg0)) (m ((c : Thread nD τ).loc main_arg2)) (((cfg0.win 4).blk t).view.emb y) := by
  have hlt := (idx_val t).2.2.2.2.2.2
  idx_vars y
  have he : ((cfg0.win 4).blk t).view.emb (ix3 y0 y1 y2)
      = ix3 (⟨t.val % 4, by omega⟩ : Fin 4) (⟨t.val / 4 * 1024 + y1.val, by omega⟩ : Fin 2048) y2 := by
    blk_ext [idx_val t]
  rw [he]
  refine Eq.trans ?_ (refB_at _ _ _ _ _).symm
  pointwise [k0_pay1, k0_pay2, k0_pay4]
  blk_point [iblk, V, idx_val t]

/-- Window 4's array after the run. -/
theorem final_4 (c : Dev nD) : (dats m 0 c).arrAt 4 (cfgs 0).N
    = refB (m ((c : Thread nD τ).loc main_arg0)) (m ((c : Thread nD τ).loc main_arg2)) := by
  refine (dats m 0 c).arrAt_eq_of_covers 4 _ (by decide +kernel) fun t hf y => ?_
  blk_simp; rw [after0_4]; frame_out
  exact point_4 m c t y

set_option maxHeartbeats 1600000 in
/-- What a grid point stores through window 5 is the reference there. -/
theorem point_5 (c : Dev nD) (t : Fin cfg0.N) (y) :
    k0_pay5 (iblk m c 0 t) (iblk m c 1 t) (iblk m c 2 t) y
      = refZ (m ((c : Thread nD τ).loc main_arg0)) (m ((c : Thread nD τ).loc main_arg1)) (m ((c : Thread nD τ).loc main_arg2)) (((cfg0.win 5).blk t).view.emb y) := by
  have hlt := (idx_val t).2.2.2.2.2.2
  idx_vars y
  have he : ((cfg0.win 5).blk t).view.emb (ix3 y0 y1 y2)
      = ix3 (⟨t.val % 4, by omega⟩ : Fin 4) (⟨t.val / 4 * 1024 + y1.val, by omega⟩ : Fin 2048) y2 := by
    blk_ext [idx_val t]
  rw [he]
  refine Eq.trans ?_ (refZ_at _ _ _ _ _ _).symm
  pointwise [k0_pay1, k0_pay2, k0_pay5]
  blk_point [iblk, V, idx_val t]

/-- Window 5's array after the run. -/
theorem final_5 (c : Dev nD) : (dats m 0 c).arrAt 5 (cfgs 0).N
    = refZ (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

end Kernel

/-- The kernel's results are the reference's. -/
theorem algebraic : Cert.algebraic_Kernel6Ideal_Reference6Ideal
    (hKernel6Ideal := Cert.Kernel6Ideal.Gen.facts) (hReference6Ideal := Cert.Reference6Ideal.Gen.facts) := by
  pair_intro
  · run_from Cert.Kernel6Ideal.Value.run_blocks m g
  · run_from Cert.Reference6Ideal.Value.run m' g'
    · exact (final_3 m c).symm
    · exact (final_4 m c).symm
    · exact (final_5 m c).symm

/-- The reference's program runs and leaves its arguments and every semaphore as they were. -/
theorem frame_reference : Cert.quiescent_Reference6Ideal (hReference6Ideal := Cert.Reference6Ideal.Gen.facts) :=
  fun m ρ _ => (θ_run Cert.Reference6Ideal.defs _ _).mono (fun r h => ⟨fun c => (h c).2.2.2,
      sem_eq_zero_of_no_sems (by decide) r.2⟩) (Cert.Reference6Ideal.Value.run (F := Ideal) m ρ)

end Cert.FfnUp

end
-- ==== Proof.Columns.lean ====
/- Hand-written: the order the projection's columns are stored in, in blocks of 256 columns. -/
module

public import Idealize.ShloMosaic.Lib.Pipeline.ValueKit

@[expose] public section

open scoped BigOperators

namespace Cert.Columns

/-- The block of the weights' columns that is stored as block `j` of the projection. -/
def src (j : ℕ) : ℕ :=
  if j < 4 then j + 2 else if j < 6 then j + 3 else if j < 8 then j - 6 else if j < 16 then j + 5
  else if j < 20 then j - 7 else 6

/-- The column of the weights that is stored as column `c` of the projection. -/
def natural (c : ℕ) : ℕ := src (c / 256) * 256 + c % 256

/-- The column of the projection that column `n` of the weights is stored at. -/
def stored (n : ℕ) : ℕ :=
  if n < 512 then n + 1536 else if n < 1536 then n - 512 else if n < 1792 then n + 3584
  else if n < 2304 then n - 768 else if n < 3328 then n + 1792 else n - 1280

theorem src_lt {j : ℕ} (h : j < 21) : src j < 21 := by
  unfold src; split_ifs <;> omega

theorem stored_lt {n : ℕ} (h : n < 5376) : stored n < 5376 := by
  unfold stored; split_ifs <;> omega

theorem natural_lt {c : ℕ} (h : c < 5376) : natural c < 5376 := by
  have := src_lt (j := c / 256) (by omega)
  unfold natural; omega

theorem stored_natural {c : ℕ} (h : c < 5376) : stored (natural c) = c := by
  unfold natural src stored; split_ifs <;> omega

theorem natural_stored {n : ℕ} (h : n < 5376) : natural (stored n) = n := by
  unfold stored natural src; split_ifs <;> omega

/-- A column of block `j` comes from the same column of block `src j`. -/
theorem natural_block {j i : ℕ} (hi : i < 256) : natural (j * 256 + i) = src j * 256 + i := by
  unfold natural
  rw [show (j * 256 + i) / 256 = j by omega, show (j * 256 + i) % 256 = i by omega]

theorem stored_block {j i : ℕ} (hj : j < 21) (hi : i < 256) : stored (src j * 256 + i) = j * 256 + i := by
  rw [← natural_block hi, stored_natural (by omega)]

/-- The columns of the projection matched with the columns of the weights. -/
def order : Fin 5376 ≃ Fin 5376 where
  toFun c := ⟨natural c.val, natural_lt c.isLt⟩
  invFun n := ⟨stored n.val, stored_lt n.isLt⟩
  left_inv c := Fin.ext (stored_natural c.isLt)
  right_inv n := Fin.ext (natural_stored n.isLt)

end Cert.Columns

end
-- ==== Proof.MmGin.lean ====
/- Hand-written: the value of `mm_gin`, the gradient of the projection's weights, against the plain gradient. -/
module

public import proofs.«01_k».proof.Defs
public import proofs.«01_k».proof.Proof.Gen.Kernel7Ideal.Value
public import proofs.«01_k».proof.Proof.Gen.Reference7Ideal.Run
public import Idealize.ShloMosaic.Lib.Claim
public import Idealize.ShloMosaic.Lib.Pipeline.ValueKit
public import proofs.«01_k».proof.Proof.Columns

set_option maxRecDepth 16384

@[expose] public noncomputable section

open Idealize.ShloMosaic Idealize.ShloMosaic.TcCoe Idealize.SL.Sem
open Idealize.ShloMosaic.Pipeline (Dat)
open scoped BigOperators

namespace Cert.MmGin

section Reference
open Cert.Reference7Ideal Cert.Reference7Ideal.Gen

/-- The columns of the projection's gradient, from the order it is stored in to the order of the weights. -/
def cols (p : FVec Ideal S2304x5376 .f32) : FVec Ideal S2304x5376 .f32 :=
  (concatenate S2304x5376 1 [⟨S2304x512, ((extractStridedSlice S2304x512 ![0, 1536] p slices_S2304x5376_S2304x512_0_1536) : (⟨S2304x512, .f32⟩ : BufTy).Contents (Elt Ideal))⟩, ⟨S2304x512, ((extractStridedSlice S2304x512 ![0, 0] p slices_S2304x5376_S2304x512_0_0) : (⟨S2304x512, .f32⟩ : BufTy).Contents (Elt Ideal))⟩, ⟨S2304x512, ((extractStridedSlice S2304x512 ![0, 512] p slices_S2304x5376_S2304x512_0_512) : (⟨S2304x512, .f32⟩ : BufTy).Contents (Elt Ideal))⟩, ⟨S2304x256, ((extractStridedSlice S2304x256 ![0, 5120] p slices_S2304x5376_S2304x256_0_5120) : (⟨S2304x256, .f32⟩ : BufTy).Contents (Elt Ideal))⟩, ⟨S2304x512, ((extractStridedSlice S2304x512 ![0, 1024] p slices_S2304x5376_S2304x512_0_1024) : (⟨S2304x512, .f32⟩ : BufTy).Contents (Elt Ideal))⟩, ⟨S2304x512, ((extractStridedSlice S2304x512 ![0, 4096] p slices_S2304x5376_S2304x512_0_4096) : (⟨S2304x512, .f32⟩ : BufTy).Contents (Elt Ideal))⟩, ⟨S2304x512, ((extractStridedSlice S2304x512 ![0, 4608] p slices_S2304x5376_S2304x512_0_4608) : (⟨S2304x512, .f32⟩ : BufTy).Contents (Elt Ideal))⟩, ⟨S2304x2048, ((extractStridedSlice S2304x2048 ![0, 2048] p slices_S2304x5376_S2304x2048_0_2048) : (⟨S2304x2048, .f32⟩ : BufTy).Contents (Elt Ideal))⟩] concatenates_S2304x512_S2304x512_S2304x512_S2304x256_S2304x512_S2304x512_S2304x512_S2304x2048_S2304x5376_d1 : (⟨S2304x5376, .f32⟩ : BufTy).Contents (Elt Ideal))

/-- The reference's result over its two arguments. -/
def ref (p : FVec Ideal S2304x5376 .bf16) (h : FVec Ideal S2304x1024 .bf16) : FVec Ideal S5376x1024 .bf16 :=
  truncf .bf16 (transpose S5376x1024 [1, 0] (transpose S1024x5376 [1, 0] (Host.dotGeneral (φ₁ := .f32) (φ₂ := .f32) dot_S2304x5376_S2304x1024_S5376x1024_0_0_1_1_n_n none (cols (extf .f32 p bitsLt_bf16_f32)) (extf .f32 h bitsLt_bf16_f32)) transposes_S5376x1024_S1024x5376_1_0) transposes_S1024x5376_S5376x1024_1_0) bitsLt_bf16_f32

/-- A column of the weights' order is the stored column. -/
theorem cols_at (p : FVec Ideal S2304x5376 .f32) (r : Fin 2304) (n : Fin 5376) :
    cols p (ix2 r n) = p (ix2 r ⟨Columns.stored n.val, Columns.stored_lt n.isLt⟩) := by
  have hn := n.isLt
  pointwise [cols]
  split_ifs
  all_goals
    refine congrArg (fun k => p (ix2 r k)) (Fin.ext ?_)
    dsimp only
    unfold Columns.stored
    split_ifs <;> omega

/-- The reference's result at an index: the product over the rows. -/
theorem ref_at (p : FVec Ideal S2304x5376 .bf16) (h : FVec Ideal S2304x1024 .bf16) (n : Fin 5376) (l : Fin 1024) :
    ref p h (ix2 n l) = ∑ x, p (ix2 x ⟨Columns.stored n.val, Columns.stored_lt n.isLt⟩) * h (ix2 x l) := by
  pointwise [ref]
  refine Finset.sum_congr rfl fun x _ => ?_
  rw [cols_at]
  pointwise

end Reference

section Kernel
open Cert.Kernel7Ideal Cert.Kernel7Ideal.Gen

variable (m : (ℓ : Loc nD τ sig) → Buf (Elt Ideal) ℓ)

/-- Every window's block index at every grid point. -/
theorem idx_val : ∀ t : Fin cfg0.N, win0_0.index t = ![0, t.val]
    ∧ win0_1.index t = ![0, 0]
    ∧ win0_2.index t = ![Columns.src t.val, 0]
    ∧ t.val < 21 ∧ Columns.src t.val < 21 :=
  (by decide +kernel : ∀ t : Fin grid0.N, _)

set_option maxHeartbeats 1600000 in
/-- What a grid point stores is the reference there. -/
theorem point (c : Dev nD) (t : Fin cfg0.N) (y) :
    k0_pay3 (k0_pay2 (k0_pay1 (F := Ideal)) (iblk m c 0 t) (iblk m c 1 t)) y
      = ref (m ((c : Thread nD τ).loc main_arg0)) (m ((c : Thread nD τ).loc main_arg1))
          (((cfg0.win 2).blk t).view.emb y) := by
  have hlt := (idx_val t).2.2.2.1
  have hs := (idx_val t).2.2.2.2
  idx_vars y
  have he : ((cfg0.win 2).blk t).view.emb (ix2 y0 y1)
      = ix2 (⟨Columns.src t.val * 256 + y0.val, by omega⟩ : Fin 5376) y1 := by
    blk_ext [idx_val t]
  rw [he]
  refine Eq.trans ?_ (ref_at _ _ _ _).symm
  have hc : (⟨Columns.stored (Columns.src t.val * 256 + y0.val), Columns.stored_lt (by omega)⟩ : Fin 5376)
      = ⟨t.val * 256 + y0.val, by omega⟩ := Fin.ext (Columns.stored_block hlt y0.isLt)
  dsimp only
  rw [hc]
  pointwise [k0_pay1, k0_pay2, k0_pay3]
  blk_point [iblk, V, idx_val t]

/-- The result after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp; rw [after0_2]
  unfold outsAt0
  frame_out
  exact point m c t y

end Kernel

/-- The kernel's results are the reference's. -/
theorem algebraic : Cert.algebraic_Kernel7Ideal_Reference7Ideal
    (hKernel7Ideal := Cert.Kernel7Ideal.Gen.facts) (hReference7Ideal := Cert.Reference7Ideal.Gen.facts) := by
  pair_intro
  · run_from Cert.Kernel7Ideal.Value.run_blocks m g
  · run_from Cert.Reference7Ideal.Value.run m' g'
    exact (final m c).symm

/-- The reference's program runs and leaves its arguments and every semaphore as they were. -/
theorem frame_reference : Cert.quiescent_Reference7Ideal (hReference7Ideal := Cert.Reference7Ideal.Gen.facts) :=
  fun m ρ _ => (θ_run Cert.Reference7Ideal.defs _ _).mono (fun r h => ⟨fun c => (h c).2,
      sem_eq_zero_of_no_sems (by decide) r.2⟩) (Cert.Reference7Ideal.Value.run (F := Ideal) m ρ)

end Cert.MmGin

end
-- ==== Proof.MmDhRun.lean ====
/- Hand-written: the run of `mm_dh`'s kernel with its result array named. -/
module

public import proofs.«01_k».proof.Proof.Gen.Kernel8Ideal.Frame
public import Idealize.ShloMosaic.Lib.Pipeline.Value

@[expose] public section

noncomputable section

namespace Cert.MmDh

open Cert.Kernel8Ideal Cert.Kernel8Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1) = (dats m 0 c).arrAt 4 cfg0.N :=
  (h c).1 4

/-- After the run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The run, with the result array named and the arguments unchanged. -/
theorem run_blocks : θ_run defs (onTc (τ := τ) (main (F := F))) ⟨m, fun _ => 0, ρ⟩ fun r => ∀ c : Dev nD,
      r.2.mem ((c : Thread nD τ).loc main_v1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post4 m r h c,
      kept_main_arg0 m r h c,
      kept_main_arg1 m r h c⟩)
    (run_main m ρ)

end Cert.MmDh

end
-- ==== Proof.MmDh.lean ====
/- Hand-written: the value of `mm_dh`, the gradient of the projection's input, against the plain gradient. -/
module

public import proofs.«01_k».proof.Defs
public import proofs.«01_k».proof.Proof.Gen.Reference8Ideal.Run
public import Idealize.ShloMosaic.Lib.Claim
public import Idealize.ShloMosaic.Lib.Pipeline.ValueKit
public import proofs.«01_k».proof.Proof.Columns
public import proofs.«01_k».proof.Proof.MmDhRun
public import Idealize.ShloMosaic.Lib.Pipeline.ReadBack

set_option maxRecDepth 16384

@[expose] public noncomputable section

open Idealize.ShloMosaic Idealize.ShloMosaic.TcCoe Idealize.SL.Sem
open Idealize.ShloMosaic.Pipeline (Dat)
open scoped BigOperators

namespace Cert.MmDh

section Reference
open Cert.Reference8Ideal Cert.Reference8Ideal.Gen

/-- The columns of the projection's gradient, from the order it is stored in to the order of the weights. -/
def cols (p : FVec Ideal S2304x5376 .f32) : FVec Ideal S2304x5376 .f32 :=
  (concatenate S2304x5376 1 [⟨S2304x512, ((extractStridedSlice S2304x512 ![0, 1536] p slices_S2304x5376_S2304x512_0_1536) : (⟨S2304x512, .f32⟩ : BufTy).Contents (Elt Ideal))⟩, ⟨S2304x512, ((extractStridedSlice S2304x512 ![0, 0] p slices_S2304x5376_S2304x512_0_0) : (⟨S2304x512, .f32⟩ : BufTy).Contents (Elt Ideal))⟩, ⟨S2304x512, ((extractStridedSlice S2304x512 ![0, 512] p slices_S2304x5376_S2304x512_0_512) : (⟨S2304x512, .f32⟩ : BufTy).Contents (Elt Ideal))⟩, ⟨S2304x256, ((extractStridedSlice S2304x256 ![0, 5120] p slices_S2304x5376_S2304x256_0_5120) : (⟨S2304x256, .f32⟩ : BufTy).Contents (Elt Ideal))⟩, ⟨S2304x512, ((extractStridedSlice S2304x512 ![0, 1024] p slices_S2304x5376_S2304x512_0_1024) : (⟨S2304x512, .f32⟩ : BufTy).Contents (Elt Ideal))⟩, ⟨S2304x512, ((extractStridedSlice S2304x512 ![0, 4096] p slices_S2304x5376_S2304x512_0_4096) : (⟨S2304x512, .f32⟩ : BufTy).Contents (Elt Ideal))⟩, ⟨S2304x512, ((extractStridedSlice S2304x512 ![0, 4608] p slices_S2304x5376_S2304x512_0_4608) : (⟨S2304x512, .f32⟩ : BufTy).Contents (Elt Ideal))⟩, ⟨S2304x2048, ((extractStridedSlice S2304x2048 ![0, 2048] p slices_S2304x5376_S2304x2048_0_2048) : (⟨S2304x2048, .f32⟩ : BufTy).Contents (Elt Ideal))⟩] concatenates_S2304x512_S2304x512_S2304x512_S2304x256_S2304x512_S2304x512_S2304x512_S2304x2048_S2304x5376_d1 : (⟨S2304x5376, .f32⟩ : BufTy).Contents (Elt Ideal))

/-- The reference's result over its two arguments. -/
def ref (p : FVec Ideal S2304x5376 .bf16) (w : FVec Ideal S1024x5376 .bf16) : FVec Ideal S2304x1024 .f32 :=
  Host.dotGeneral (φ₁ := .f32) (φ₂ := .f32) dot_S2304x5376_S1024x5376_S2304x1024_1_1_0_0_n_n none (cols (extf .f32 p bitsLt_bf16_f32)) (extf .f32 w bitsLt_bf16_f32)

/-- A column of the weights' order is the stored column. -/
theorem cols_at (p : FVec Ideal S2304x5376 .f32) (r : Fin 2304) (n : Fin 5376) :
    cols p (ix2 r n) = p (ix2 r ⟨Columns.stored n.val, Columns.stored_lt n.isLt⟩) := by
  have hn := n.isLt
  pointwise [cols]
  split_ifs
  all_goals
    refine congrArg (fun k => p (ix2 r k)) (Fin.ext ?_)
    dsimp only
    unfold Columns.stored
    split_ifs <;> omega

/-- The product of a stored column with the column of the weights it belongs to. -/
def term (p : FVec Ideal S2304x5376 .bf16) (w : FVec Ideal S1024x5376 .bf16) (r : Fin 2304) (l : Fin 1024) (x : Fin 5376) : EReal :=
  p (ix2 r x) * w (ix2 l ⟨Columns.natural x.val, Columns.natural_lt x.isLt⟩)

/-- The result at an index: the product over the columns, walked in the stored order. -/
theorem ref_at (p : FVec Ideal S2304x5376 .bf16) (w : FVec Ideal S1024x5376 .bf16) (r : Fin 2304) (l : Fin 1024) :
    ref p w (ix2 r l) = ∑ x, term p w r l x := by
  have h : ref p w (ix2 r l)
      = ∑ n : Fin 5376, cols (extf .f32 p bitsLt_bf16_f32) (ix2 r n) * w (ix2 l n) := by
    pointwise [ref]
  rw [h, ← Equiv.sum_comp Columns.order]
  refine Finset.sum_congr rfl fun x _ => ?_
  rw [cols_at]
  have hx : (⟨Columns.stored (Columns.order x).val, Columns.stored_lt (Columns.order x).isLt⟩ : Fin 5376) = x :=
    Fin.ext (Columns.stored_natural x.isLt)
  rw [hx]
  rfl

end Reference

section Kernel
open Cert.Kernel8Ideal Cert.Kernel8Ideal.Gen

variable (m : (ℓ : Loc nD τ sig) → Buf (Elt Ideal) ℓ)

/-- Every window's block index at every grid point. -/
theorem idx_val : ∀ t : Fin cfg0.N, win0_0.index t = ![0, t.val]
    ∧ win0_1.index t = ![Columns.src (3 * t.val), 0]
    ∧ win0_2.index t = ![Columns.src (3 * t.val + 1), 0]
    ∧ win0_3.index t = ![Columns.src (3 * t.val + 2), 0]
    ∧ win0_4.index t = ![0, 0]
    ∧ t.val < 7 :=
  (by decide +kernel : ∀ t : Fin grid0.N, _)

/-- What a point adds to the accumulator: three products of 256 columns. -/
def part (p : FVec Ideal S2304x768 .bf16) (u v w : FVec Ideal S256x1024 .bf16) (j : S2304x1024.Idx) : EReal :=
  (∑ k : Fin 256, p (ix2 (j 0) (⟨k.val, by omega⟩ : Fin 768)) * u (ix2 k (j 1))
    + ∑ k : Fin 256, p (ix2 (j 0) (⟨256 + k.val, by omega⟩ : Fin 768)) * v (ix2 k (j 1)))
    + ∑ k : Fin 256, p (ix2 (j 0) (⟨512 + k.val, by omega⟩ : Fin 768)) * w (ix2 k (j 1))

/-- The accumulator starts at zero. -/
theorem zero_at (j : S2304x1024.Idx) : k0_pay1 (F := Ideal) j = 0 := by
  pointwise [k0_pay1]

/-- The stored block is the accumulator. -/
theorem store_at (acc : FVec Ideal S2304x1024 .f32) (j : S2304x1024.Idx) : k0_pay3 acc j = acc j := by
  pointwise [k0_pay3]

/-- A column of the first product's tile. -/
theorem cut_0 (p : FVec Ideal S2304x768 .bf16) (r : Fin 2304) (k : Fin 256) :
    View.ld (Val := Elt Ideal) (S := S2304x768) (e' := .bf16) p (Rect.unit ![0, 0] ![2304, 256] inb_S2304x768_S2304x256_0_0) (ix2 r k)
      = p (ix2 r (⟨k.val, by omega⟩ : Fin 768)) := by
  refine congrArg p ?_
  blk_ext [] <;> refine (Rect.idx_unit_val _ _ _ _ _).trans ?_ <;> simp

/-- A column of the second product's tile. -/
theorem cut_1 (p : FVec Ideal S2304x768 .bf16) (r : Fin 2304) (k : Fin 256) :
    View.ld (Val := Elt Ideal) (S := S2304x768) (e' := .bf16) p (Rect.unit ![0, 256] ![2304, 256] inb_S2304x768_S2304x256_0_256) (ix2 r k)
      = p (ix2 r (⟨256 + k.val, by omega⟩ : Fin 768)) := by
  refine congrArg p ?_
  blk_ext [] <;> refine (Rect.idx_unit_val _ _ _ _ _).trans ?_ <;> simp

/-- A column of the third product's tile. -/
theorem cut_2 (p : FVec Ideal S2304x768 .bf16) (r : Fin 2304) (k : Fin 256) :
    View.ld (Val := Elt Ideal) (S := S2304x768) (e' := .bf16) p (Rect.unit ![0, 512] ![2304, 256] inb_S2304x768_S2304x256_0_512) (ix2 r k)
      = p (ix2 r (⟨512 + k.val, by omega⟩ : Fin 768)) := by
  refine congrArg p ?_
  blk_ext [] <;> refine (Rect.idx_unit_val _ _ _ _ _).trans ?_ <;> simp

/-- A step of the accumulator over the three tiles read from the point's block. -/
theorem sum_at (acc : FVec Ideal S2304x1024 .f32) (a b d : FVec Ideal S2304x256 .bf16)
    (u v w : FVec Ideal S256x1024 .bf16) (r : Fin 2304) (l : Fin 1024) :
    k0_pay2 acc a u b v d w (ix2 r l)
      = acc (ix2 r l) + ((∑ k : Fin 256, a (ix2 r k) * u (ix2 k l) + ∑ k : Fin 256, b (ix2 r k) * v (ix2 k l))
        + ∑ k : Fin 256, d (ix2 r k) * w (ix2 k l)) := by
  pointwise [k0_pay2]

/-- A step of the accumulator. -/
theorem step_at (acc : FVec Ideal S2304x1024 .f32) (p : FVec Ideal S2304x768 .bf16)
    (u v w : FVec Ideal S256x1024 .bf16) (j : S2304x1024.Idx) :
    k0_pay2 acc (View.ld (Val := Elt Ideal) (S := S2304x768) (e' := .bf16) p (Rect.unit ![0, 0] ![2304, 256] inb_S2304x768_S2304x256_0_0)) u
        (View.ld (Val := Elt Ideal) (S := S2304x768) (e' := .bf16) p (Rect.unit ![0, 256] ![2304, 256] inb_S2304x768_S2304x256_0_256)) v
        (View.ld (Val := Elt Ideal) (S := S2304x768) (e' := .bf16) p (Rect.unit ![0, 512] ![2304, 256] inb_S2304x768_S2304x256_0_512)) w j
      = acc j + part p u v w j := by
  idx_vars j
  refine (sum_at acc _ _ _ u v w j0 j1).trans (congrArg (acc (ix2 j0 j1) + ·) ?_)
  exact congrArg₂ (· + ·) (congrArg₂ (· + ·)
    (Finset.sum_congr rfl fun k _ => congrArg (fun x : EReal => x * u (ix2 k j1)) (cut_0 p j0 k))
    (Finset.sum_congr rfl fun k _ => congrArg (fun x : EReal => x * v (ix2 k j1)) (cut_1 p j0 k)))
    (Finset.sum_congr rfl fun k _ => congrArg (fun x : EReal => x * w (ix2 k j1)) (cut_2 p j0 k))

set_option maxHeartbeats 1600000 in
/-- The gradient's tile at a point. -/
theorem tile_0 (c : Dev nD) (t : Fin cfg0.N) (r : Fin 2304) (k : Fin 768) :
    (iblk m c 0 t : FVec Ideal S2304x768 .bf16) (ix2 r k)
      = (m ((c : Thread nD τ).loc main_arg0) : FVec Ideal S2304x5376 .bf16)
        (ix2 r (⟨t.val * 768 + k.val, by have := (idx_val t).2.2.2.2.2; omega⟩ : Fin 5376)) := by
  have := (idx_val t).2.2.2.2.2
  blk_point [iblk, V, idx_val t]

set_option maxHeartbeats 1600000 in
/-- The weights' first tile at a point. -/
theorem tile_1 (c : Dev nD) (t : Fin cfg0.N) (k : Fin 256) (l : Fin 1024) :
    (iblk m c 1 t : FVec Ideal S256x1024 .bf16) (ix2 k l)
      = (m ((c : Thread nD τ).loc main_arg1) : FVec Ideal S1024x5376 .bf16)
        (ix2 l (⟨Columns.src (3 * t.val) * 256 + k.val, by
          have := Columns.src_lt (j := 3 * t.val) (by have := (idx_val t).2.2.2.2.2; omega)
          omega⟩ : Fin 5376)) := by
  have h := Columns.src_lt (j := 3 * t.val) (by have := (idx_val t).2.2.2.2.2; omega)
  blk_point [iblk, V, idx_val t]

set_option maxHeartbeats 1600000 in
/-- The weights' second tile at a point. -/
theorem tile_2 (c : Dev nD) (t : Fin cfg0.N) (k : Fin 256) (l : Fin 1024) :
    (iblk m c 2 t : FVec Ideal S256x1024 .bf16) (ix2 k l)
      = (m ((c : Thread nD τ).loc main_arg1) : FVec Ideal S1024x5376 .bf16)
        (ix2 l (⟨Columns.src (3 * t.val + 1) * 256 + k.val, by
          have := Columns.src_lt (j := 3 * t.val + 1) (by have := (idx_val t).2.2.2.2.2; omega)
          omega⟩ : Fin 5376)) := by
  have h := Columns.src_lt (j := 3 * t.val + 1) (by have := (idx_val t).2.2.2.2.2; omega)
  blk_point [iblk, V, idx_val t]

set_option maxHeartbeats 1600000 in
/-- The weights' third tile at a point. -/
theorem tile_3 (c : Dev nD) (t : Fin cfg0.N) (k : Fin 256) (l : Fin 1024) :
    (iblk m c 3 t : FVec Ideal S256x1024 .bf16) (ix2 k l)
      = (m ((c : Thread nD τ).loc main_arg1) : FVec Ideal S1024x5376 .bf16)
        (ix2 l (⟨Columns.src (3 * t.val + 2) * 256 + k.val, by
          have := Columns.src_lt (j := 3 * t.val + 2) (by have := (idx_val t).2.2.2.2.2; omega)
          omega⟩ : Fin 5376)) := by
  have h := Columns.src_lt (j := 3 * t.val + 2) (by have := (idx_val t).2.2.2.2.2; omega)
  blk_point [iblk, V, idx_val t]

/-- After the last point the accumulator is the sum of the parts. -/
theorem acc_eq (c : Dev nD) (t : Fin cfg0.N) (ht : t.val % 7 = 6) (j : S2304x1024.Idx) :
    (outsAt0 m c t.val t.isLt).2 j
      = 0 + ∑ s : Fin 7, part (iblk m c 0 ⟨7 * (t.val / 7) + s.val, Pipeline.run_point_lt_of_flush t ht s⟩)
          (iblk m c 1 ⟨7 * (t.val / 7) + s.val, Pipeline.run_point_lt_of_flush t ht s⟩)
          (iblk m c 2 ⟨7 * (t.val / 7) + s.val, Pipeline.run_point_lt_of_flush t ht s⟩)
          (iblk m c 3 ⟨7 * (t.val / 7) + s.val, Pipeline.run_point_lt_of_flush t ht s⟩) j := by
  rw [Pipeline.eq_sum_fin_of_reset_step_apply_of_flush (fun n h => (outsAt0 m c n h).2) 7 (fun _ => 0)
    (fun t j => part (iblk m c 0 t) (iblk m c 1 t) (iblk m c 2 t) (iblk m c 3 t) j)
    (fun t h j => by
      rw [outsAt0_A m c t h (by omega)]; frame_out; rw [step_at, zero_at])
    (fun t h j => by
      by_cases h3 : t.val % 7 = 6
      · rw [outsAt0_C m c t h h3]; frame_out; rw [step_at, Idealize.ShloMosaic.read_unread_whole]
      · rw [outsAt0_B m c t h h3]; frame_out; rw [step_at, Idealize.ShloMosaic.read_unread_whole]) t ht j]

/-- The block written back is the accumulator. -/
theorem out_eq (c : Dev nD) (t : Fin cfg0.N) (ht : t.val % 7 = 6) (j : S2304x1024.Idx) :
    (outsAt0 m c t.val t.isLt).1 j = (outsAt0 m c t.val t.isLt).2 j := by
  rw [outsAt0_C m c t (by omega) ht]
  frame_out
  rw [store_at]

/-- A sum over the columns, in seven groups of three blocks of 256. -/
theorem sum_columns (f : Fin 5376 → EReal) : ∑ x, f x
    = ∑ s : Fin 7, ((∑ k : Fin 256, f ⟨s.val * 768 + k.val, by omega⟩
      + ∑ k : Fin 256, f ⟨s.val * 768 + (256 + k.val), by omega⟩)
      + ∑ k : Fin 256, f ⟨s.val * 768 + (512 + k.val), by omega⟩) := by
  rw [Fin.sum_univ_tiles 7 768 rfl f]
  refine Fin.sum_fin_congr fun s => ?_
  rw [Fin.sum_univ_tiles 3 256 rfl, Fin.sum_univ_three]
  refine congrArg₂ (· + ·) (congrArg₂ (· + ·) (Finset.sum_congr rfl fun k _ => ?_)
    (Finset.sum_congr rfl fun k _ => ?_)) (Finset.sum_congr rfl fun k _ => ?_)
  all_goals
    refine congrArg f (Fin.ext ?_)
    simp

/-- A part of the sum is the plain products of the point's columns. -/
theorem part_eq (c : Dev nD) (t : Fin cfg0.N) (s : ℕ) (hs : t.val = s) (h7 : s < 7) (r : Fin 2304) (l : Fin 1024) :
    part (iblk m c 0 t) (iblk m c 1 t) (iblk m c 2 t) (iblk m c 3 t) (ix2 r l)
      = (∑ k : Fin 256, term (m ((c : Thread nD τ).loc main_arg0)) (m ((c : Thread nD τ).loc main_arg1)) r l
          ⟨s * 768 + k.val, by omega⟩
        + ∑ k : Fin 256, term (m ((c : Thread nD τ).loc main_arg0)) (m ((c : Thread nD τ).loc main_arg1)) r l
          ⟨s * 768 + (256 + k.val), by omega⟩)
        + ∑ k : Fin 256, term (m ((c : Thread nD τ).loc main_arg0)) (m ((c : Thread nD τ).loc main_arg1)) r l
          ⟨s * 768 + (512 + k.val), by omega⟩ := by
  subst hs
  have n0 (k : Fin 256) : Columns.natural (t.val * 768 + k.val) = Columns.src (3 * t.val) * 256 + k.val := by
    rw [show t.val * 768 + k.val = 3 * t.val * 256 + k.val by omega, Columns.natural_block k.isLt]
  have n1 (k : Fin 256) : Columns.natural (t.val * 768 + (256 + k.val)) = Columns.src (3 * t.val + 1) * 256 + k.val := by
    rw [show t.val * 768 + (256 + k.val) = (3 * t.val + 1) * 256 + k.val by omega, Columns.natural_block k.isLt]
  have n2 (k : Fin 256) : Columns.natural (t.val * 768 + (512 + k.val)) = Columns.src (3 * t.val + 2) * 256 + k.val := by
    rw [show t.val * 768 + (512 + k.val) = (3 * t.val + 2) * 256 + k.val by omega, Columns.natural_block k.isLt]
  unfold part term
  refine congrArg₂ (· + ·) (congrArg₂ (· + ·) (Finset.sum_congr rfl fun k _ => ?_)
    (Finset.sum_congr rfl fun k _ => ?_)) (Finset.sum_congr rfl fun k _ => ?_)
  · refine (congrArg₂ (fun x y : EReal => x * y) (tile_0 m c t r _) (tile_1 m c t k l)).trans ?_
    exact congrArg₂ (fun x y : EReal => x * y) rfl (congrArg _ (congrArg₂ ix2 rfl (Fin.ext (n0 k).symm)))
  · refine (congrArg₂ (fun x y : EReal => x * y) (tile_0 m c t r _) (tile_2 m c t k l)).trans ?_
    exact congrArg₂ (fun x y : EReal => x * y) rfl (congrArg _ (congrArg₂ ix2 rfl (Fin.ext (n1 k).symm)))
  · refine (congrArg₂ (fun x y : EReal => x * y) (tile_0 m c t r _) (tile_3 m c t k l)).trans ?_
    exact congrArg₂ (fun x y : EReal => x * y) rfl (congrArg _ (congrArg₂ ix2 rfl (Fin.ext (n2 k).symm)))

/-- The result after the run. -/
theorem final (c : Dev nD) : (dats m 0 c).arrAt 4 (cfgs 0).N
    = ref (m ((c : Thread nD τ).loc main_arg0)) (m ((c : Thread nD τ).loc main_arg1)) := by
  refine (dats m 0 c).arrAt_eq_of_covers 4 _ (by decide +kernel) fun t hf y => ?_
  have ht := (flush0_4 t).mp hf
  have hlt := (idx_val t).2.2.2.2.2
  blk_simp; rw [after0_4, out_eq m c t ht, acc_eq m c t ht, zero_add]
  idx_vars y
  have he : ((cfg0.win 4).blk t).view.emb (ix2 y0 y1) = ix2 y0 y1 := by
    blk_ext [idx_val t]
  refine Eq.trans ?_ (Eq.trans ((ref_at _ _ _ _).trans (sum_columns _)).symm (congrArg _ he.symm))
  refine Fin.sum_fin_congr fun s => ?_
  exact part_eq m c _ s.val (by show 7 * (t.val / 7) + s.val = s.val; omega) s.isLt y0 y1

end Kernel

/-- The kernel's results are the reference's. -/
theorem algebraic : Cert.algebraic_Kernel8Ideal_Reference8Ideal
    (hKernel8Ideal := Cert.Kernel8Ideal.Gen.facts) (hReference8Ideal := Cert.Reference8Ideal.Gen.facts) := by
  pair_intro
  · run_from Cert.MmDh.run_blocks m g
  · run_from Cert.Reference8Ideal.Value.run m' g'
    exact (final m c).symm

/-- The reference's program runs and leaves its arguments and every semaphore as they were. -/
theorem frame_reference : Cert.quiescent_Reference8Ideal (hReference8Ideal := Cert.Reference8Ideal.Gen.facts) :=
  fun m ρ _ => (θ_run Cert.Reference8Ideal.defs _ _).mono (fun r h => ⟨fun c => (h c).2,
      sem_eq_zero_of_no_sems (by decide) r.2⟩) (Cert.Reference8Ideal.Value.run (F := Ideal) m ρ)

end Cert.MmDh

end
-- ==== Proof.MmIn.lean ====
/- Hand-written: the value of `mm_in`, the projection, against the plain product. -/
module

public import proofs.«01_k».proof.Defs
public import proofs.«01_k».proof.Proof.Gen.Kernel9Ideal.Value
public import proofs.«01_k».proof.Proof.Gen.Reference9Ideal.Run
public import Idealize.ShloMosaic.Lib.Claim
public import Idealize.ShloMosaic.Lib.Pipeline.ValueKit
public import proofs.«01_k».proof.Proof.Columns

set_option maxRecDepth 16384

@[expose] public noncomputable section

open Idealize.ShloMosaic Idealize.ShloMosaic.TcCoe Idealize.SL.Sem
open Idealize.ShloMosaic.Pipeline (Dat)
open scoped BigOperators

namespace Cert.MmIn

section Reference
open Cert.Reference9Ideal Cert.Reference9Ideal.Gen

/-- The projection's sections in the order they are stored in. -/
def cols (p : FVec Ideal S2304x5376 .f32) : FVec Ideal S2304x5376 .f32 :=
  (concatenate S2304x5376 1 [⟨S2304x512, ((extractStridedSlice S2304x512 ![0, 512] p slices_S2304x5376_S2304x512_0_512) : (⟨S2304x512, .f32⟩ : BufTy).Contents (Elt Ideal))⟩, ⟨S2304x512, ((extractStridedSlice S2304x512 ![0, 1024] p slices_S2304x5376_S2304x512_0_1024) : (⟨S2304x512, .f32⟩ : BufTy).Contents (Elt Ideal))⟩, ⟨S2304x512, ((extractStridedSlice S2304x512 ![0, 1792] p slices_S2304x5376_S2304x512_0_1792) : (⟨S2304x512, .f32⟩ : BufTy).Contents (Elt Ideal))⟩, ⟨S2304x512, ((extractStridedSlice S2304x512 ![0, 0] p slices_S2304x5376_S2304x512_0_0) : (⟨S2304x512, .f32⟩ : BufTy).Contents (Elt Ideal))⟩, ⟨S2304x2048, ((extractStridedSlice S2304x2048 ![0, 3328] p slices_S2304x5376_S2304x2048_0_3328) : (⟨S2304x2048, .f32⟩ : BufTy).Contents (Elt Ideal))⟩, ⟨S2304x512, ((extractStridedSlice S2304x512 ![0, 2304] p slices_S2304x5376_S2304x512_0_2304) : (⟨S2304x512, .f32⟩ : BufTy).Contents (Elt Ideal))⟩, ⟨S2304x512, ((extractStridedSlice S2304x512 ![0, 2816] p slices_S2304x5376_S2304x512_0_2816) : (⟨S2304x512, .f32⟩ : BufTy).Contents (Elt Ideal))⟩, ⟨S2304x256, ((extractStridedSlice S2304x256 ![0, 1536] p slices_S2304x5376_S2304x256_0_1536) : (⟨S2304x256, .f32⟩ : BufTy).Contents (Elt Ideal))⟩] concatenates_S2304x512_S2304x512_S2304x512_S2304x512_S2304x2048_S2304x512_S2304x512_S2304x256_S2304x5376_d1 : (⟨S2304x5376, .f32⟩ : BufTy).Contents (Elt Ideal))

/-- The reference's result over its two arguments. -/
def ref (h : FVec Ideal S2304x1024 .bf16) (w : FVec Ideal S1024x5376 .bf16) : FVec Ideal S2304x5376 .f32 :=
  cols (Host.dotGeneral (φ₁ := .f32) (φ₂ := .f32) dot_S2304x1024_S1024x5376_S2304x5376_1_0_0_1_n_n none (extf .f32 h bitsLt_bf16_f32) (extf .f32 w bitsLt_bf16_f32))

/-- A stored column is the column of the weights' order. -/
theorem cols_at (p : FVec Ideal S2304x5376 .f32) (r : Fin 2304) (n : Fin 5376) :
    cols p (ix2 r n) = p (ix2 r ⟨Columns.natural n.val, Columns.natural_lt n.isLt⟩) := by
  have hn := n.isLt
  pointwise [cols]
  split_ifs
  all_goals
    refine congrArg (fun k => p (ix2 r k)) (Fin.ext ?_)
    dsimp only
    unfold Columns.natural Columns.src
    split_ifs <;> omega

/-- The reference's result at an index: the product over the features. -/
theorem ref_at (h : FVec Ideal S2304x1024 .bf16) (w : FVec Ideal S1024x5376 .bf16) (r : Fin 2304) (n : Fin 5376) :
    ref h w (ix2 r n) = ∑ x, h (ix2 r x) * w (ix2 x ⟨Columns.natural n.val, Columns.natural_lt n.isLt⟩) := by
  unfold ref
  rw [cols_at]
  pointwise

end Reference

section Kernel
open Cert.Kernel9Ideal Cert.Kernel9Ideal.Gen

variable (m : (ℓ : Loc nD τ sig) → Buf (Elt Ideal) ℓ)

/-- Every window's block index at every grid point. -/
theorem idx_val : ∀ t : Fin cfg0.N, win0_0.index t = ![0, 0]
    ∧ win0_1.index t = ![Columns.src t.val, 0]
    ∧ win0_2.index t = ![0, t.val]
    ∧ t.val < 21 ∧ Columns.src t.val < 21 :=
  (by decide +kernel : ∀ t : Fin grid0.N, _)

set_option maxHeartbeats 1600000 in
/-- What a grid point stores is the reference there. -/
theorem point (c : Dev nD) (t : Fin cfg0.N) (y) :
    k0_pay1 (iblk m c 0 t) (iblk m c 1 t) y
      = ref (m ((c : Thread nD τ).loc main_arg0)) (m ((c : Thread nD τ).loc main_arg1))
          (((cfg0.win 2).blk t).view.emb y) := by
  have hlt := (idx_val t).2.2.2.1
  have hs := (idx_val t).2.2.2.2
  idx_vars y
  have he : ((cfg0.win 2).blk t).view.emb (ix2 y0 y1)
      = ix2 y0 (⟨t.val * 256 + y1.val, by omega⟩ : Fin 5376) := by
    blk_ext [idx_val t]
  rw [he]
  refine Eq.trans ?_ (ref_at _ _ _ _).symm
  have hc : (⟨Columns.natural (t.val * 256 + y1.val), Columns.natural_lt (by omega)⟩ : Fin 5376)
      = ⟨Columns.src t.val * 256 + y1.val, by omega⟩ := Fin.ext (Columns.natural_block y1.isLt)
  dsimp only
  rw [hc]
  pointwise [k0_pay1]
  blk_point [iblk, V, idx_val t]

/-- The result after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Kernel

/-- The kernel's results are the reference's. -/
theorem algebraic : Cert.algebraic_Kernel9Ideal_Reference9Ideal
    (hKernel9Ideal := Cert.Kernel9Ideal.Gen.facts) (hReference9Ideal := Cert.Reference9Ideal.Gen.facts) := by
  pair_intro
  · run_from Cert.Kernel9Ideal.Value.run_blocks m g
  · run_from Cert.Reference9Ideal.Value.run m' g'
    exact (final m c).symm

/-- The reference's program runs and leaves its arguments and every semaphore as they were. -/
theorem frame_reference : Cert.quiescent_Reference9Ideal (hReference9Ideal := Cert.Reference9Ideal.Gen.facts) :=
  fun m ρ _ => (θ_run Cert.Reference9Ideal.defs _ _).mono (fun r h => ⟨fun c => (h c).2,
      sem_eq_zero_of_no_sems (by decide) r.2⟩) (Cert.Reference9Ideal.Value.run (F := Ideal) m ρ)

end Cert.MmIn

end
-- ==== Proof.BranchBwd.lean ====
/- Hand-written: the values of `branch_bwd`, the gradients of the two branch projections, against the plain gradients. -/
module

public import proofs.«01_k».proof.Defs
public import proofs.«01_k».proof.Proof.Gen.Kernel10Ideal.Value
public import proofs.«01_k».proof.Proof.Gen.Reference10Ideal.Run
public import Idealize.ShloMosaic.Lib.Claim
public import Idealize.ShloMosaic.Lib.Pipeline.ValueKit
public import Idealize.ShloMosaic.Lib.Pipeline.ReadBack

set_option maxRecDepth 16384

@[expose] public noncomputable section

open Idealize.ShloMosaic Idealize.ShloMosaic.TcCoe Idealize.SL.Sem
open Idealize.ShloMosaic.Pipeline (Dat)
open scoped BigOperators

namespace Cert.BranchBwd

section Reference
open Cert.Reference10Ideal Cert.Reference10Ideal.Gen

/-- The gradient of one branch's input. -/
def refY (d : FVec Ideal S2048x1024 .bf16) (w : FVec Ideal S512x1024 .bf16) : FVec Ideal S2048x512 .f32 :=
  Host.dotGeneral (φ₁ := .f32) (φ₂ := .f32) dot_S2048x1024_S512x1024_S2048x512_1_1_0_0_n_n none (extf .f32 d bitsLt_bf16_f32) (extf .f32 w bitsLt_bf16_f32)

/-- The gradient of one branch's weights, in four blocks of 256 columns. -/
def refW (d : FVec Ideal S2048x1024 .bf16) (y : FVec Ideal S2048x512 .bf16) : FVec Ideal S4x512x256 .bf16 :=
  truncf .bf16 (transpose S4x512x256 [1, 0, 2] (shapeCast _ (transpose S512x1024 [1, 0] (Host.dotGeneral (φ₁ := .f32) (φ₂ := .f32) dot_S2048x1024_S2048x512_S1024x512_0_0_1_1_n_n none (extf .f32 d bitsLt_bf16_f32) (extf .f32 y bitsLt_bf16_f32)) transposes_S1024x512_S512x1024_1_0) shapeCasts_S512x1024_S512x4x256) transposes_S512x4x256_S4x512x256_1_0_2) bitsLt_bf16_f32

/-- The input's gradient at an index: the product over the columns, in four blocks of 256. -/
theorem refY_at (d : FVec Ideal S2048x1024 .bf16) (w : FVec Ideal S512x1024 .bf16) (x : Fin 2048) (r : Fin 512) :
    refY d w (ix2 x r) = ∑ s : Fin 4, ∑ k : Fin 256, d (ix2 x (⟨s.val * 256 + k.val, by omega⟩ : Fin 1024))
      * w (ix2 r (⟨s.val * 256 + k.val, by omega⟩ : Fin 1024)) := by
  pointwise [refY]
  exact Fin.sum_univ_tiles 4 256 rfl fun x' : Fin 1024 => d (ix2 x x') * w (ix2 r x')

/-- The weights' gradient at an index: the product over the rows, in two tiles of 1024. -/
theorem refW_at (d : FVec Ideal S2048x1024 .bf16) (y : FVec Ideal S2048x512 .bf16) (q : Fin 4) (r : Fin 512) (l : Fin 256) :
    refW d y (ix3 q r l) = ∑ s : Fin 2, ∑ x : Fin 1024, d (ix2 (⟨s.val * 1024 + x.val, by omega⟩ : Fin 2048) (⟨q.val * 256 + l.val, by omega⟩ : Fin 1024))
      * y (ix2 (⟨s.val * 1024 + x.val, by omega⟩ : Fin 2048) r) := by
  pointwise [refW]
  exact Fin.sum_univ_tiles 2 1024 rfl fun x : Fin 2048 =>
    d (ix2 x (⟨q.val * 256 + l.val, by omega⟩ : Fin 1024)) * y (ix2 x r)

end Reference

section Kernel
open Cert.Kernel10Ideal Cert.Kernel10Ideal.Gen

variable (m : (ℓ : Loc nD τ sig) → Buf (Elt Ideal) ℓ)

/-- What a point adds to the weights' gradient. -/
def part (d : FVec Ideal S1024x1024 .bf16) (y : FVec Ideal S1024x512 .bf16) (q : Fin 4) (r : Fin 512) (l : Fin 256) : EReal :=
  ∑ x : Fin 1024, d (ix2 x (⟨q.val * 256 + l.val, by omega⟩ : Fin 1024)) * y (ix2 x r)

/-- The product of one side's rows with one block of 256 columns, added to what the accumulator held. -/
def term (y : FVec Ideal S1024x512 .bf16) (d : FVec Ideal S1024x256 .bf16) (a : FVec Ideal S1x512x256 .f32) (r : Fin 512) (l : Fin 256) : EReal :=
  a (ix3 (0 : Fin 1) r l) + ∑ x : Fin 1024, d (ix2 x l) * y (ix2 x r)

/-- A block stored into an accumulator. -/
theorem pay5_at (y : FVec Ideal S1024x512 .bf16) (d : FVec Ideal S1024x256 .bf16) (a : FVec Ideal S1x512x256 .f32) (r : Fin 512) (l : Fin 256) :
    k0_pay5 (F := Ideal) y d a (ix3 (0 : Fin 1) r l) = term y d a r l := by
  unfold term
  pointwise [k0_pay5]
  exact congrArg (a (ix3 (0 : Fin 1) r l) + ·) (Finset.sum_congr rfl fun x _ => mul_comm _ _)

/-- A block stored into an accumulator. -/
theorem pay8_at (y : FVec Ideal S1024x512 .bf16) (d : FVec Ideal S1024x256 .bf16) (a : FVec Ideal S1x512x256 .f32) (r : Fin 512) (l : Fin 256) :
    k0_pay8 (F := Ideal) (k0_pay7 (F := Ideal) y d a) (ix3 (0 : Fin 1) r l) = term y d a r l := by
  unfold term
  pointwise [k0_pay7, k0_pay8]
  exact congrArg (a (ix3 (0 : Fin 1) r l) + ·) (Finset.sum_congr rfl fun x _ => mul_comm _ _)

/-- A block stored into an accumulator. -/
theorem pay9_at (y : FVec Ideal S1024x512 .bf16) (d : FVec Ideal S1024x256 .bf16) (a : FVec Ideal S1x512x256 .f32) (r : Fin 512) (l : Fin 256) :
    k0_pay9 (F := Ideal) y d a (ix3 (0 : Fin 1) r l) = term y d a r l := by
  unfold term
  pointwise [k0_pay9]
  exact congrArg (a (ix3 (0 : Fin 1) r l) + ·) (Finset.sum_congr rfl fun x _ => mul_comm _ _)

/-- A block stored into an accumulator. -/
theorem pay11_at (y : FVec Ideal S1024x512 .bf16) (d : FVec Ideal S1024x256 .bf16) (a : FVec Ideal S1x512x256 .f32) (r : Fin 512) (l : Fin 256) :
    k0_pay11 (F := Ideal) y d a (ix3 (0 : Fin 1) r l) = term y d a r l := by
  unfold term
  pointwise [k0_pay11]
  exact congrArg (a (ix3 (0 : Fin 1) r l) + ·) (Finset.sum_congr rfl fun x _ => mul_comm _ _)

/-- A block stored into an accumulator. -/
theorem pay13_at (y : FVec Ideal S1024x512 .bf16) (d : FVec Ideal S1024x256 .bf16) (a : FVec Ideal S1x512x256 .f32) (r : Fin 512) (l : Fin 256) :
    k0_pay13 (F := Ideal) y d a (ix3 (0 : Fin 1) r l) = term y d a r l := by
  unfold term
  pointwise [k0_pay13]
  exact congrArg (a (ix3 (0 : Fin 1) r l) + ·) (Finset.sum_congr rfl fun x _ => mul_comm _ _)

/-- A block stored into an accumulator. -/
theorem pay15_at (y : FVec Ideal S1024x512 .bf16) (d : FVec Ideal S1024x256 .bf16) (a : FVec Ideal S1x512x256 .f32) (r : Fin 512) (l : Fin 256) :
    k0_pay15 (F := Ideal) y d a (ix3 (0 : Fin 1) r l) = term y d a r l := by
  unfold term
  pointwise [k0_pay15]
  exact congrArg (a (ix3 (0 : Fin 1) r l) + ·) (Finset.sum_congr rfl fun x _ => mul_comm _ _)

/-- A block stored into an accumulator. -/
theorem pay16_at (y : FVec Ideal S1024x512 .bf16) (d : FVec Ideal S1024x256 .bf16) (a : FVec Ideal S1x512x256 .f32) (r : Fin 512) (l : Fin 256) :
    k0_pay16 (F := Ideal) y d a (ix3 (0 : Fin 1) r l) = term y d a r l := by
  unfold term
  pointwise [k0_pay16]
  exact congrArg (a (ix3 (0 : Fin 1) r l) + ·) (Finset.sum_congr rfl fun x _ => mul_comm _ _)

/-- A block stored into an accumulator. -/
theorem pay17_at (y : FVec Ideal S1024x512 .bf16) (d : FVec Ideal S1024x256 .bf16) (a : FVec Ideal S1x512x256 .f32) (r : Fin 512) (l : Fin 256) :
    k0_pay17 (F := Ideal) y d a (ix3 (0 : Fin 1) r l) = term y d a r l := by
  unfold term
  pointwise [k0_pay17]
  exact congrArg (a (ix3 (0 : Fin 1) r l) + ·) (Finset.sum_congr rfl fun x _ => mul_comm _ _)

/-- The input's gradient at a point: four products of 256 columns. -/
theorem pay12_at (a0 a1 a2 a3 : FVec Ideal S1024x256 .bf16) (w0 w1 w2 w3 : FVec Ideal S1x512x256 .bf16) (x : Fin 1024) (r : Fin 512) :
    (k0_pay12 (F := Ideal) (k0_pay10 (F := Ideal) (k0_pay6 (F := Ideal) a0 w0 a1 w1) a2 w2 a3 w3) (ix2 x r) : EReal)
      = ((∑ k, a0 (ix2 x k) * w0 (ix3 (0 : Fin 1) r k) + ∑ k, a1 (ix2 x k) * w1 (ix3 (0 : Fin 1) r k))
          + ∑ k, a2 (ix2 x k) * w2 (ix3 (0 : Fin 1) r k)) + ∑ k, a3 (ix2 x k) * w3 (ix3 (0 : Fin 1) r k) := by
  pointwise [k0_pay10, k0_pay12, k0_pay6]

/-- The input's gradient at a point: four products of 256 columns. -/
theorem pay18_at (a0 a1 a2 a3 : FVec Ideal S1024x256 .bf16) (w0 w1 w2 w3 : FVec Ideal S1x512x256 .bf16) (x : Fin 1024) (r : Fin 512) :
    (k0_pay18 (F := Ideal) (k0_pay14 (F := Ideal) a0 w0 a1 w1) a2 w2 a3 w3 (ix2 x r) : EReal)
      = ((∑ k, a0 (ix2 x k) * w0 (ix3 (0 : Fin 1) r k) + ∑ k, a1 (ix2 x k) * w1 (ix3 (0 : Fin 1) r k))
          + ∑ k, a2 (ix2 x k) * w2 (ix3 (0 : Fin 1) r k)) + ∑ k, a3 (ix2 x k) * w3 (ix3 (0 : Fin 1) r k) := by
  pointwise [k0_pay14, k0_pay18]

/-- The accumulators start at zero. -/
theorem zero_h (j : S4x512x256.Idx) : k0_pay3 (F := Ideal) j = 0 := by
  pointwise [k0_pay3]

/-- The accumulators start at zero. -/
theorem zero_a (j : S4x512x256.Idx) : k0_pay4 (F := Ideal) j = 0 := by
  pointwise [k0_pay4]

/-- The result stored is the accumulator. -/
theorem store_h (a : FVec Ideal S4x512x256 .f32) (j : S4x512x256.Idx) : (k0_pay1 (F := Ideal) a j : EReal) = a j := by
  pointwise [k0_pay1]

/-- The result stored is the accumulator. -/
theorem store_a (a : FVec Ideal S4x512x256 .f32) (j : S4x512x256.Idx) : (k0_pay2 (F := Ideal) a j : EReal) = a j := by
  pointwise [k0_pay2]

/-- A column of the block 0 of 256 columns. -/
theorem cut_0 (d : FVec Ideal S1024x1024 .bf16) (x : Fin 1024) (k : Fin 256) :
    View.ld (Val := Elt Ideal) (S := S1024x1024) (e' := .bf16) d (Rect.unit ![0, 0] ![1024, 256] inb_S1024x1024_S1024x256_0_0) (ix2 x k)
      = d (ix2 x (⟨0 * 256 + k.val, by omega⟩ : Fin 1024)) := by
  refine congrArg d ?_
  blk_ext [] <;> refine (Rect.idx_unit_val _ _ _ _ _).trans ?_ <;> simp

/-- A block of the weights. -/
theorem wcut_0 (w : FVec Ideal S4x512x256 .bf16) (r : Fin 512) (l : Fin 256) :
    View.ld (Val := Elt Ideal) (S := S4x512x256) (e' := .bf16) w (Rect.unit ![0, 0, 0] ![1, 512, 256] inb_S4x512x256_S1x512x256_0_0_0) (ix3 (0 : Fin 1) r l)
      = w (ix3 (0 : Fin 4) r l) := by
  refine congrArg w ?_
  blk_ext [] <;> refine (Rect.idx_unit_val _ _ _ _ _).trans ?_ <;> simp

/-- A block of an accumulator. -/
theorem acut_0 (w : FVec Ideal S4x512x256 .f32) (r : Fin 512) (l : Fin 256) :
    View.ld (Val := Elt Ideal) (S := S4x512x256) (e' := .f32) w (Rect.unit ![0, 0, 0] ![1, 512, 256] inb_S4x512x256_S1x512x256_0_0_0) (ix3 (0 : Fin 1) r l)
      = w (ix3 (0 : Fin 4) r l) := by
  refine congrArg w ?_
  blk_ext [] <;> refine (Rect.idx_unit_val _ _ _ _ _).trans ?_ <;> simp

/-- A column of the block 1 of 256 columns. -/
theorem cut_1 (d : FVec Ideal S1024x1024 .bf16) (x : Fin 1024) (k : Fin 256) :
    View.ld (Val := Elt Ideal) (S := S1024x1024) (e' := .bf16) d (Rect.unit ![0, 256] ![1024, 256] inb_S1024x1024_S1024x256_0_256) (ix2 x k)
      = d (ix2 x (⟨1 * 256 + k.val, by omega⟩ : Fin 1024)) := by
  refine congrArg d ?_
  blk_ext [] <;> refine (Rect.idx_unit_val _ _ _ _ _).trans ?_ <;> simp

/-- A block of the weights. -/
theorem wcut_1 (w : FVec Ideal S4x512x256 .bf16) (r : Fin 512) (l : Fin 256) :
    View.ld (Val := Elt Ideal) (S := S4x512x256) (e' := .bf16) w (Rect.unit ![1, 0, 0] ![1, 512, 256] inb_S4x512x256_S1x512x256_1_0_0) (ix3 (0 : Fin 1) r l)
      = w (ix3 (1 : Fin 4) r l) := by
  refine congrArg w ?_
  blk_ext [] <;> refine (Rect.idx_unit_val _ _ _ _ _).trans ?_ <;> simp

/-- A block of an accumulator. -/
theorem acut_1 (w : FVec Ideal S4x512x256 .f32) (r : Fin 512) (l : Fin 256) :
    View.ld (Val := Elt Ideal) (S := S4x512x256) (e' := .f32) w (Rect.unit ![1, 0, 0] ![1, 512, 256] inb_S4x512x256_S1x512x256_1_0_0) (ix3 (0 : Fin 1) r l)
      = w (ix3 (1 : Fin 4) r l) := by
  refine congrArg w ?_
  blk_ext [] <;> refine (Rect.idx_unit_val _ _ _ _ _).trans ?_ <;> simp

/-- A column of the block 2 of 256 columns. -/
theorem cut_2 (d : FVec Ideal S1024x1024 .bf16) (x : Fin 1024) (k : Fin 256) :
    View.ld (Val := Elt Ideal) (S := S1024x1024) (e' := .bf16) d (Rect.unit ![0, 512] ![1024, 256] inb_S1024x1024_S1024x256_0_512) (ix2 x k)
      = d (ix2 x (⟨2 * 256 + k.val, by omega⟩ : Fin 1024)) := by
  refine congrArg d ?_
  blk_ext [] <;> refine (Rect.idx_unit_val _ _ _ _ _).trans ?_ <;> simp

/-- A block of the weights. -/
theorem wcut_2 (w : FVec Ideal S4x512x256 .bf16) (r : Fin 512) (l : Fin 256) :
    View.ld (Val := Elt Ideal) (S := S4x512x256) (e' := .bf16) w (Rect.unit ![2, 0, 0] ![1, 512, 256] inb_S4x512x256_S1x512x256_2_0_0) (ix3 (0 : Fin 1) r l)
      = w (ix3 (2 : Fin 4) r l) := by
  refine congrArg w ?_
  blk_ext [] <;> refine (Rect.idx_unit_val _ _ _ _ _).trans ?_ <;> simp

/-- A block of an accumulator. -/
theorem acut_2 (w : FVec Ideal S4x512x256 .f32) (r : Fin 512) (l : Fin 256) :
    View.ld (Val := Elt Ideal) (S := S4x512x256) (e' := .f32) w (Rect.unit ![2, 0, 0] ![1, 512, 256] inb_S4x512x256_S1x512x256_2_0_0) (ix3 (0 : Fin 1) r l)
      = w (ix3 (2 : Fin 4) r l) := by
  refine congrArg w ?_
  blk_ext [] <;> refine (Rect.idx_unit_val _ _ _ _ _).trans ?_ <;> simp

/-- A column of the block 3 of 256 columns. -/
theorem cut_3 (d : FVec Ideal S1024x1024 .bf16) (x : Fin 1024) (k : Fin 256) :
    View.ld (Val := Elt Ideal) (S := S1024x1024) (e' := .bf16) d (Rect.unit ![0, 768] ![1024, 256] inb_S1024x1024_S1024x256_0_768) (ix2 x k)
      = d (ix2 x (⟨3 * 256 + k.val, by omega⟩ : Fin 1024)) := by
  refine congrArg d ?_
  blk_ext [] <;> refine (Rect.idx_unit_val _ _ _ _ _).trans ?_ <;> simp

/-- A block of the weights. -/
theorem wcut_3 (w : FVec Ideal S4x512x256 .bf16) (r : Fin 512) (l : Fin 256) :
    View.ld (Val := Elt Ideal) (S := S4x512x256) (e' := .bf16) w (Rect.unit ![3, 0, 0] ![1, 512, 256] inb_S4x512x256_S1x512x256_3_0_0) (ix3 (0 : Fin 1) r l)
      = w (ix3 (3 : Fin 4) r l) := by
  refine congrArg w ?_
  blk_ext [] <;> refine (Rect.idx_unit_val _ _ _ _ _).trans ?_ <;> simp

/-- A block of an accumulator. -/
theorem acut_3 (w : FVec Ideal S4x512x256 .f32) (r : Fin 512) (l : Fin 256) :
    View.ld (Val := Elt Ideal) (S := S4x512x256) (e' := .f32) w (Rect.unit ![3, 0, 0] ![1, 512, 256] inb_S4x512x256_S1x512x256_3_0_0) (ix3 (0 : Fin 1) r l)
      = w (ix3 (3 : Fin 4) r l) := by
  refine congrArg w ?_
  blk_ext [] <;> refine (Rect.idx_unit_val _ _ _ _ _).trans ?_ <;> simp

/-- Four blocks stored over anything leave each block's values. -/
theorem blocks_at (P0 P1 P2 P3 : FVec Ideal S1x512x256 .f32) (L : List (View.Piece (Elt Ideal) S4x512x256 .f32))
    (G : Fin 4 → Fin 512 → Fin 256 → EReal) (h0 : ∀ r l, P0 (ix3 (0 : Fin 1) r l) = G 0 r l) (h1 : ∀ r l, P1 (ix3 (0 : Fin 1) r l) = G 1 r l)
    (h2 : ∀ r l, P2 (ix3 (0 : Fin 1) r l) = G 2 r l) (h3 : ∀ r l, P3 (ix3 (0 : Fin 1) r l) = G 3 r l) (q : Fin 4) (r : Fin 512) (l : Fin 256) :
    View.canon (Val := Elt Ideal) (s := S4x512x256) (e := .f32) ([⟨Rect.unit (s := S4x512x256) ![3, 0, 0] ![1, 512, 256] inb_S4x512x256_S1x512x256_3_0_0, P3⟩, ⟨Rect.unit (s := S4x512x256) ![2, 0, 0] ![1, 512, 256] inb_S4x512x256_S1x512x256_2_0_0, P2⟩, ⟨Rect.unit (s := S4x512x256) ![1, 0, 0] ![1, 512, 256] inb_S4x512x256_S1x512x256_1_0_0, P1⟩, ⟨Rect.unit (s := S4x512x256) ![0, 0, 0] ![1, 512, 256] inb_S4x512x256_S1x512x256_0_0_0, P0⟩] ++ L) (ix3 q r l) = G q r l := by
  refine View.canon_append_of_piecesOf (Val := Elt Ideal) (s := S4x512x256) (e := .f32) (fun j => G (j 0) (j 1) (j 2)) L
    [⟨Rect.unit (s := S4x512x256) ![3, 0, 0] ![1, 512, 256] inb_S4x512x256_S1x512x256_3_0_0, P3⟩, ⟨Rect.unit (s := S4x512x256) ![2, 0, 0] ![1, 512, 256] inb_S4x512x256_S1x512x256_2_0_0, P2⟩, ⟨Rect.unit (s := S4x512x256) ![1, 0, 0] ![1, 512, 256] inb_S4x512x256_S1x512x256_1_0_0, P1⟩, ⟨Rect.unit (s := S4x512x256) ![0, 0, 0] ![1, 512, 256] inb_S4x512x256_S1x512x256_0_0_0, P0⟩]
    ⟨(fun x => by
      idx_vars x
      obtain rfl : x0 = 0 := Subsingleton.elim _ _
      refine (h3 x1 x2).trans (congrArg (fun j : S4x512x256.Idx => G (j 0) (j 1) (j 2)) (Eq.symm (?_ : _ = ix3 (3 : Fin 4) x1 x2))).symm.symm
      blk_ext [] <;> refine (Rect.idx_unit_val _ _ _ _ _).trans ?_ <;> simp),
    (fun x => by
      idx_vars x
      obtain rfl : x0 = 0 := Subsingleton.elim _ _
      refine (h2 x1 x2).trans (congrArg (fun j : S4x512x256.Idx => G (j 0) (j 1) (j 2)) (Eq.symm (?_ : _ = ix3 (2 : Fin 4) x1 x2))).symm.symm
      blk_ext [] <;> refine (Rect.idx_unit_val _ _ _ _ _).trans ?_ <;> simp),
    (fun x => by
      idx_vars x
      obtain rfl : x0 = 0 := Subsingleton.elim _ _
      refine (h1 x1 x2).trans (congrArg (fun j : S4x512x256.Idx => G (j 0) (j 1) (j 2)) (Eq.symm (?_ : _ = ix3 (1 : Fin 4) x1 x2))).symm.symm
      blk_ext [] <;> refine (Rect.idx_unit_val _ _ _ _ _).trans ?_ <;> simp),
    (fun x => by
      idx_vars x
      obtain rfl : x0 = 0 := Subsingleton.elim _ _
      refine (h0 x1 x2).trans (congrArg (fun j : S4x512x256.Idx => G (j 0) (j 1) (j 2)) (Eq.symm (?_ : _ = ix3 (0 : Fin 4) x1 x2))).symm.symm
      blk_ext [] <;> refine (Rect.idx_unit_val _ _ _ _ _).trans ?_ <;> simp), trivial⟩ (ix3 q r l) ?_
  exact View.cover_of_tiled_head _ _ _ (by rfl) _

/-- Every window's block index at every grid point. -/
theorem idx_val : ∀ t : Fin cfg0.N, win0_0.index t = ![t.val, 0]
    ∧ win0_1.index t = ![t.val, 0]
    ∧ win0_2.index t = ![0, 0, 0]
    ∧ win0_3.index t = ![0, 0, 0]
    ∧ win0_4.index t = ![t.val, 0]
    ∧ win0_5.index t = ![t.val, 0]
    ∧ win0_6.index t = ![t.val, 0]
    ∧ win0_7.index t = ![t.val, 0]
    ∧ win0_8.index t = ![0, 0, 0]
    ∧ win0_9.index t = ![0, 0, 0]
    ∧ t.val < 2 :=
  (by decide +kernel : ∀ t : Fin grid0.N, _)

/-- There are two grid points. -/
theorem lt_two (t : Fin cfg0.N) : t.val < 2 := (idx_val t).2.2.2.2.2.2.2.2.2.2

/-- What a point adds to block 0 of an accumulator. -/
theorem term_0 (y : FVec Ideal S1024x512 .bf16) (d : FVec Ideal S1024x1024 .bf16) (a : FVec Ideal S4x512x256 .f32) (r : Fin 512) (l : Fin 256) :
    term y (View.ld (Val := Elt Ideal) (S := S1024x1024) (e' := .bf16) d (Rect.unit ![0, 0] ![1024, 256] inb_S1024x1024_S1024x256_0_0))
        (View.ld (Val := Elt Ideal) (S := S4x512x256) (e' := .f32) a (Rect.unit ![0, 0, 0] ![1, 512, 256] inb_S4x512x256_S1x512x256_0_0_0)) r l
      = a (ix3 (0 : Fin 4) r l) + part d y 0 r l :=
  congrArg₂ (· + ·) (acut_0 a r l) (Finset.sum_congr rfl fun x _ => congrArg (fun e : EReal => e * y (ix2 x r)) (cut_0 d x l))

/-- What a point adds to block 1 of an accumulator. -/
theorem term_1 (y : FVec Ideal S1024x512 .bf16) (d : FVec Ideal S1024x1024 .bf16) (a : FVec Ideal S4x512x256 .f32) (r : Fin 512) (l : Fin 256) :
    term y (View.ld (Val := Elt Ideal) (S := S1024x1024) (e' := .bf16) d (Rect.unit ![0, 256] ![1024, 256] inb_S1024x1024_S1024x256_0_256))
        (View.ld (Val := Elt Ideal) (S := S4x512x256) (e' := .f32) a (Rect.unit ![1, 0, 0] ![1, 512, 256] inb_S4x512x256_S1x512x256_1_0_0)) r l
      = a (ix3 (1 : Fin 4) r l) + part d y 1 r l :=
  congrArg₂ (· + ·) (acut_1 a r l) (Finset.sum_congr rfl fun x _ => congrArg (fun e : EReal => e * y (ix2 x r)) (cut_1 d x l))

/-- What a point adds to block 2 of an accumulator. -/
theorem term_2 (y : FVec Ideal S1024x512 .bf16) (d : FVec Ideal S1024x1024 .bf16) (a : FVec Ideal S4x512x256 .f32) (r : Fin 512) (l : Fin 256) :
    term y (View.ld (Val := Elt Ideal) (S := S1024x1024) (e' := .bf16) d (Rect.unit ![0, 512] ![1024, 256] inb_S1024x1024_S1024x256_0_512))
        (View.ld (Val := Elt Ideal) (S := S4x512x256) (e' := .f32) a (Rect.unit ![2, 0, 0] ![1, 512, 256] inb_S4x512x256_S1x512x256_2_0_0)) r l
      = a (ix3 (2 : Fin 4) r l) + part d y 2 r l :=
  congrArg₂ (· + ·) (acut_2 a r l) (Finset.sum_congr rfl fun x _ => congrArg (fun e : EReal => e * y (ix2 x r)) (cut_2 d x l))

/-- What a point adds to block 3 of an accumulator. -/
theorem term_3 (y : FVec Ideal S1024x512 .bf16) (d : FVec Ideal S1024x1024 .bf16) (a : FVec Ideal S4x512x256 .f32) (r : Fin 512) (l : Fin 256) :
    term y (View.ld (Val := Elt Ideal) (S := S1024x1024) (e' := .bf16) d (Rect.unit ![0, 768] ![1024, 256] inb_S1024x1024_S1024x256_0_768))
        (View.ld (Val := Elt Ideal) (S := S4x512x256) (e' := .f32) a (Rect.unit ![3, 0, 0] ![1, 512, 256] inb_S4x512x256_S1x512x256_3_0_0)) r l
      = a (ix3 (3 : Fin 4) r l) + part d y 3 r l :=
  congrArg₂ (· + ·) (acut_3 a r l) (Finset.sum_congr rfl fun x _ => congrArg (fun e : EReal => e * y (ix2 x r)) (cut_3 d x l))

/-- The input's gradient at a point, over the point's blocks. -/
def prods (d : FVec Ideal S1024x1024 .bf16) (w : FVec Ideal S4x512x256 .bf16) (x : Fin 1024) (r : Fin 512) : EReal :=
  ∑ s : Fin 4, ∑ k : Fin 256, d (ix2 x (⟨s.val * 256 + k.val, by omega⟩ : Fin 1024)) * w (ix3 s r k)

/-- The four products over the point's blocks are one sum. -/
theorem prods_eq (d : FVec Ideal S1024x1024 .bf16) (w : FVec Ideal S4x512x256 .bf16) (a0 a1 a2 a3 : FVec Ideal S1024x256 .bf16)
    (w0 w1 w2 w3 : FVec Ideal S1x512x256 .bf16)
    (h0 : ∀ x k, a0 (ix2 x k) = d (ix2 x (⟨0 * 256 + k.val, by omega⟩ : Fin 1024))) (h1 : ∀ x k, a1 (ix2 x k) = d (ix2 x (⟨1 * 256 + k.val, by omega⟩ : Fin 1024)))
    (h2 : ∀ x k, a2 (ix2 x k) = d (ix2 x (⟨2 * 256 + k.val, by omega⟩ : Fin 1024))) (h3 : ∀ x k, a3 (ix2 x k) = d (ix2 x (⟨3 * 256 + k.val, by omega⟩ : Fin 1024)))
    (g0 : ∀ r k, w0 (ix3 (0 : Fin 1) r k) = w (ix3 (0 : Fin 4) r k)) (g1 : ∀ r k, w1 (ix3 (0 : Fin 1) r k) = w (ix3 (1 : Fin 4) r k))
    (g2 : ∀ r k, w2 (ix3 (0 : Fin 1) r k) = w (ix3 (2 : Fin 4) r k)) (g3 : ∀ r k, w3 (ix3 (0 : Fin 1) r k) = w (ix3 (3 : Fin 4) r k)) (x : Fin 1024) (r : Fin 512) :
    ((∑ k, a0 (ix2 x k) * w0 (ix3 (0 : Fin 1) r k) + ∑ k, a1 (ix2 x k) * w1 (ix3 (0 : Fin 1) r k))
        + ∑ k, a2 (ix2 x k) * w2 (ix3 (0 : Fin 1) r k)) + ∑ k, a3 (ix2 x k) * w3 (ix3 (0 : Fin 1) r k) = prods d w x r := by
  unfold prods
  rw [Fin.sum_univ_four]
  simp only [h0, h1, h2, h3, g0, g1, g2, g3]
  rfl

set_option maxHeartbeats 1600000 in
/-- The first branch's gradient, a point's rows. -/
theorem tile_0 (c : Dev nD) (t : Fin cfg0.N) (x : Fin 1024) (l : Fin 1024) :
    (iblk m c 0 t : FVec Ideal S1024x1024 .bf16) (ix2 x l) = (m ((c : Thread nD τ).loc main_arg0) : FVec Ideal S2048x1024 .bf16)
      (ix2 (⟨t.val * 1024 + x.val, by have := lt_two t; omega⟩ : Fin 2048) l) := by
  have := lt_two t
  blk_point [iblk, V, idx_val t]

set_option maxHeartbeats 1600000 in
/-- The second branch's gradient, a point's rows. -/
theorem tile_1 (c : Dev nD) (t : Fin cfg0.N) (x : Fin 1024) (l : Fin 1024) :
    (iblk m c 1 t : FVec Ideal S1024x1024 .bf16) (ix2 x l) = (m ((c : Thread nD τ).loc main_arg1) : FVec Ideal S2048x1024 .bf16)
      (ix2 (⟨t.val * 1024 + x.val, by have := lt_two t; omega⟩ : Fin 2048) l) := by
  have := lt_two t
  blk_point [iblk, V, idx_val t]

set_option maxHeartbeats 1600000 in
/-- The first branch's input, a point's rows. -/
theorem tile_4 (c : Dev nD) (t : Fin cfg0.N) (x : Fin 1024) (l : Fin 512) :
    (iblk m c 4 t : FVec Ideal S1024x512 .bf16) (ix2 x l) = (m ((c : Thread nD τ).loc main_arg4) : FVec Ideal S2048x512 .bf16)
      (ix2 (⟨t.val * 1024 + x.val, by have := lt_two t; omega⟩ : Fin 2048) l) := by
  have := lt_two t
  blk_point [iblk, V, idx_val t]

set_option maxHeartbeats 1600000 in
/-- The second branch's input, a point's rows. -/
theorem tile_5 (c : Dev nD) (t : Fin cfg0.N) (x : Fin 1024) (l : Fin 512) :
    (iblk m c 5 t : FVec Ideal S1024x512 .bf16) (ix2 x l) = (m ((c : Thread nD τ).loc main_arg5) : FVec Ideal S2048x512 .bf16)
      (ix2 (⟨t.val * 1024 + x.val, by have := lt_two t; omega⟩ : Fin 2048) l) := by
  have := lt_two t
  blk_point [iblk, V, idx_val t]

set_option maxHeartbeats 1600000 in
/-- The first branch's weights, in four blocks of 256 columns. -/
theorem tile_2 (c : Dev nD) (t : Fin cfg0.N) (q : Fin 4) (r : Fin 512) (l : Fin 256) :
    (iblk m c 2 t : FVec Ideal S4x512x256 .bf16) (ix3 q r l) = (m ((c : Thread nD τ).loc main_arg2) : FVec Ideal S512x1024 .bf16)
      (ix2 r (⟨q.val * 256 + l.val, by omega⟩ : Fin 1024)) := by
  blk_point [iblk, V, idx_val t]

set_option maxHeartbeats 1600000 in
/-- The second branch's weights, in four blocks of 256 columns. -/
theorem tile_3 (c : Dev nD) (t : Fin cfg0.N) (q : Fin 4) (r : Fin 512) (l : Fin 256) :
    (iblk m c 3 t : FVec Ideal S4x512x256 .bf16) (ix3 q r l) = (m ((c : Thread nD τ).loc main_arg3) : FVec Ideal S512x1024 .bf16)
      (ix2 r (⟨q.val * 256 + l.val, by omega⟩ : Fin 1024)) := by
  blk_point [iblk, V, idx_val t]

/-- After the first point the first accumulator holds that point's products. -/
theorem acc_h (c : Dev nD) (t : Fin cfg0.N) (ht : t.val % 2 = 0) (q : Fin 4) (r : Fin 512) (l : Fin 256) :
    (outsAt0 m c t.val t.isLt).2.2.2.2.1 (ix3 q r l) = part (iblk m c 0 t) (iblk m c 4 t) q r l := by
  rw [outsAt0_A m c t ht (by omega)]
  frame_open
  simp (disch := decide) only [↓ View.readCov_skip, ↓ View.readCov_fill]
  frame_out
  exact blocks_at _ _ _ _ [_] (part (iblk m c 0 t) (iblk m c 4 t))
    (fun r l => (pay5_at _ _ _ r l).trans ((term_0 _ _ _ r l).trans ((congrArg (fun e : EReal => e + part (iblk m c 0 t) (iblk m c 4 t) 0 r l) (zero_h _)).trans (zero_add _))))
    (fun r l => (pay8_at _ _ _ r l).trans ((term_1 _ _ _ r l).trans ((congrArg (fun e : EReal => e + part (iblk m c 0 t) (iblk m c 4 t) 1 r l) (zero_h _)).trans (zero_add _))))
    (fun r l => (pay9_at _ _ _ r l).trans ((term_2 _ _ _ r l).trans ((congrArg (fun e : EReal => e + part (iblk m c 0 t) (iblk m c 4 t) 2 r l) (zero_h _)).trans (zero_add _))))
    (fun r l => (pay11_at _ _ _ r l).trans ((term_3 _ _ _ r l).trans ((congrArg (fun e : EReal => e + part (iblk m c 0 t) (iblk m c 4 t) 3 r l) (zero_h _)).trans (zero_add _)))) q r l

/-- The gradient of the first branch's weights, written at the last point. -/
theorem out_h (c : Dev nD) (t : Fin cfg0.N) (ht : t.val % 2 = 1) (q : Fin 4) (r : Fin 512) (l : Fin 256) :
    (outsAt0 m c t.val t.isLt).2.2.1 (ix3 q r l)
      = (outsAt0 m c (t.val - 1) (Nat.lt_of_le_of_lt (Nat.sub_le _ _) t.isLt)).2.2.2.2.1 (ix3 q r l) + part (iblk m c 0 t) (iblk m c 4 t) q r l := by
  rw [outsAt0_B m c t (by omega) ht]
  frame_open
  simp (disch := decide) only [↓ View.readCov_skip, ↓ View.readCov_fill]
  frame_out
  simp only [Idealize.ShloMosaic.read_unread_whole]
  rw [store_h, View.readCov_eq_canon']
  have he : (Rect.unit (s := S4x512x256) ![0, 0, 0] ![4, 512, 256] inb_S4x512x256_S4x512x256_0_0_0).toLoadRect.idx (ix3 q r l) = ix3 q r l := by
    blk_ext [] <;> refine (Rect.idx_unit_val _ _ _ _ _).trans ?_ <;> simp
  refine (congrArg _ he).trans ?_
  exact blocks_at _ _ _ _ [] (fun q r l => (outsAt0 m c (t.val - 1) (Nat.lt_of_le_of_lt (Nat.sub_le _ _) t.isLt)).2.2.2.2.1 (ix3 q r l) + part (iblk m c 0 t) (iblk m c 4 t) q r l)
    (fun r l => (pay5_at _ _ _ r l).trans (term_0 _ _ _ r l))
    (fun r l => (pay8_at _ _ _ r l).trans (term_1 _ _ _ r l))
    (fun r l => (pay9_at _ _ _ r l).trans (term_2 _ _ _ r l))
    (fun r l => (pay11_at _ _ _ r l).trans (term_3 _ _ _ r l)) q r l

/-- The gradient of the first branch's input, written at a point. -/
theorem dy_h (c : Dev nD) (t : Fin cfg0.N) (x : Fin 1024) (r : Fin 512) :
    (outsAt0 m c t.val t.isLt).1 (ix2 x r) = prods (iblk m c 0 t) (iblk m c 2 t) x r := by
  by_cases ht : t.val % 2 = 0
  · rw [outsAt0_A m c t ht (by omega)]
    frame_out
    exact (pay12_at _ _ _ _ _ _ _ _ x r).trans (prods_eq _ _ _ _ _ _ _ _ _ _
      (cut_0 _) (cut_1 _) (cut_2 _) (cut_3 _) (wcut_0 _) (wcut_1 _) (wcut_2 _) (wcut_3 _) x r)
  · rw [outsAt0_B m c t ht (by omega)]
    frame_out
    exact (pay12_at _ _ _ _ _ _ _ _ x r).trans (prods_eq _ _ _ _ _ _ _ _ _ _
      (cut_0 _) (cut_1 _) (cut_2 _) (cut_3 _) (wcut_0 _) (wcut_1 _) (wcut_2 _) (wcut_3 _) x r)

/-- The gradient of the first branch's input after the run. -/
theorem final_6 (c : Dev nD) : (dats m 0 c).arrAt 6 (cfgs 0).N
    = refY (m ((c : Thread nD τ).loc main_arg0)) (m ((c : Thread nD τ).loc main_arg2)) := by
  refine (dats m 0 c).arrAt_eq_of_covers 6 _ (by decide +kernel) fun t hf y => ?_
  have hlt := lt_two t
  blk_simp; rw [after0_6]
  idx_vars y
  have he : ((cfg0.win 6).blk t).view.emb (ix2 y0 y1)
      = ix2 (⟨t.val * 1024 + y0.val, by omega⟩ : Fin 2048) y1 := by
    blk_ext [idx_val t]
  refine (dy_h m c t y0 y1).trans (Eq.trans ?_ (Eq.trans (refY_at _ _ _ _).symm (congrArg _ he.symm)))
  unfold prods
  exact Finset.sum_congr rfl fun s _ => Finset.sum_congr rfl fun k _ =>
    congrArg₂ (fun x y : EReal => x * y) (tile_0 m c t y0 _) (tile_2 m c t s y1 k)

/-- The gradient of the first branch's weights after the run. -/
theorem final_8 (c : Dev nD) : (dats m 0 c).arrAt 8 (cfgs 0).N
    = refW (m ((c : Thread nD τ).loc main_arg0)) (m ((c : Thread nD τ).loc main_arg4)) := by
  refine (dats m 0 c).arrAt_eq_of_covers 8 _ (by decide +kernel) fun t hf y => ?_
  have hlt := lt_two t
  have ht := (flush0_8 t).mp hf
  have h1 : t.val = 1 := by omega
  blk_simp; rw [after0_8]
  idx_vars y
  have he : ((cfg0.win 8).blk t).view.emb (ix3 y0 y1 y2) = ix3 y0 y1 y2 := by
    blk_ext [idx_val t]
  refine (out_h m c t ht y0 y1 y2).trans (Eq.trans ?_ (Eq.trans (refW_at _ _ _ _ _).symm (congrArg _ he.symm)))
  rw [Fin.sum_univ_two]
  let p : Fin cfg0.N := ⟨t.val - 1, Nat.lt_of_le_of_lt (Nat.sub_le _ _) t.isLt⟩
  have hp : p.val = 0 := by show t.val - 1 = 0; omega
  refine congrArg₂ (· + ·) ((acc_h m c p (by omega) y0 y1 y2).trans ?_) ?_
  · unfold part
    refine Finset.sum_congr rfl fun x _ => (congrArg₂ (fun x y : EReal => x * y) (tile_0 m c p x _) (tile_4 m c p x y1)).trans ?_
    refine congrArg₂ (fun x y : EReal => x * y) (congrArg _ (congrArg₂ ix2 (Fin.ext ?_) rfl)) (congrArg _ (congrArg₂ ix2 (Fin.ext ?_) rfl))
    all_goals (show p.val * 1024 + x.val = 0 * 1024 + x.val; rw [hp])
  · unfold part
    refine Finset.sum_congr rfl fun x _ => (congrArg₂ (fun x y : EReal => x * y) (tile_0 m c t x _) (tile_4 m c t x y1)).trans ?_
    refine congrArg₂ (fun x y : EReal => x * y) (congrArg _ (congrArg₂ ix2 (Fin.ext ?_) rfl)) (congrArg _ (congrArg₂ ix2 (Fin.ext ?_) rfl))
    all_goals (show t.val * 1024 + x.val = 1 * 1024 + x.val; rw [h1])

/-- After the first point the second accumulator holds that point's products. -/
theorem acc_a (c : Dev nD) (t : Fin cfg0.N) (ht : t.val % 2 = 0) (q : Fin 4) (r : Fin 512) (l : Fin 256) :
    (outsAt0 m c t.val t.isLt).2.2.2.2.2 (ix3 q r l) = part (iblk m c 1 t) (iblk m c 5 t) q r l := by
  rw [outsAt0_A m c t ht (by omega)]
  frame_open
  simp (disch := decide) only [↓ View.readCov_skip, ↓ View.readCov_fill]
  frame_out
  exact blocks_at _ _ _ _ [_] (part (iblk m c 1 t) (iblk m c 5 t))
    (fun r l => (pay13_at _ _ _ r l).trans ((term_0 _ _ _ r l).trans ((congrArg (fun e : EReal => e + part (iblk m c 1 t) (iblk m c 5 t) 0 r l) (zero_a _)).trans (zero_add _))))
    (fun r l => (pay15_at _ _ _ r l).trans ((term_1 _ _ _ r l).trans ((congrArg (fun e : EReal => e + part (iblk m c 1 t) (iblk m c 5 t) 1 r l) (zero_a _)).trans (zero_add _))))
    (fun r l => (pay16_at _ _ _ r l).trans ((term_2 _ _ _ r l).trans ((congrArg (fun e : EReal => e + part (iblk m c 1 t) (iblk m c 5 t) 2 r l) (zero_a _)).trans (zero_add _))))
    (fun r l => (pay17_at _ _ _ r l).trans ((term_3 _ _ _ r l).trans ((congrArg (fun e : EReal => e + part (iblk m c 1 t) (iblk m c 5 t) 3 r l) (zero_a _)).trans (zero_add _)))) q r l

/-- The gradient of the second branch's weights, written at the last point. -/
theorem out_a (c : Dev nD) (t : Fin cfg0.N) (ht : t.val % 2 = 1) (q : Fin 4) (r : Fin 512) (l : Fin 256) :
    (outsAt0 m c t.val t.isLt).2.2.2.1 (ix3 q r l)
      = (outsAt0 m c (t.val - 1) (Nat.lt_of_le_of_lt (Nat.sub_le _ _) t.isLt)).2.2.2.2.2 (ix3 q r l) + part (iblk m c 1 t) (iblk m c 5 t) q r l := by
  rw [outsAt0_B m c t (by omega) ht]
  frame_open
  simp (disch := decide) only [↓ View.readCov_skip, ↓ View.readCov_fill]
  frame_out
  simp only [Idealize.ShloMosaic.read_unread_whole]
  rw [store_a, View.readCov_eq_canon']
  have he : (Rect.unit (s := S4x512x256) ![0, 0, 0] ![4, 512, 256] inb_S4x512x256_S4x512x256_0_0_0).toLoadRect.idx (ix3 q r l) = ix3 q r l := by
    blk_ext [] <;> refine (Rect.idx_unit_val _ _ _ _ _).trans ?_ <;> simp
  refine (congrArg _ he).trans ?_
  exact blocks_at _ _ _ _ [] (fun q r l => (outsAt0 m c (t.val - 1) (Nat.lt_of_le_of_lt (Nat.sub_le _ _) t.isLt)).2.2.2.2.2 (ix3 q r l) + part (iblk m c 1 t) (iblk m c 5 t) q r l)
    (fun r l => (pay13_at _ _ _ r l).trans (term_0 _ _ _ r l))
    (fun r l => (pay15_at _ _ _ r l).trans (term_1 _ _ _ r l))
    (fun r l => (pay16_at _ _ _ r l).trans (term_2 _ _ _ r l))
    (fun r l => (pay17_at _ _ _ r l).trans (term_3 _ _ _ r l)) q r l

/-- The gradient of the second branch's input, written at a point. -/
theorem dy_a (c : Dev nD) (t : Fin cfg0.N) (x : Fin 1024) (r : Fin 512) :
    (outsAt0 m c t.val t.isLt).2.1 (ix2 x r) = prods (iblk m c 1 t) (iblk m c 3 t) x r := by
  by_cases ht : t.val % 2 = 0
  · rw [outsAt0_A m c t ht (by omega)]
    frame_out
    exact (pay18_at _ _ _ _ _ _ _ _ x r).trans (prods_eq _ _ _ _ _ _ _ _ _ _
      (cut_0 _) (cut_1 _) (cut_2 _) (cut_3 _) (wcut_0 _) (wcut_1 _) (wcut_2 _) (wcut_3 _) x r)
  · rw [outsAt0_B m c t ht (by omega)]
    frame_out
    exact (pay18_at _ _ _ _ _ _ _ _ x r).trans (prods_eq _ _ _ _ _ _ _ _ _ _
      (cut_0 _) (cut_1 _) (cut_2 _) (cut_3 _) (wcut_0 _) (wcut_1 _) (wcut_2 _) (wcut_3 _) x r)

/-- The gradient of the second branch's input after the run. -/
theorem final_7 (c : Dev nD) : (dats m 0 c).arrAt 7 (cfgs 0).N
    = refY (m ((c : Thread nD τ).loc main_arg1)) (m ((c : Thread nD τ).loc main_arg3)) := by
  refine (dats m 0 c).arrAt_eq_of_covers 7 _ (by decide +kernel) fun t hf y => ?_
  have hlt := lt_two t
  blk_simp; rw [after0_7]
  idx_vars y
  have he : ((cfg0.win 7).blk t).view.emb (ix2 y0 y1)
      = ix2 (⟨t.val * 1024 + y0.val, by omega⟩ : Fin 2048) y1 := by
    blk_ext [idx_val t]
  refine (dy_a m c t y0 y1).trans (Eq.trans ?_ (Eq.trans (refY_at _ _ _ _).symm (congrArg _ he.symm)))
  unfold prods
  exact Finset.sum_congr rfl fun s _ => Finset.sum_congr rfl fun k _ =>
    congrArg₂ (fun x y : EReal => x * y) (tile_1 m c t y0 _) (tile_3 m c t s y1 k)

/-- The gradient of the second branch's weights after the run. -/
theorem final_9 (c : Dev nD) : (dats m 0 c).arrAt 9 (cfgs 0).N
    = refW (m ((c : Thread nD τ).loc main_arg1)) (m ((c : Thread nD τ).loc main_arg5)) := by
  refine (dats m 0 c).arrAt_eq_of_covers 9 _ (by decide +kernel) fun t hf y => ?_
  have hlt := lt_two t
  have ht := (flush0_9 t).mp hf
  have h1 : t.val = 1 := by omega
  blk_simp; rw [after0_9]
  idx_vars y
  have he : ((cfg0.win 9).blk t).view.emb (ix3 y0 y1 y2) = ix3 y0 y1 y2 := by
    blk_ext [idx_val t]
  refine (out_a m c t ht y0 y1 y2).trans (Eq.trans ?_ (Eq.trans (refW_at _ _ _ _ _).symm (congrArg _ he.symm)))
  rw [Fin.sum_univ_two]
  let p : Fin cfg0.N := ⟨t.val - 1, Nat.lt_of_le_of_lt (Nat.sub_le _ _) t.isLt⟩
  have hp : p.val = 0 := by show t.val - 1 = 0; omega
  refine congrArg₂ (· + ·) ((acc_a m c p (by omega) y0 y1 y2).trans ?_) ?_
  · unfold part
    refine Finset.sum_congr rfl fun x _ => (congrArg₂ (fun x y : EReal => x * y) (tile_1 m c p x _) (tile_5 m c p x y1)).trans ?_
    refine congrArg₂ (fun x y : EReal => x * y) (congrArg _ (congrArg₂ ix2 (Fin.ext ?_) rfl)) (congrArg _ (congrArg₂ ix2 (Fin.ext ?_) rfl))
    all_goals (show p.val * 1024 + x.val = 0 * 1024 + x.val; rw [hp])
  · unfold part
    refine Finset.sum_congr rfl fun x _ => (congrArg₂ (fun x y : EReal => x * y) (tile_1 m c t x _) (tile_5 m c t x y1)).trans ?_
    refine congrArg₂ (fun x y : EReal => x * y) (congrArg _ (congrArg₂ ix2 (Fin.ext ?_) rfl)) (congrArg _ (congrArg₂ ix2 (Fin.ext ?_) rfl))
    all_goals (show t.val * 1024 + x.val = 1 * 1024 + x.val; rw [h1])

end Kernel

/-- The kernel's results are the reference's. -/
theorem algebraic : Cert.algebraic_Kernel10Ideal_Reference10Ideal
    (hKernel10Ideal := Cert.Kernel10Ideal.Gen.facts) (hReference10Ideal := Cert.Reference10Ideal.Gen.facts) := by
  pair_intro
  · run_from Cert.Kernel10Ideal.Value.run_blocks m g
  · run_from Cert.Reference10Ideal.Value.run m' g'
    · exact (final_6 m c).symm
    · exact (final_7 m c).symm
    · exact (final_8 m c).symm
    · exact (final_9 m c).symm

/-- The reference's program runs and leaves its arguments and every semaphore as they were. -/
theorem frame_reference : Cert.quiescent_Reference10Ideal (hReference10Ideal := Cert.Reference10Ideal.Gen.facts) :=
  fun m ρ _ => (θ_run Cert.Reference10Ideal.defs _ _).mono (fun r h => ⟨fun c => (h c).2.2.2.2,
      sem_eq_zero_of_no_sems (by decide) r.2⟩) (Cert.Reference10Ideal.Value.run (F := Ideal) m ρ)

end Cert.BranchBwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.AttnFrameBits
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.AttnFrameIdeal
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite2
public import proofs.«01_k».proof.Proof.AttnValueIdeal
public import proofs.«01_k».proof.Proof.AttnClaim
public import proofs.«01_k».proof.Proof.Gen.ReferenceIdeal.Run
public import proofs.«01_k».proof.Proof.Gen.Kernel2Ideal.Value
public import proofs.«01_k».proof.Proof.Gen.Reference2Ideal.Run
public import proofs.«01_k».proof.Proof.FfnDzClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.FfnGdn
public import proofs.«01_k».proof.Proof.FfnDh2
public import proofs.«01_k».proof.Proof.FfnGgu
public import proofs.«01_k».proof.Proof.FfnUp
public import proofs.«01_k».proof.Proof.MmGin
public import proofs.«01_k».proof.Proof.MmDh
public import proofs.«01_k».proof.Proof.MmIn
public import proofs.«01_k».proof.Proof.BranchBwd
public import Idealize.ShloMosaic.Adequacy
public import Idealize.ShloMosaic.Init

@[expose] public section

noncomputable section

-- The claims about every program also say that every semaphore counter ends at zero; the proof shows that too.

namespace Cert.Proof

open Idealize.ShloMosaic Idealize.SL.Sem Cert.Kernel

/-- The attention gradient's one named constant: the mask value is minus infinity at the ideal reading. -/
theorem mask_named : Cert.preserves_Kernel_KernelIdeal :=
  IdealRules.named_const.statement Cert.KernelIdeal.κ "mask" .f32 0xF149F2CA#32 ⊥ rfl

/-- The attention reference runs and leaves its arguments and every semaphore as they were. -/
theorem frame_attention_reference : Cert.quiescent_ReferenceIdeal (hReferenceIdeal := Cert.ReferenceIdeal.Gen.facts) :=
  fun m ρ _ => (θ_run Cert.ReferenceIdeal.defs _ _).mono (fun r h => ⟨fun c => (h c).2.2.2.2.2.2,
      sem_eq_zero_of_no_sems (by decide) r.2⟩) (Cert.ReferenceIdeal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Attn.Pre.facts, Cert.Pre_finite2.Gen.facts,
  fun m ρ _ => Cert.Kernel.Gen.frame m ρ,
  fun m ρ _ => Cert.KernelIdeal.Gen.frame m ρ,
  fun m ρ _ => Cert.KernelIdeal.Gen.frame m ρ,
  frame_attention_reference,
  fun m ρ _ => frame_attention_reference m ρ trivial,
  fun m ρ _ => Cert.Kernel2.Gen.frame m ρ,
  fun m ρ _ => Cert.Kernel2Ideal.Gen.frame m ρ,
  fun m ρ _ => Cert.Kernel2Ideal.Gen.frame m ρ,
  Cert.FfnDz.frame_reference,
  fun m ρ _ => Cert.FfnDz.frame_reference m ρ trivial,
  fun m ρ _ => Cert.Kernel3.Gen.frame m ρ,
  fun m ρ _ => Cert.Kernel3Ideal.Gen.frame m ρ,
  Cert.FfnGdn.frame_reference,
  fun m ρ _ => Cert.Kernel4.Gen.frame m ρ,
  fun m ρ _ => Cert.Kernel4Ideal.Gen.frame m ρ,
  Cert.FfnDh2.frame_reference,
  fun m ρ _ => Cert.Kernel5.Gen.frame m ρ,
  fun m ρ _ => Cert.Kernel5Ideal.Gen.frame m ρ,
  Cert.FfnGgu.frame_reference,
  fun m ρ _ => Cert.Kernel6.Gen.frame m ρ,
  fun m ρ _ => Cert.Kernel6Ideal.Gen.frame m ρ,
  Cert.FfnUp.frame_reference,
  fun m ρ _ => Cert.Kernel7.Gen.frame m ρ,
  fun m ρ _ => Cert.Kernel7Ideal.Gen.frame m ρ,
  Cert.MmGin.frame_reference,
  fun m ρ _ => Cert.Kernel8.Gen.frame m ρ,
  fun m ρ _ => Cert.Kernel8Ideal.Gen.frame m ρ,
  Cert.MmDh.frame_reference,
  fun m ρ _ => Cert.Kernel9.Gen.frame m ρ,
  fun m ρ _ => Cert.Kernel9Ideal.Gen.frame m ρ,
  Cert.MmIn.frame_reference,
  fun m ρ _ => Cert.Kernel10.Gen.frame m ρ,
  fun m ρ _ => Cert.Kernel10Ideal.Gen.frame m ρ,
  Cert.BranchBwd.frame_reference,
  mask_named,
  Cert.Attn.algebraic,
  trivial,
  Cert.FfnDz.algebraic,
  trivial,
  Cert.FfnGdn.algebraic,
  trivial,
  Cert.FfnDh2.algebraic,
  trivial,
  Cert.FfnGgu.algebraic,
  trivial,
  Cert.FfnUp.algebraic,
  trivial,
  Cert.MmGin.algebraic,
  trivial,
  Cert.MmDh.algebraic,
  trivial,
  Cert.MmIn.algebraic,
  trivial,
  Cert.BranchBwd.algebraic⟩

end Cert.Proof

end
